-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 4096]⟩ ⟨3, ![4, 4096, 4096]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x4096 : Shape := ⟨3, ![1, 4096, 4096]⟩
abbrev S4096x4096 : Shape := ⟨2, ![4096, 4096]⟩
abbrev S4096 : Shape := ⟨1, ![4096]⟩
abbrev S1x4096 : Shape := ⟨2, ![1, 4096]⟩
abbrev S2x256x4096 : Shape := ⟨3, ![2, 256, 4096]⟩
abbrev S2x2x256x4096 : Shape := ⟨4, ![2, 2, 256, 4096]⟩
abbrev S2x6 : Shape := ⟨2, ![2, 6]⟩
abbrev S4 : Shape := ⟨1, ![4]⟩
abbrev S2x2 : Shape := ⟨2, ![2, 2]⟩
abbrev S2 : Shape := ⟨1, ![2]⟩
abbrev S_ : Shape := ⟨0, ![]⟩
abbrev S1 : Shape := ⟨1, ![1]⟩
abbrev S1x256x4096 : Shape := ⟨3, ![1, 256, 4096]⟩
abbrev S256x4096 : Shape := ⟨2, ![256, 4096]⟩
abbrev S1x1 : Shape := ⟨2, ![1, 1]⟩
abbrev S1x1x256x4096 : Shape := ⟨4, ![1, 1, 256, 4096]⟩
abbrev S1x1x128x4096 : Shape := ⟨4, ![1, 1, 128, 4096]⟩
abbrev S128x4096 : Shape := ⟨2, ![128, 4096]⟩
abbrev S1x128x4096 : Shape := ⟨3, ![1, 128, 4096]⟩
abbrev S128 : Shape := ⟨1, ![128]⟩
abbrev S128x1 : Shape := ⟨2, ![128, 1]⟩

abbrev nBuf : Space → Nat
  | .hbm => 5
  | .vmem => 5
  | .smem => 0
  | _ => 0

abbrev bufTy : (tb : Table) → Fin (tcTables nBuf tb) → BufTy
  | .hbm, ⟨0, _⟩ => ⟨S1x4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S1x4096, .f32⟩
  | .local _ .vmem, ⟨1, _⟩ => ⟨S2x256x4096, .f32⟩
  | .local _ .vmem, ⟨2, _⟩ => ⟨S2x256x4096, .f32⟩
  | .local _ .vmem, ⟨3, _⟩ => ⟨S2x2x256x4096, .f32⟩
  | .local _ .vmem, ⟨4, _⟩ => ⟨S2x2x256x4096, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 3 → Bool
  | ⟨0, _⟩ => true
  | ⟨1, _⟩ => true
  | ⟨2, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 3 33 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 2

abbrev nD : Nat := 32
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_16 : BitVec 32 := 16#32
  let v32 : BitVec 32 := Scalar.muli v2 c16_i32_16
  let v33 : BitVec 32 := Scalar.addi c0_i32_17 v32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_18 : BitVec 32 := 4#32
  let v34 : BitVec 32 := Scalar.muli v5 c4_i32_18
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_19 : BitVec 32 := 1#32
  let v36 : BitVec 32 := Scalar.muli v30 c1_i32_19
  let v37 : BitVec 32 := Scalar.addi v35 v36
  v37.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_24 : BitVec 32 := 1#32
  let v42 : BitVec 32 := Scalar.muli v19 c1_i32_24
  let v43 : BitVec 32 := Scalar.addi v41 v42
  v43.toNat
def k0_off1 (d0 : Dev nD) (c0_i32_47 : BitVec 32) (c0_i32_40 : BitVec 32) : Fin 3 → Nat :=
  let c0_i32_49 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v66 : BitVec 32 := Scalar.subi v8 c0_i32_40
  let c4_i32_41 : BitVec 32 := 4#32
  let c0_i32_42 : BitVec 32 := 0#32
  let v67 : BitVec 1 := Scalar.cmpi .eq c4_i32_41 c0_i32_42
  let c1_i32_43 : BitVec 32 := 1#32
  let v68 : BitVec 32 := Scalar.select v67 c1_i32_43 c4_i32_41
  let v69 : BitVec 32 := Scalar.remsi v66 v68
  let c0_i32_45 : BitVec 32 := 0#32
  let v71 : BitVec 1 := Scalar.cmpi .slt v69 c0_i32_45
  let c0_i32_46 : BitVec 32 := 0#32
  let v72 : BitVec 1 := Scalar.cmpi .slt v68 c0_i32_46
  let v73 : BitVec 1 := Scalar.xori v71 v72
  let c0_i32_44 : BitVec 32 := 0#32
  let v70 : BitVec 1 := Scalar.cmpi .ne v69 c0_i32_44
  let v74 : BitVec 1 := Scalar.andi v73 v70
  let v75 : BitVec 32 := Scalar.addi v69 v68
  let v76 : BitVec 32 := Scalar.select v74 v75 v69
  let c512_i32 : BitVec 32 := 512#32
  let v77 : BitVec 32 := Scalar.muli v76 c512_i32
  let v78 : BitVec 32 := Scalar.addi c0_i32_47 v77
  let c0_i32_48 : BitVec 32 := 0#32
  let v79 : BitVec 32 := Scalar.addi v78 c0_i32_48
  let c0_i32_54 : BitVec 32 := 0#32
  ![0, v79.toNat, 0]
def k0_off2 (d0 : Dev nD) (c0_i32_79 : BitVec 32) (c0_i32_71 : BitVec 32) : Fin 3 → Nat :=
  let c0_i32_80 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v106 : BitVec 32 := Scalar.addi v8 c0_i32_71
  let c4_i32_72 : BitVec 32 := 4#32
  let c0_i32_73 : BitVec 32 := 0#32
  let v107 : BitVec 1 := Scalar.cmpi .eq c4_i32_72 c0_i32_73
  let c1_i32_74 : BitVec 32 := 1#32
  let v108 : BitVec 32 := Scalar.select v107 c1_i32_74 c4_i32_72
  let v109 : BitVec 32 := Scalar.remsi v106 v108
  let c0_i32_76 : BitVec 32 := 0#32
  let v111 : BitVec 1 := Scalar.cmpi .slt v109 c0_i32_76
  let c0_i32_77 : BitVec 32 := 0#32
  let v112 : BitVec 1 := Scalar.cmpi .slt v108 c0_i32_77
  let v113 : BitVec 1 := Scalar.xori v111 v112
  let c0_i32_75 : BitVec 32 := 0#32
  let v110 : BitVec 1 := Scalar.cmpi .ne v109 c0_i32_75
  let v114 : BitVec 1 := Scalar.andi v113 v110
  let v115 : BitVec 32 := Scalar.addi v109 v108
  let v116 : BitVec 32 := Scalar.select v114 v115 v109
  let c512_i32_78 : BitVec 32 := 512#32
  let v117 : BitVec 32 := Scalar.muli v116 c512_i32_78
  let v118 : BitVec 32 := Scalar.addi c0_i32_79 v117
  let c256_i32 : BitVec 32 := 256#32
  let v119 : BitVec 32 := Scalar.addi v118 c256_i32
  let c0_i32_85 : BitVec 32 := 0#32
  ![0, v119.toNat, 0]
def k0_dev3 (d0 : Dev nD) : Nat :=
  let c0_i32_133 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_132 : BitVec 32 := 16#32
  let v170 : BitVec 32 := Scalar.muli v2 c16_i32_132
  let v171 : BitVec 32 := Scalar.addi c0_i32_133 v170
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_134 : BitVec 32 := 4#32
  let v172 : BitVec 32 := Scalar.muli v5 c4_i32_134
  let v173 : BitVec 32 := Scalar.addi v171 v172
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_135 : BitVec 32 := 1#32
  let v174 : BitVec 32 := Scalar.muli v19 c1_i32_135
  let v175 : BitVec 32 := Scalar.addi v173 v174
  v175.toNat
def k0_dev4 (d0 : Dev nD) : Nat :=
  let c0_i32_148 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_147 : BitVec 32 := 16#32
  let v184 : BitVec 32 := Scalar.muli v2 c16_i32_147
  let v185 : BitVec 32 := Scalar.addi c0_i32_148 v184
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_149 : BitVec 32 := 4#32
  let v186 : BitVec 32 := Scalar.muli v5 c4_i32_149
  let v187 : BitVec 32 := Scalar.addi v185 v186
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_150 : BitVec 32 := 1#32
  let v188 : BitVec 32 := Scalar.muli v30 c1_i32_150
  let v189 : BitVec 32 := Scalar.addi v187 v188
  v189.toNat
@[reducible] def k0_t1_loop : Scf.Loop 32 :=
  let c0_i32_182 : BitVec 32 := 0#32
  let c2_i32_183 : BitVec 32 := 2#32
  let v216 : BitVec 32 := Scalar.addi c0_i32_182 c2_i32_183
  let c1_i32_184 : BitVec 32 := 1#32
  ⟨c0_i32_182, v216, c1_i32_184⟩
def k0_off3 (k0_t1 : Fin k0_t1_loop.trips) : Fin 4 → Nat :=
  let c0 : Index := 0#32
  let c0_1947 : Index := 0#32
  let c0_i32_182 : BitVec 32 := 0#32
  let c1_i32_184 : BitVec 32 := 1#32
  let arg13 : BitVec 32 := Scf.iv c0_i32_182 c1_i32_184 k0_t1
  let c128_i32 : BitVec 32 := 128#32
  let v1738 : BitVec 32 := Scalar.muli arg13 c128_i32
  let v1739 : Index := Scalar.indexCast v1738
  let c0_1948 : Index := 0#32
  ![0, 0, v1739.toNat, 0]
def k0_off4 (k0_t1 : Fin k0_t1_loop.trips) : Fin 3 → Nat :=
  let c0_1949 : Index := 0#32
  let c0_i32_182 : BitVec 32 := 0#32
  let c1_i32_184 : BitVec 32 := 1#32
  let arg13 : BitVec 32 := Scf.iv c0_i32_182 c1_i32_184 k0_t1
  let c128_i32 : BitVec 32 := 128#32
  let v1738 : BitVec 32 := Scalar.muli arg13 c128_i32
  let v1742 : Index := Scalar.indexCast v1738
  let c0_1950 : Index := 0#32
  ![0, v1742.toNat, 0]
def k0_dev5 (d0 : Dev nD) : Nat :=
  let c0_i32_189 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_188 : BitVec 32 := 16#32
  let v219 : BitVec 32 := Scalar.muli v2 c16_i32_188
  let v220 : BitVec 32 := Scalar.addi c0_i32_189 v219
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_190 : BitVec 32 := 4#32
  let v221 : BitVec 32 := Scalar.muli v5 c4_i32_190
  let v222 : BitVec 32 := Scalar.addi v220 v221
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_191 : BitVec 32 := 1#32
  let v223 : BitVec 32 := Scalar.muli v30 c1_i32_191
  let v224 : BitVec 32 := Scalar.addi v222 v223
  v224.toNat
@[reducible] def k0_t2_loop : Scf.Loop 32 :=
  let c0_i32_235 : BitVec 32 := 0#32
  let c2_i32_236 : BitVec 32 := 2#32
  let v263 : BitVec 32 := Scalar.addi c0_i32_235 c2_i32_236
  let c1_i32_237 : BitVec 32 := 1#32
  ⟨c0_i32_235, v263, c1_i32_237⟩
def k0_off5 (k0_t2 : Fin k0_t2_loop.trips) : Fin 4 → Nat :=
  let c1 : Index := 1#32
  let c0 : Index := 0#32
  let c0_i32_235 : BitVec 32 := 0#32
  let c1_i32_237 : BitVec 32 := 1#32
  let arg13 : BitVec 32 := Scf.iv c0_i32_235 c1_i32_237 k0_t2
  let c128_i32 : BitVec 32 := 128#32
  let v1738 : BitVec 32 := Scalar.muli arg13 c128_i32
  let v1739 : Index := Scalar.indexCast v1738
  let c0_1947 : Index := 0#32
  ![1, 0, v1739.toNat, 0]
def k0_off6 (k0_t2 : Fin k0_t2_loop.trips) : Fin 3 → Nat :=
  let c1_1948 : Index := 1#32
  let c0_i32_235 : BitVec 32 := 0#32
  let c1_i32_237 : BitVec 32 := 1#32
  let arg13 : BitVec 32 := Scf.iv c0_i32_235 c1_i32_237 k0_t2
  let c128_i32 : BitVec 32 := 128#32
  let v1738 : BitVec 32 := Scalar.muli arg13 c128_i32
  let v1742 : Index := Scalar.indexCast v1738
  let c0_1949 : Index := 0#32
  ![1, v1742.toNat, 0]
def k0_dev6 (d0 : Dev nD) : Nat :=
  let c0_i32_242 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_241 : BitVec 32 := 16#32
  let v266 : BitVec 32 := Scalar.muli v2 c16_i32_241
  let v267 : BitVec 32 := Scalar.addi c0_i32_242 v266
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_243 : BitVec 32 := 4#32
  let v268 : BitVec 32 := Scalar.muli v5 c4_i32_243
  let v269 : BitVec 32 := Scalar.addi v267 v268
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_244 : BitVec 32 := 1#32
  let v270 : BitVec 32 := Scalar.muli v19 c1_i32_244
  let v271 : BitVec 32 := Scalar.addi v269 v270
  v271.toNat
def k0_dev7 (d0 : Dev nD) : Nat :=
  let c0_i32_269 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_268 : BitVec 32 := 16#32
  let v292 : BitVec 32 := Scalar.muli v2 c16_i32_268
  let v293 : BitVec 32 := Scalar.addi c0_i32_269 v292
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_270 : BitVec 32 := 4#32
  let v294 : BitVec 32 := Scalar.muli v5 c4_i32_270
  let v295 : BitVec 32 := Scalar.addi v293 v294
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_271 : BitVec 32 := 1#32
  let v296 : BitVec 32 := Scalar.muli v19 c1_i32_271
  let v297 : BitVec 32 := Scalar.addi v295 v296
  v297.toNat
def k0_dev8 (d0 : Dev nD) : Nat :=
  let c0_i32_284 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_283 : BitVec 32 := 16#32
  let v306 : BitVec 32 := Scalar.muli v2 c16_i32_283
  let v307 : BitVec 32 := Scalar.addi c0_i32_284 v306
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_285 : BitVec 32 := 4#32
  let v308 : BitVec 32 := Scalar.muli v5 c4_i32_285
  let v309 : BitVec 32 := Scalar.addi v307 v308
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_286 : BitVec 32 := 1#32
  let v310 : BitVec 32 := Scalar.muli v30 c1_i32_286
  let v311 : BitVec 32 := Scalar.addi v309 v310
  v311.toNat
@[reducible] def k0_t3_loop : Scf.Loop 32 :=
  let c0_i32_324 : BitVec 32 := 0#32
  let c2_i32_325 : BitVec 32 := 2#32
  let v344 : BitVec 32 := Scalar.addi c0_i32_324 c2_i32_325
  let c1_i32_326 : BitVec 32 := 1#32
  ⟨c0_i32_324, v344, c1_i32_326⟩
def k0_off7 (k0_t3 : Fin k0_t3_loop.trips) : Fin 4 → Nat :=
  let c0 : Index := 0#32
  let c1 : Index := 1#32
  let c0_i32_324 : BitVec 32 := 0#32
  let c1_i32_326 : BitVec 32 := 1#32
  let arg13 : BitVec 32 := Scf.iv c0_i32_324 c1_i32_326 k0_t3
  let c128_i32 : BitVec 32 := 128#32
  let v1738 : BitVec 32 := Scalar.muli arg13 c128_i32
  let v1739 : Index := Scalar.indexCast v1738
  let c0_1947 : Index := 0#32
  ![0, 1, v1739.toNat, 0]
def k0_off8 (k0_t3 : Fin k0_t3_loop.trips) : Fin 3 → Nat :=
  let c0_1948 : Index := 0#32
  let c0_i32_324 : BitVec 32 := 0#32
  let c1_i32_326 : BitVec 32 := 1#32
  let arg13 : BitVec 32 := Scf.iv c0_i32_324 c1_i32_326 k0_t3
  let c128_i32 : BitVec 32 := 128#32
  let v1738 : BitVec 32 := Scalar.muli arg13 c128_i32
  let v1742 : Index := Scalar.indexCast v1738
  let c0_1949 : Index := 0#32
  ![0, v1742.toNat, 0]
@[reducible] def k0_t4_loop : Scf.Loop 32 :=
  let c0_i32_377 : BitVec 32 := 0#32
  let c2_i32_378 : BitVec 32 := 2#32
  let v389 : BitVec 32 := Scalar.addi c0_i32_377 c2_i32_378
  let c1_i32_379 : BitVec 32 := 1#32
  ⟨c0_i32_377, v389, c1_i32_379⟩
def k0_off9 (k0_t4 : Fin k0_t4_loop.trips) : Fin 4 → Nat :=
  let c1 : Index := 1#32
  let c1_1947 : Index := 1#32
  let c0_i32_377 : BitVec 32 := 0#32
  let c1_i32_379 : BitVec 32 := 1#32
  let arg13 : BitVec 32 := Scf.iv c0_i32_377 c1_i32_379 k0_t4
  let c128_i32 : BitVec 32 := 128#32
  let v1738 : BitVec 32 := Scalar.muli arg13 c128_i32
  let v1739 : Index := Scalar.indexCast v1738
  let c0 : Index := 0#32
  ![1, 1, v1739.toNat, 0]
def k0_off10 (k0_t4 : Fin k0_t4_loop.trips) : Fin 3 → Nat :=
  let c1_1948 : Index := 1#32
  let c0_i32_377 : BitVec 32 := 0#32
  let c1_i32_379 : BitVec 32 := 1#32
  let arg13 : BitVec 32 := Scf.iv c0_i32_377 c1_i32_379 k0_t4
  let c128_i32 : BitVec 32 := 128#32
  let v1738 : BitVec 32 := Scalar.muli arg13 c128_i32
  let v1742 : Index := Scalar.indexCast v1738
  let c0_1949 : Index := 0#32
  ![1, v1742.toNat, 0]
def k0_dev9 (d0 : Dev nD) : Nat :=
  let c0_i32_408 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_407 : BitVec 32 := 16#32
  let v412 : BitVec 32 := Scalar.muli v2 c16_i32_407
  let v413 : BitVec 32 := Scalar.addi c0_i32_408 v412
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_409 : BitVec 32 := 4#32
  let v414 : BitVec 32 := Scalar.muli v5 c4_i32_409
  let v415 : BitVec 32 := Scalar.addi v413 v414
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_410 : BitVec 32 := 1#32
  let v416 : BitVec 32 := Scalar.muli v19 c1_i32_410
  let v417 : BitVec 32 := Scalar.addi v415 v416
  v417.toNat
def k0_dev10 (d0 : Dev nD) : Nat :=
  let c0_i32_426 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_425 : BitVec 32 := 16#32
  let v428 : BitVec 32 := Scalar.muli v2 c16_i32_425
  let v429 : BitVec 32 := Scalar.addi c0_i32_426 v428
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_427 : BitVec 32 := 4#32
  let v430 : BitVec 32 := Scalar.muli v5 c4_i32_427
  let v431 : BitVec 32 := Scalar.addi v429 v430
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_428 : BitVec 32 := 1#32
  let v432 : BitVec 32 := Scalar.muli v30 c1_i32_428
  let v433 : BitVec 32 := Scalar.addi v431 v432
  v433.toNat
@[reducible] def k0_t5_loop : Scf.Loop 32 :=
  let c0_i32_466 : BitVec 32 := 0#32
  let c2_i32_467 : BitVec 32 := 2#32
  let v466 : BitVec 32 := Scalar.addi c0_i32_466 c2_i32_467
  let c1_i32_468 : BitVec 32 := 1#32
  ⟨c0_i32_466, v466, c1_i32_468⟩
def k0_off11 (k0_t5 : Fin k0_t5_loop.trips) : Fin 4 → Nat :=
  let c0 : Index := 0#32
  let c0_1947 : Index := 0#32
  let c0_i32_466 : BitVec 32 := 0#32
  let c1_i32_468 : BitVec 32 := 1#32
  let arg13 : BitVec 32 := Scf.iv c0_i32_466 c1_i32_468 k0_t5
  let c128_i32 : BitVec 32 := 128#32
  let v1738 : BitVec 32 := Scalar.muli arg13 c128_i32
  let v1739 : Index := Scalar.indexCast v1738
  let c0_1948 : Index := 0#32
  ![0, 0, v1739.toNat, 0]
def k0_off12 (k0_t5 : Fin k0_t5_loop.trips) : Fin 3 → Nat :=
  let c0_1949 : Index := 0#32
  let c0_i32_466 : BitVec 32 := 0#32
  let c1_i32_468 : BitVec 32 := 1#32
  let arg13 : BitVec 32 := Scf.iv c0_i32_466 c1_i32_468 k0_t5
  let c128_i32 : BitVec 32 := 128#32
  let v1738 : BitVec 32 := Scalar.muli arg13 c128_i32
  let v1742 : Index := Scalar.indexCast v1738
  let c0_1950 : Index := 0#32
  ![0, v1742.toNat, 0]
@[reducible] def k0_t6_loop : Scf.Loop 32 :=
  let c0_i32_503 : BitVec 32 := 0#32
  let c2_i32_504 : BitVec 32 := 2#32
  let v491 : BitVec 32 := Scalar.addi c0_i32_503 c2_i32_504
  let c1_i32_505 : BitVec 32 := 1#32
  ⟨c0_i32_503, v491, c1_i32_505⟩
def k0_off13 (k0_t6 : Fin k0_t6_loop.trips) : Fin 4 → Nat :=
  let c1 : Index := 1#32
  let c0 : Index := 0#32
  let c0_i32_503 : BitVec 32 := 0#32
  let c1_i32_505 : BitVec 32 := 1#32
  let arg13 : BitVec 32 := Scf.iv c0_i32_503 c1_i32_505 k0_t6
  let c128_i32 : BitVec 32 := 128#32
  let v1738 : BitVec 32 := Scalar.muli arg13 c128_i32
  let v1739 : Index := Scalar.indexCast v1738
  let c0_1947 : Index := 0#32
  ![1, 0, v1739.toNat, 0]
def k0_off14 (k0_t6 : Fin k0_t6_loop.trips) : Fin 3 → Nat :=
  let c1_1948 : Index := 1#32
  let c0_i32_503 : BitVec 32 := 0#32
  let c1_i32_505 : BitVec 32 := 1#32
  let arg13 : BitVec 32 := Scf.iv c0_i32_503 c1_i32_505 k0_t6
  let c128_i32 : BitVec 32 := 128#32
  let v1738 : BitVec 32 := Scalar.muli arg13 c128_i32
  let v1742 : Index := Scalar.indexCast v1738
  let c0_1949 : Index := 0#32
  ![1, v1742.toNat, 0]
def k0_off15 (d0 : Dev nD) (c0_i32_508 : BitVec 32) (c1_i32_26 : BitVec 32) (c0_i32_509 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v44 : BitVec 32 := Scalar.addi v8 c1_i32_26
  let c4_i32_27 : BitVec 32 := 4#32
  let c0_i32_28 : BitVec 32 := 0#32
  let v45 : BitVec 1 := Scalar.cmpi .eq c4_i32_27 c0_i32_28
  let c1_i32_29 : BitVec 32 := 1#32
  let v46 : BitVec 32 := Scalar.select v45 c1_i32_29 c4_i32_27
  let v47 : BitVec 32 := Scalar.remsi v44 v46
  let c0_i32_31 : BitVec 32 := 0#32
  let v49 : BitVec 1 := Scalar.cmpi .slt v47 c0_i32_31
  let c0_i32_32 : BitVec 32 := 0#32
  let v50 : BitVec 1 := Scalar.cmpi .slt v46 c0_i32_32
  let v51 : BitVec 1 := Scalar.xori v49 v50
  let c0_i32_30 : BitVec 32 := 0#32
  let v48 : BitVec 1 := Scalar.cmpi .ne v47 c0_i32_30
  let v52 : BitVec 1 := Scalar.andi v51 v48
  let v53 : BitVec 32 := Scalar.addi v47 v46
  let v54 : BitVec 32 := Scalar.select v52 v53 v47
  let c512_i32_507 : BitVec 32 := 512#32
  let v492 : BitVec 32 := Scalar.muli v54 c512_i32_507
  let v493 : BitVec 32 := Scalar.addi c0_i32_508 v492
  let v494 : BitVec 32 := Scalar.addi v493 c0_i32_509
  let c0_i32_514 : BitVec 32 := 0#32
  ![v494.toNat, 0]
def k0_off15_at (r : Fin 8) : BitVec 32 × BitVec 32 × BitVec 32 :=
  if r.val < 4 then
    if r.val < 2 then
      if r.val < 1 then
        (0#32, 1#32, 0#32)
      else
        (0#32, 0#32, 256#32)
    else
      if r.val < 3 then
        (0#32, 1#32, 256#32)
      else
        (0#32, 2#32, 256#32)
  else
    if r.val < 6 then
      if r.val < 5 then
        (2048#32, 1#32, 0#32)
      else
        (2048#32, 0#32, 256#32)
    else
      if r.val < 7 then
        (2048#32, 1#32, 256#32)
      else
        (2048#32, 2#32, 256#32)
@[reducible] def k0_t7_loop : Scf.Loop 32 :=
  let c0_i32_520 : BitVec 32 := 0#32
  let c2_i32_521 : BitVec 32 := 2#32
  let v505 : BitVec 32 := Scalar.addi c0_i32_520 c2_i32_521
  let c1_i32_522 : BitVec 32 := 1#32
  ⟨c0_i32_520, v505, c1_i32_522⟩
def k0_off16 (k0_t7 : Fin k0_t7_loop.trips) : Fin 3 → Nat :=
  let c0 : Index := 0#32
  let c0_i32_520 : BitVec 32 := 0#32
  let c1_i32_522 : BitVec 32 := 1#32
  let arg13 : BitVec 32 := Scf.iv c0_i32_520 c1_i32_522 k0_t7
  let c128_i32 : BitVec 32 := 128#32
  let v1738 : BitVec 32 := Scalar.muli arg13 c128_i32
  let v1739 : Index := Scalar.indexCast v1738
  let c0_1947 : Index := 0#32
  ![0, v1739.toNat, 0]
def k0_off17 (d0 : Dev nD) (c0_i32_533 : BitVec 32) (c1_i32_33 : BitVec 32) (c256_i32_534 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v55 : BitVec 32 := Scalar.subi v8 c1_i32_33
  let c4_i32_34 : BitVec 32 := 4#32
  let c0_i32_35 : BitVec 32 := 0#32
  let v56 : BitVec 1 := Scalar.cmpi .eq c4_i32_34 c0_i32_35
  let c1_i32_36 : BitVec 32 := 1#32
  let v57 : BitVec 32 := Scalar.select v56 c1_i32_36 c4_i32_34
  let v58 : BitVec 32 := Scalar.remsi v55 v57
  let c0_i32_38 : BitVec 32 := 0#32
  let v60 : BitVec 1 := Scalar.cmpi .slt v58 c0_i32_38
  let c0_i32_39 : BitVec 32 := 0#32
  let v61 : BitVec 1 := Scalar.cmpi .slt v57 c0_i32_39
  let v62 : BitVec 1 := Scalar.xori v60 v61
  let c0_i32_37 : BitVec 32 := 0#32
  let v59 : BitVec 1 := Scalar.cmpi .ne v58 c0_i32_37
  let v63 : BitVec 1 := Scalar.andi v62 v59
  let v64 : BitVec 32 := Scalar.addi v58 v57
  let v65 : BitVec 32 := Scalar.select v63 v64 v58
  let c512_i32_532 : BitVec 32 := 512#32
  let v514 : BitVec 32 := Scalar.muli v65 c512_i32_532
  let v515 : BitVec 32 := Scalar.addi c0_i32_533 v514
  let v516 : BitVec 32 := Scalar.addi v515 c256_i32_534
  let c0_i32_539 : BitVec 32 := 0#32
  ![v516.toNat, 0]
def k0_off17_at (r : Fin 8) : BitVec 32 × BitVec 32 × BitVec 32 :=
  if r.val < 4 then
    if r.val < 2 then
      if r.val < 1 then
        (0#32, 1#32, 256#32)
      else
        (0#32, 0#32, 0#32)
    else
      if r.val < 3 then
        (0#32, 1#32, 0#32)
      else
        (0#32, 2#32, 0#32)
  else
    if r.val < 6 then
      if r.val < 5 then
        (2048#32, 1#32, 256#32)
      else
        (2048#32, 0#32, 0#32)
    else
      if r.val < 7 then
        (2048#32, 1#32, 0#32)
      else
        (2048#32, 2#32, 0#32)
@[reducible] def k0_t8_loop : Scf.Loop 32 :=
  let c0_i32_545 : BitVec 32 := 0#32
  let c2_i32_546 : BitVec 32 := 2#32
  let v527 : BitVec 32 := Scalar.addi c0_i32_545 c2_i32_546
  let c1_i32_547 : BitVec 32 := 1#32
  ⟨c0_i32_545, v527, c1_i32_547⟩
def k0_off18 (k0_t8 : Fin k0_t8_loop.trips) : Fin 3 → Nat :=
  let c1 : Index := 1#32
  let c0_i32_545 : BitVec 32 := 0#32
  let c1_i32_547 : BitVec 32 := 1#32
  let arg13 : BitVec 32 := Scf.iv c0_i32_545 c1_i32_547 k0_t8
  let c128_i32 : BitVec 32 := 128#32
  let v1738 : BitVec 32 := Scalar.muli arg13 c128_i32
  let v1739 : Index := Scalar.indexCast v1738
  let c0 : Index := 0#32
  ![1, v1739.toNat, 0]
def k0_dev11 (d0 : Dev nD) : Nat :=
  let c0_i32_565 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_564 : BitVec 32 := 16#32
  let v536 : BitVec 32 := Scalar.muli v2 c16_i32_564
  let v537 : BitVec 32 := Scalar.addi c0_i32_565 v536
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_566 : BitVec 32 := 4#32
  let v538 : BitVec 32 := Scalar.muli v5 c4_i32_566
  let v539 : BitVec 32 := Scalar.addi v537 v538
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_567 : BitVec 32 := 1#32
  let v540 : BitVec 32 := Scalar.muli v19 c1_i32_567
  let v541 : BitVec 32 := Scalar.addi v539 v540
  v541.toNat
def k0_dev12 (d0 : Dev nD) : Nat :=
  let c0_i32_580 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_579 : BitVec 32 := 16#32
  let v550 : BitVec 32 := Scalar.muli v2 c16_i32_579
  let v551 : BitVec 32 := Scalar.addi c0_i32_580 v550
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_581 : BitVec 32 := 4#32
  let v552 : BitVec 32 := Scalar.muli v5 c4_i32_581
  let v553 : BitVec 32 := Scalar.addi v551 v552
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_582 : BitVec 32 := 1#32
  let v554 : BitVec 32 := Scalar.muli v30 c1_i32_582
  let v555 : BitVec 32 := Scalar.addi v553 v554
  v555.toNat
def k0_dev13 (d0 : Dev nD) : Nat :=
  let c0_i32_684 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_683 : BitVec 32 := 16#32
  let v638 : BitVec 32 := Scalar.muli v2 c16_i32_683
  let v639 : BitVec 32 := Scalar.addi c0_i32_684 v638
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_685 : BitVec 32 := 4#32
  let v640 : BitVec 32 := Scalar.muli v5 c4_i32_685
  let v641 : BitVec 32 := Scalar.addi v639 v640
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_686 : BitVec 32 := 1#32
  let v642 : BitVec 32 := Scalar.muli v19 c1_i32_686
  let v643 : BitVec 32 := Scalar.addi v641 v642
  v643.toNat
def k0_dev14 (d0 : Dev nD) : Nat :=
  let c0_i32_700 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_699 : BitVec 32 := 16#32
  let v652 : BitVec 32 := Scalar.muli v2 c16_i32_699
  let v653 : BitVec 32 := Scalar.addi c0_i32_700 v652
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_701 : BitVec 32 := 4#32
  let v654 : BitVec 32 := Scalar.muli v5 c4_i32_701
  let v655 : BitVec 32 := Scalar.addi v653 v654
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_702 : BitVec 32 := 1#32
  let v656 : BitVec 32 := Scalar.muli v30 c1_i32_702
  let v657 : BitVec 32 := Scalar.addi v655 v656
  v657.toNat
def k0_dev15 (d0 : Dev nD) : Nat :=
  let c0_i32_746 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_745 : BitVec 32 := 16#32
  let v691 : BitVec 32 := Scalar.muli v2 c16_i32_745
  let v692 : BitVec 32 := Scalar.addi c0_i32_746 v691
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_747 : BitVec 32 := 4#32
  let v693 : BitVec 32 := Scalar.muli v5 c4_i32_747
  let v694 : BitVec 32 := Scalar.addi v692 v693
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_748 : BitVec 32 := 1#32
  let v695 : BitVec 32 := Scalar.muli v30 c1_i32_748
  let v696 : BitVec 32 := Scalar.addi v694 v695
  v696.toNat
def k0_dev16 (d0 : Dev nD) : Nat :=
  let c0_i32_805 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_804 : BitVec 32 := 16#32
  let v741 : BitVec 32 := Scalar.muli v2 c16_i32_804
  let v742 : BitVec 32 := Scalar.addi c0_i32_805 v741
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_806 : BitVec 32 := 4#32
  let v743 : BitVec 32 := Scalar.muli v5 c4_i32_806
  let v744 : BitVec 32 := Scalar.addi v742 v743
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_807 : BitVec 32 := 1#32
  let v745 : BitVec 32 := Scalar.muli v19 c1_i32_807
  let v746 : BitVec 32 := Scalar.addi v744 v745
  v746.toNat
def k0_dev17 (d0 : Dev nD) : Nat :=
  let c0_i32_836 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_835 : BitVec 32 := 16#32
  let v768 : BitVec 32 := Scalar.muli v2 c16_i32_835
  let v769 : BitVec 32 := Scalar.addi c0_i32_836 v768
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_837 : BitVec 32 := 4#32
  let v770 : BitVec 32 := Scalar.muli v5 c4_i32_837
  let v771 : BitVec 32 := Scalar.addi v769 v770
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_838 : BitVec 32 := 1#32
  let v772 : BitVec 32 := Scalar.muli v19 c1_i32_838
  let v773 : BitVec 32 := Scalar.addi v771 v772
  v773.toNat
def k0_dev18 (d0 : Dev nD) : Nat :=
  let c0_i32_855 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_854 : BitVec 32 := 16#32
  let v784 : BitVec 32 := Scalar.muli v2 c16_i32_854
  let v785 : BitVec 32 := Scalar.addi c0_i32_855 v784
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_856 : BitVec 32 := 4#32
  let v786 : BitVec 32 := Scalar.muli v5 c4_i32_856
  let v787 : BitVec 32 := Scalar.addi v785 v786
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_857 : BitVec 32 := 1#32
  let v788 : BitVec 32 := Scalar.muli v30 c1_i32_857
  let v789 : BitVec 32 := Scalar.addi v787 v788
  v789.toNat
def k0_dev19 (d0 : Dev nD) : Nat :=
  let c0_i32_1087 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1086 : BitVec 32 := 16#32
  let v1006 : BitVec 32 := Scalar.muli v2 c16_i32_1086
  let v1007 : BitVec 32 := Scalar.addi c0_i32_1087 v1006
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1088 : BitVec 32 := 4#32
  let v1008 : BitVec 32 := Scalar.muli v5 c4_i32_1088
  let v1009 : BitVec 32 := Scalar.addi v1007 v1008
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_1089 : BitVec 32 := 1#32
  let v1010 : BitVec 32 := Scalar.muli v19 c1_i32_1089
  let v1011 : BitVec 32 := Scalar.addi v1009 v1010
  v1011.toNat
def k0_dev20 (d0 : Dev nD) : Nat :=
  let c0_i32_1102 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1101 : BitVec 32 := 16#32
  let v1020 : BitVec 32 := Scalar.muli v2 c16_i32_1101
  let v1021 : BitVec 32 := Scalar.addi c0_i32_1102 v1020
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1103 : BitVec 32 := 4#32
  let v1022 : BitVec 32 := Scalar.muli v5 c4_i32_1103
  let v1023 : BitVec 32 := Scalar.addi v1021 v1022
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_1104 : BitVec 32 := 1#32
  let v1024 : BitVec 32 := Scalar.muli v30 c1_i32_1104
  let v1025 : BitVec 32 := Scalar.addi v1023 v1024
  v1025.toNat
@[reducible] def k0_t9_loop : Scf.Loop 32 :=
  let c0_i32_1136 : BitVec 32 := 0#32
  let c2_i32_1137 : BitVec 32 := 2#32
  let v1052 : BitVec 32 := Scalar.addi c0_i32_1136 c2_i32_1137
  let c1_i32_1138 : BitVec 32 := 1#32
  ⟨c0_i32_1136, v1052, c1_i32_1138⟩
def k0_off19 (k0_t9 : Fin k0_t9_loop.trips) : Fin 4 → Nat :=
  let c0 : Index := 0#32
  let c0_1947 : Index := 0#32
  let c0_i32_1136 : BitVec 32 := 0#32
  let c1_i32_1138 : BitVec 32 := 1#32
  let arg13 : BitVec 32 := Scf.iv c0_i32_1136 c1_i32_1138 k0_t9
  let c128_i32 : BitVec 32 := 128#32
  let v1738 : BitVec 32 := Scalar.muli arg13 c128_i32
  let v1739 : Index := Scalar.indexCast v1738
  let c0_1948 : Index := 0#32
  ![0, 0, v1739.toNat, 0]
def k0_off20 (k0_t9 : Fin k0_t9_loop.trips) : Fin 3 → Nat :=
  let c0_1949 : Index := 0#32
  let c0_i32_1136 : BitVec 32 := 0#32
  let c1_i32_1138 : BitVec 32 := 1#32
  let arg13 : BitVec 32 := Scf.iv c0_i32_1136 c1_i32_1138 k0_t9
  let c128_i32 : BitVec 32 := 128#32
  let v1738 : BitVec 32 := Scalar.muli arg13 c128_i32
  let v1742 : Index := Scalar.indexCast v1738
  let c0_1950 : Index := 0#32
  ![0, v1742.toNat, 0]
def k0_dev21 (d0 : Dev nD) : Nat :=
  let c0_i32_1143 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1142 : BitVec 32 := 16#32
  let v1055 : BitVec 32 := Scalar.muli v2 c16_i32_1142
  let v1056 : BitVec 32 := Scalar.addi c0_i32_1143 v1055
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1144 : BitVec 32 := 4#32
  let v1057 : BitVec 32 := Scalar.muli v5 c4_i32_1144
  let v1058 : BitVec 32 := Scalar.addi v1056 v1057
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_1145 : BitVec 32 := 1#32
  let v1059 : BitVec 32 := Scalar.muli v30 c1_i32_1145
  let v1060 : BitVec 32 := Scalar.addi v1058 v1059
  v1060.toNat
@[reducible] def k0_t10_loop : Scf.Loop 32 :=
  let c0_i32_1189 : BitVec 32 := 0#32
  let c2_i32_1190 : BitVec 32 := 2#32
  let v1099 : BitVec 32 := Scalar.addi c0_i32_1189 c2_i32_1190
  let c1_i32_1191 : BitVec 32 := 1#32
  ⟨c0_i32_1189, v1099, c1_i32_1191⟩
def k0_off21 (k0_t10 : Fin k0_t10_loop.trips) : Fin 4 → Nat :=
  let c1 : Index := 1#32
  let c0 : Index := 0#32
  let c0_i32_1189 : BitVec 32 := 0#32
  let c1_i32_1191 : BitVec 32 := 1#32
  let arg13 : BitVec 32 := Scf.iv c0_i32_1189 c1_i32_1191 k0_t10
  let c128_i32 : BitVec 32 := 128#32
  let v1738 : BitVec 32 := Scalar.muli arg13 c128_i32
  let v1739 : Index := Scalar.indexCast v1738
  let c0_1947 : Index := 0#32
  ![1, 0, v1739.toNat, 0]
def k0_off22 (k0_t10 : Fin k0_t10_loop.trips) : Fin 3 → Nat :=
  let c1_1948 : Index := 1#32
  let c0_i32_1189 : BitVec 32 := 0#32
  let c1_i32_1191 : BitVec 32 := 1#32
  let arg13 : BitVec 32 := Scf.iv c0_i32_1189 c1_i32_1191 k0_t10
  let c128_i32 : BitVec 32 := 128#32
  let v1738 : BitVec 32 := Scalar.muli arg13 c128_i32
  let v1742 : Index := Scalar.indexCast v1738
  let c0_1949 : Index := 0#32
  ![1, v1742.toNat, 0]
def k0_dev22 (d0 : Dev nD) : Nat :=
  let c0_i32_1196 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1195 : BitVec 32 := 16#32
  let v1102 : BitVec 32 := Scalar.muli v2 c16_i32_1195
  let v1103 : BitVec 32 := Scalar.addi c0_i32_1196 v1102
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1197 : BitVec 32 := 4#32
  let v1104 : BitVec 32 := Scalar.muli v5 c4_i32_1197
  let v1105 : BitVec 32 := Scalar.addi v1103 v1104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_1198 : BitVec 32 := 1#32
  let v1106 : BitVec 32 := Scalar.muli v19 c1_i32_1198
  let v1107 : BitVec 32 := Scalar.addi v1105 v1106
  v1107.toNat
def k0_dev23 (d0 : Dev nD) : Nat :=
  let c0_i32_1223 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1222 : BitVec 32 := 16#32
  let v1128 : BitVec 32 := Scalar.muli v2 c16_i32_1222
  let v1129 : BitVec 32 := Scalar.addi c0_i32_1223 v1128
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1224 : BitVec 32 := 4#32
  let v1130 : BitVec 32 := Scalar.muli v5 c4_i32_1224
  let v1131 : BitVec 32 := Scalar.addi v1129 v1130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_1225 : BitVec 32 := 1#32
  let v1132 : BitVec 32 := Scalar.muli v19 c1_i32_1225
  let v1133 : BitVec 32 := Scalar.addi v1131 v1132
  v1133.toNat
def k0_dev24 (d0 : Dev nD) : Nat :=
  let c0_i32_1238 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1237 : BitVec 32 := 16#32
  let v1142 : BitVec 32 := Scalar.muli v2 c16_i32_1237
  let v1143 : BitVec 32 := Scalar.addi c0_i32_1238 v1142
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1239 : BitVec 32 := 4#32
  let v1144 : BitVec 32 := Scalar.muli v5 c4_i32_1239
  let v1145 : BitVec 32 := Scalar.addi v1143 v1144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_1240 : BitVec 32 := 1#32
  let v1146 : BitVec 32 := Scalar.muli v30 c1_i32_1240
  let v1147 : BitVec 32 := Scalar.addi v1145 v1146
  v1147.toNat
@[reducible] def k0_t11_loop : Scf.Loop 32 :=
  let c0_i32_1278 : BitVec 32 := 0#32
  let c2_i32_1279 : BitVec 32 := 2#32
  let v1180 : BitVec 32 := Scalar.addi c0_i32_1278 c2_i32_1279
  let c1_i32_1280 : BitVec 32 := 1#32
  ⟨c0_i32_1278, v1180, c1_i32_1280⟩
def k0_off23 (k0_t11 : Fin k0_t11_loop.trips) : Fin 4 → Nat :=
  let c0 : Index := 0#32
  let c1 : Index := 1#32
  let c0_i32_1278 : BitVec 32 := 0#32
  let c1_i32_1280 : BitVec 32 := 1#32
  let arg13 : BitVec 32 := Scf.iv c0_i32_1278 c1_i32_1280 k0_t11
  let c128_i32 : BitVec 32 := 128#32
  let v1738 : BitVec 32 := Scalar.muli arg13 c128_i32
  let v1739 : Index := Scalar.indexCast v1738
  let c0_1947 : Index := 0#32
  ![0, 1, v1739.toNat, 0]
def k0_off24 (k0_t11 : Fin k0_t11_loop.trips) : Fin 3 → Nat :=
  let c0_1948 : Index := 0#32
  let c0_i32_1278 : BitVec 32 := 0#32
  let c1_i32_1280 : BitVec 32 := 1#32
  let arg13 : BitVec 32 := Scf.iv c0_i32_1278 c1_i32_1280 k0_t11
  let c128_i32 : BitVec 32 := 128#32
  let v1738 : BitVec 32 := Scalar.muli arg13 c128_i32
  let v1742 : Index := Scalar.indexCast v1738
  let c0_1949 : Index := 0#32
  ![0, v1742.toNat, 0]
@[reducible] def k0_t12_loop : Scf.Loop 32 :=
  let c0_i32_1331 : BitVec 32 := 0#32
  let c2_i32_1332 : BitVec 32 := 2#32
  let v1225 : BitVec 32 := Scalar.addi c0_i32_1331 c2_i32_1332
  let c1_i32_1333 : BitVec 32 := 1#32
  ⟨c0_i32_1331, v1225, c1_i32_1333⟩
def k0_off25 (k0_t12 : Fin k0_t12_loop.trips) : Fin 4 → Nat :=
  let c1 : Index := 1#32
  let c1_1947 : Index := 1#32
  let c0_i32_1331 : BitVec 32 := 0#32
  let c1_i32_1333 : BitVec 32 := 1#32
  let arg13 : BitVec 32 := Scf.iv c0_i32_1331 c1_i32_1333 k0_t12
  let c128_i32 : BitVec 32 := 128#32
  let v1738 : BitVec 32 := Scalar.muli arg13 c128_i32
  let v1739 : Index := Scalar.indexCast v1738
  let c0 : Index := 0#32
  ![1, 1, v1739.toNat, 0]
def k0_off26 (k0_t12 : Fin k0_t12_loop.trips) : Fin 3 → Nat :=
  let c1_1948 : Index := 1#32
  let c0_i32_1331 : BitVec 32 := 0#32
  let c1_i32_1333 : BitVec 32 := 1#32
  let arg13 : BitVec 32 := Scf.iv c0_i32_1331 c1_i32_1333 k0_t12
  let c128_i32 : BitVec 32 := 128#32
  let v1738 : BitVec 32 := Scalar.muli arg13 c128_i32
  let v1742 : Index := Scalar.indexCast v1738
  let c0_1949 : Index := 0#32
  ![1, v1742.toNat, 0]
def k0_dev25 (d0 : Dev nD) : Nat :=
  let c0_i32_1362 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1361 : BitVec 32 := 16#32
  let v1248 : BitVec 32 := Scalar.muli v2 c16_i32_1361
  let v1249 : BitVec 32 := Scalar.addi c0_i32_1362 v1248
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1363 : BitVec 32 := 4#32
  let v1250 : BitVec 32 := Scalar.muli v5 c4_i32_1363
  let v1251 : BitVec 32 := Scalar.addi v1249 v1250
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_1364 : BitVec 32 := 1#32
  let v1252 : BitVec 32 := Scalar.muli v19 c1_i32_1364
  let v1253 : BitVec 32 := Scalar.addi v1251 v1252
  v1253.toNat
def k0_dev26 (d0 : Dev nD) : Nat :=
  let c0_i32_1380 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1379 : BitVec 32 := 16#32
  let v1264 : BitVec 32 := Scalar.muli v2 c16_i32_1379
  let v1265 : BitVec 32 := Scalar.addi c0_i32_1380 v1264
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1381 : BitVec 32 := 4#32
  let v1266 : BitVec 32 := Scalar.muli v5 c4_i32_1381
  let v1267 : BitVec 32 := Scalar.addi v1265 v1266
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_1382 : BitVec 32 := 1#32
  let v1268 : BitVec 32 := Scalar.muli v30 c1_i32_1382
  let v1269 : BitVec 32 := Scalar.addi v1267 v1268
  v1269.toNat
@[reducible] def k0_t13_loop : Scf.Loop 32 :=
  let c0_i32_1420 : BitVec 32 := 0#32
  let c2_i32_1421 : BitVec 32 := 2#32
  let v1302 : BitVec 32 := Scalar.addi c0_i32_1420 c2_i32_1421
  let c1_i32_1422 : BitVec 32 := 1#32
  ⟨c0_i32_1420, v1302, c1_i32_1422⟩
def k0_off27 (k0_t13 : Fin k0_t13_loop.trips) : Fin 4 → Nat :=
  let c0 : Index := 0#32
  let c0_1947 : Index := 0#32
  let c0_i32_1420 : BitVec 32 := 0#32
  let c1_i32_1422 : BitVec 32 := 1#32
  let arg13 : BitVec 32 := Scf.iv c0_i32_1420 c1_i32_1422 k0_t13
  let c128_i32 : BitVec 32 := 128#32
  let v1738 : BitVec 32 := Scalar.muli arg13 c128_i32
  let v1739 : Index := Scalar.indexCast v1738
  let c0_1948 : Index := 0#32
  ![0, 0, v1739.toNat, 0]
def k0_off28 (k0_t13 : Fin k0_t13_loop.trips) : Fin 3 → Nat :=
  let c0_1949 : Index := 0#32
  let c0_i32_1420 : BitVec 32 := 0#32
  let c1_i32_1422 : BitVec 32 := 1#32
  let arg13 : BitVec 32 := Scf.iv c0_i32_1420 c1_i32_1422 k0_t13
  let c128_i32 : BitVec 32 := 128#32
  let v1738 : BitVec 32 := Scalar.muli arg13 c128_i32
  let v1742 : Index := Scalar.indexCast v1738
  let c0_1950 : Index := 0#32
  ![0, v1742.toNat, 0]
@[reducible] def k0_t14_loop : Scf.Loop 32 :=
  let c0_i32_1457 : BitVec 32 := 0#32
  let c2_i32_1458 : BitVec 32 := 2#32
  let v1327 : BitVec 32 := Scalar.addi c0_i32_1457 c2_i32_1458
  let c1_i32_1459 : BitVec 32 := 1#32
  ⟨c0_i32_1457, v1327, c1_i32_1459⟩
def k0_off29 (k0_t14 : Fin k0_t14_loop.trips) : Fin 4 → Nat :=
  let c1 : Index := 1#32
  let c0 : Index := 0#32
  let c0_i32_1457 : BitVec 32 := 0#32
  let c1_i32_1459 : BitVec 32 := 1#32
  let arg13 : BitVec 32 := Scf.iv c0_i32_1457 c1_i32_1459 k0_t14
  let c128_i32 : BitVec 32 := 128#32
  let v1738 : BitVec 32 := Scalar.muli arg13 c128_i32
  let v1739 : Index := Scalar.indexCast v1738
  let c0_1947 : Index := 0#32
  ![1, 0, v1739.toNat, 0]
def k0_off30 (k0_t14 : Fin k0_t14_loop.trips) : Fin 3 → Nat :=
  let c1_1948 : Index := 1#32
  let c0_i32_1457 : BitVec 32 := 0#32
  let c1_i32_1459 : BitVec 32 := 1#32
  let arg13 : BitVec 32 := Scf.iv c0_i32_1457 c1_i32_1459 k0_t14
  let c128_i32 : BitVec 32 := 128#32
  let v1738 : BitVec 32 := Scalar.muli arg13 c128_i32
  let v1742 : Index := Scalar.indexCast v1738
  let c0_1949 : Index := 0#32
  ![1, v1742.toNat, 0]
@[reducible] def k0_t15_loop : Scf.Loop 32 :=
  let c0_i32_1474 : BitVec 32 := 0#32
  let c2_i32_1475 : BitVec 32 := 2#32
  let v1341 : BitVec 32 := Scalar.addi c0_i32_1474 c2_i32_1475
  let c1_i32_1476 : BitVec 32 := 1#32
  ⟨c0_i32_1474, v1341, c1_i32_1476⟩
def k0_off31 (k0_t15 : Fin k0_t15_loop.trips) : Fin 3 → Nat :=
  let c0 : Index := 0#32
  let c0_i32_1474 : BitVec 32 := 0#32
  let c1_i32_1476 : BitVec 32 := 1#32
  let arg13 : BitVec 32 := Scf.iv c0_i32_1474 c1_i32_1476 k0_t15
  let c128_i32 : BitVec 32 := 128#32
  let v1738 : BitVec 32 := Scalar.muli arg13 c128_i32
  let v1739 : Index := Scalar.indexCast v1738
  let c0_1947 : Index := 0#32
  ![0, v1739.toNat, 0]
@[reducible] def k0_t16_loop : Scf.Loop 32 :=
  let c0_i32_1499 : BitVec 32 := 0#32
  let c2_i32_1500 : BitVec 32 := 2#32
  let v1363 : BitVec 32 := Scalar.addi c0_i32_1499 c2_i32_1500
  let c1_i32_1501 : BitVec 32 := 1#32
  ⟨c0_i32_1499, v1363, c1_i32_1501⟩
def k0_off32 (k0_t16 : Fin k0_t16_loop.trips) : Fin 3 → Nat :=
  let c1 : Index := 1#32
  let c0_i32_1499 : BitVec 32 := 0#32
  let c1_i32_1501 : BitVec 32 := 1#32
  let arg13 : BitVec 32 := Scf.iv c0_i32_1499 c1_i32_1501 k0_t16
  let c128_i32 : BitVec 32 := 128#32
  let v1738 : BitVec 32 := Scalar.muli arg13 c128_i32
  let v1739 : Index := Scalar.indexCast v1738
  let c0 : Index := 0#32
  ![1, v1739.toNat, 0]
def k0_dev27 (d0 : Dev nD) : Nat :=
  let c0_i32_1519 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1518 : BitVec 32 := 16#32
  let v1372 : BitVec 32 := Scalar.muli v2 c16_i32_1518
  let v1373 : BitVec 32 := Scalar.addi c0_i32_1519 v1372
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1520 : BitVec 32 := 4#32
  let v1374 : BitVec 32 := Scalar.muli v5 c4_i32_1520
  let v1375 : BitVec 32 := Scalar.addi v1373 v1374
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_1521 : BitVec 32 := 1#32
  let v1376 : BitVec 32 := Scalar.muli v19 c1_i32_1521
  let v1377 : BitVec 32 := Scalar.addi v1375 v1376
  v1377.toNat
def k0_dev28 (d0 : Dev nD) : Nat :=
  let c0_i32_1534 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1533 : BitVec 32 := 16#32
  let v1386 : BitVec 32 := Scalar.muli v2 c16_i32_1533
  let v1387 : BitVec 32 := Scalar.addi c0_i32_1534 v1386
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1535 : BitVec 32 := 4#32
  let v1388 : BitVec 32 := Scalar.muli v5 c4_i32_1535
  let v1389 : BitVec 32 := Scalar.addi v1387 v1388
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_1536 : BitVec 32 := 1#32
  let v1390 : BitVec 32 := Scalar.muli v30 c1_i32_1536
  let v1391 : BitVec 32 := Scalar.addi v1389 v1390
  v1391.toNat
def k0_dev29 (d0 : Dev nD) : Nat :=
  let c0_i32_1638 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1637 : BitVec 32 := 16#32
  let v1474 : BitVec 32 := Scalar.muli v2 c16_i32_1637
  let v1475 : BitVec 32 := Scalar.addi c0_i32_1638 v1474
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1639 : BitVec 32 := 4#32
  let v1476 : BitVec 32 := Scalar.muli v5 c4_i32_1639
  let v1477 : BitVec 32 := Scalar.addi v1475 v1476
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_1640 : BitVec 32 := 1#32
  let v1478 : BitVec 32 := Scalar.muli v19 c1_i32_1640
  let v1479 : BitVec 32 := Scalar.addi v1477 v1478
  v1479.toNat
def k0_dev30 (d0 : Dev nD) : Nat :=
  let c0_i32_1654 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1653 : BitVec 32 := 16#32
  let v1488 : BitVec 32 := Scalar.muli v2 c16_i32_1653
  let v1489 : BitVec 32 := Scalar.addi c0_i32_1654 v1488
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1655 : BitVec 32 := 4#32
  let v1490 : BitVec 32 := Scalar.muli v5 c4_i32_1655
  let v1491 : BitVec 32 := Scalar.addi v1489 v1490
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_1656 : BitVec 32 := 1#32
  let v1492 : BitVec 32 := Scalar.muli v30 c1_i32_1656
  let v1493 : BitVec 32 := Scalar.addi v1491 v1492
  v1493.toNat
def k0_dev31 (d0 : Dev nD) : Nat :=
  let c0_i32_1700 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1699 : BitVec 32 := 16#32
  let v1527 : BitVec 32 := Scalar.muli v2 c16_i32_1699
  let v1528 : BitVec 32 := Scalar.addi c0_i32_1700 v1527
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1701 : BitVec 32 := 4#32
  let v1529 : BitVec 32 := Scalar.muli v5 c4_i32_1701
  let v1530 : BitVec 32 := Scalar.addi v1528 v1529
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_1702 : BitVec 32 := 1#32
  let v1531 : BitVec 32 := Scalar.muli v30 c1_i32_1702
  let v1532 : BitVec 32 := Scalar.addi v1530 v1531
  v1532.toNat
def k0_dev32 (d0 : Dev nD) : Nat :=
  let c0_i32_1759 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1758 : BitVec 32 := 16#32
  let v1577 : BitVec 32 := Scalar.muli v2 c16_i32_1758
  let v1578 : BitVec 32 := Scalar.addi c0_i32_1759 v1577
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1760 : BitVec 32 := 4#32
  let v1579 : BitVec 32 := Scalar.muli v5 c4_i32_1760
  let v1580 : BitVec 32 := Scalar.addi v1578 v1579
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_1761 : BitVec 32 := 1#32
  let v1581 : BitVec 32 := Scalar.muli v19 c1_i32_1761
  let v1582 : BitVec 32 := Scalar.addi v1580 v1581
  v1582.toNat
def k0_dev33 (d0 : Dev nD) : Nat :=
  let c0_i32_1791 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1790 : BitVec 32 := 16#32
  let v1604 : BitVec 32 := Scalar.muli v2 c16_i32_1790
  let v1605 : BitVec 32 := Scalar.addi c0_i32_1791 v1604
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1792 : BitVec 32 := 4#32
  let v1606 : BitVec 32 := Scalar.muli v5 c4_i32_1792
  let v1607 : BitVec 32 := Scalar.addi v1605 v1606
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_1793 : BitVec 32 := 1#32
  let v1608 : BitVec 32 := Scalar.muli v19 c1_i32_1793
  let v1609 : BitVec 32 := Scalar.addi v1607 v1608
  v1609.toNat
def k0_dev34 (d0 : Dev nD) : Nat :=
  let c0_i32_1810 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1809 : BitVec 32 := 16#32
  let v1620 : BitVec 32 := Scalar.muli v2 c16_i32_1809
  let v1621 : BitVec 32 := Scalar.addi c0_i32_1810 v1620
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1811 : BitVec 32 := 4#32
  let v1622 : BitVec 32 := Scalar.muli v5 c4_i32_1811
  let v1623 : BitVec 32 := Scalar.addi v1621 v1622
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_1812 : BitVec 32 := 1#32
  let v1624 : BitVec 32 := Scalar.muli v30 c1_i32_1812
  let v1625 : BitVec 32 := Scalar.addi v1623 v1624
  v1625.toNat
abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S1x4096, .f32⟩
  | .hbm, ⟨20, _⟩ => ⟨S4096x4096, .f32⟩
  | .hbm, ⟨21, _⟩ => ⟨S4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.ProgIdeal.lean ====
module

public import proofs.«01_k».proof.Proof.Gen.KernelIdeal
public import proofs.«01_k».proof.Proof.Gen.KernelIdeal.Skeleton
public import proofs.«01_k».proof.Proof.Gen.KernelIdeal.Points
public import Idealize.ShloMosaic.Lib.Pipeline.Regions

@[expose] public section

set_option maxRecDepth 65536

/-!
# The kernel body as one parametric program

The printed body is two rounds of the same exchange, unrolled, each over two ring directions. Here
it is written once: `roundP` is one round over its slice offsets and peers (`Pars`), the operations
named by direction and step, each followed by its continuation. `body_eq` says the printed body is
the two rounds, one after the other.
-/

noncomputable section

namespace Cert.KernelIdeal.Ring

open Idealize.ShloMosaic Idealize.ShloMosaic.TcCoe
open Idealize.SL.Sem
open Cert.KernelIdeal Cert.KernelIdeal.Gen

variable {F : FTy → Type} [FloatOps F]

/-- A TensorCore program of the kernel. -/
abbrev PG (F : FTy → Type) [FloatOps F] : Type _ := Prog (TpuEff nD τ sig (Elt F) Λ₀ .tc) PUnit

/-! ## Buffers and semaphores -/

/-- A 256 × 4096 block in VMEM. -/
abbrev VBlk : Type := Memref sig .tc .vmem S256x4096 .f32
/-- A 256 × 4096 block in HBM. -/
abbrev HBlk : Type := Memref sig .tc .hbm S256x4096 .f32

/-- Row offsets of a 256-row block of the partial. -/
abbrev XOff : Type := {o : Fin 3 → ℕ // ∀ a, o a + S1x256x4096.size a ≤ S1x4096x4096.size a}
/-- Row offsets of a 256-row block of the residual and of the result. -/
abbrev ROff : Type := {o : Fin 2 → ℕ // ∀ a, o a + S256x4096.size a ≤ S4096x4096.size a}
/-- Offsets of a 128-row tile of a receive buffer. -/
abbrev Off6 : Type := {o : Fin 4 → ℕ // ∀ a, o a + S1x1x128x4096.size a ≤ S2x2x256x4096.size a}
/-- Offsets of a 128-row tile of a staging buffer. -/
abbrev Off4 : Type := {o : Fin 3 → ℕ // ∀ a, o a + S1x128x4096.size a ≤ S2x256x4096.size a}

/-- The staging buffer of the partial's rows and of the residual's. -/
abbrev pB : Memref sig .tc .vmem S2x256x4096 .f32 := Memref.whole cc0_scratch0
/-- The buffer of running sums: what the kernel sends. -/
abbrev sB : Memref sig .tc .vmem S2x256x4096 .f32 := Memref.whole cc0_scratch1
/-- The receive buffers of the first phase. -/
abbrev rB : Memref sig .tc .vmem S2x2x256x4096 .f32 := Memref.whole cc0_scratch2
/-- The receive buffers of the second phase. -/
abbrev gB : Memref sig .tc .vmem S2x2x256x4096 .f32 := Memref.whole cc0_scratch3

theorem half_inb : ∀ (i : Fin 2) (a), (![i.val, 0, 0] : Fin 3 → ℕ) a + S1x256x4096.size a ≤ S2x256x4096.size a := by decide
theorem quarter_inb : ∀ (i s : Fin 2) (a), (![i.val, s.val, 0, 0] : Fin 4 → ℕ) a + S1x1x256x4096.size a ≤ S2x2x256x4096.size a := by decide
theorem sem26_inb : ∀ (i : Fin 2) (k : Fin 6) (a), (![i.val, k.val] : Fin 2 → ℕ) a + S1x1.size a ≤ S2x6.size a := by decide
theorem sem22_inb : ∀ (i : Fin 2) (k : Fin 2) (a), (![i.val, k.val] : Fin 2 → ℕ) a + S1x1.size a ≤ S2x2.size a := by decide
theorem sem4_inb : ∀ (j : Fin 4) (a), (![j.val] : Fin 1 → ℕ) a + S1.size a ≤ S4.size a := by decide
theorem sem2_inb : ∀ (j : Fin 2) (a), (![j.val] : Fin 1 → ℕ) a + S1.size a ≤ S2.size a := by decide

/-- Direction `i`'s half of a two-slot buffer. -/
def half (b : Memref sig .tc .vmem S2x256x4096 .f32) (i : Fin 2) : VBlk :=
  (b.slice (Rect.unit (s := S2x256x4096) ![i.val, 0, 0] S1x256x4096.size (half_inb i)) (fun _ => rfl)).squeeze S256x4096 squeezes_S1x256x4096_S256x4096
/-- Direction `i`'s slot `s` of a four-slot buffer. -/
def quarter (b : Memref sig .tc .vmem S2x2x256x4096 .f32) (i s : Fin 2) : VBlk :=
  (b.slice (Rect.unit (s := S2x2x256x4096) ![i.val, s.val, 0, 0] S1x1x256x4096.size (quarter_inb i s)) (fun _ => rfl)).squeeze S256x4096 squeezes_S1x1x256x4096_S256x4096
/-- Rows `o` of the partial. -/
def xBlk (o : XOff) : HBlk :=
  ((Memref.whole main_arg0 : Memref sig .tc .hbm S1x4096x4096 .f32).slice (Rect.unit (s := S1x4096x4096) o.1 S1x256x4096.size o.2) (fun _ => rfl)).squeeze S256x4096 squeezes_S1x256x4096_S256x4096
/-- Rows `o` of the residual. -/
def rBlk (o : ROff) : HBlk :=
  (Memref.whole main_arg1 : Memref sig .tc .hbm S4096x4096 .f32).slice (Rect.unit (s := S4096x4096) o.1 S256x4096.size o.2) (fun _ => rfl)
/-- Rows `o` of the result. -/
def oBlk (o : ROff) : HBlk :=
  (Memref.whole main_v2 : Memref sig .tc .hbm S4096x4096 .f32).slice (Rect.unit (s := S4096x4096) o.1 S256x4096.size o.2) (fun _ => rfl)

theorem half_wx (b : Memref sig .tc .vmem S2x256x4096 .f32) (i : Fin 2) : (half b i).view.WordExact := (View.wordExact_bits rfl).reshape _ _
theorem quarter_wx (b : Memref sig .tc .vmem S2x2x256x4096 .f32) (i s : Fin 2) : (quarter b i s).view.WordExact := (View.wordExact_bits rfl).reshape _ _
theorem xBlk_wx (o : XOff) : (xBlk o).view.WordExact := (View.wordExact_bits rfl).reshape _ _
theorem rBlk_wx (o : ROff) : (rBlk o).view.WordExact := View.wordExact_bits rfl
theorem oBlk_wx (o : ROff) : (oBlk o).view.WordExact := View.wordExact_bits rfl

/-- The semaphore a send of direction `i`, transfer `k`, completes on at its source. -/
def sendSem (i : Fin 2) (k : Fin 6) : DmaSem sig :=
  ((cc0_scratch4.slice (Rect.unit (s := S2x6) ![i.val, k.val] S1x1.size (sem26_inb i k))).squeeze S_ squeezes_S1x1_S_).sem
/-- The semaphore it completes on where it lands. -/
def recvSem (i : Fin 2) (k : Fin 6) : DmaSem sig :=
  ((cc0_scratch5.slice (Rect.unit (s := S2x6) ![i.val, k.val] S1x1.size (sem26_inb i k))).squeeze S_ squeezes_S1x1_S_).sem
/-- The semaphores of the local copies. -/
def cpSem (j : Fin 4) : DmaSem sig :=
  ((cc0_scratch6.slice (Rect.unit (s := S4) ![j.val] S1.size (sem4_inb j))).squeeze S_ squeezes_S1_S_).sem
/-- The semaphores of the copies of landed blocks to the result. -/
def outSem (i s : Fin 2) : DmaSem sig :=
  ((cc0_scratch7.slice (Rect.unit (s := S2x2) ![i.val, s.val] S1x1.size (sem22_inb i s))).squeeze S_ squeezes_S1x1_S_).sem
/-- The semaphore of direction `i`'s credits. -/
def crSem (i : Fin 2) : Sem sig :=
  ((cc0_scratch8.slice (Rect.unit (s := S2) ![i.val] S1.size (sem2_inb i))).squeeze S_ squeezes_S1_S_).sem
/-- The launch's barrier semaphore. -/
def barSem : Sem sig := (SemArray.scalar (sig.barrier 0 rfl) : Sems sig S_).sem

/-! ## Operations, each with its continuation -/

/-- A local copy between VMEM and HBM, started. -/
def startIn (src : HBlk) (hs : src.view.WordExact) (dst : VBlk) (hd : dst.view.WordExact) (sem : DmaSem sig) (k : PG F) : PG F :=
  .op (.enqueueDma src (.here dst) (.dma sem) hs hd ⟨Or.inl rfl, trivial⟩) fun _ => k
def startOut (src : VBlk) (hs : src.view.WordExact) (dst : HBlk) (hd : dst.view.WordExact) (sem : DmaSem sig) (k : PG F) : PG F :=
  .op (.enqueueDma src (.here dst) (.dma sem) hs hd ⟨Or.inl rfl, trivial⟩) fun _ => k
/-- A transfer to device `d`. -/
def send (src : VBlk) (hs : src.view.WordExact) (d : Dev nD) (dst : VBlk) (hd : dst.view.WordExact) (i : Fin 2) (n : Fin 6) (k : PG F) : PG F :=
  .op (.enqueueDma src (.remote (Dev.tc d) dst (.dma (sendSem i n))) (.dma (recvSem i n)) hs hd ⟨⟨rfl, Or.inl rfl⟩, trivial⟩) fun _ => k
/-- Waits for a transfer's credit. -/
def waitIn (sem : DmaSem sig) (src : HBlk) (hs : src.view.WordExact) (dst : VBlk) (hd : dst.view.WordExact) (k : PG F) : PG F :=
  .op (.waitDma2 sem src dst hs hd) fun _ => k
def waitOut (sem : DmaSem sig) (src : VBlk) (hs : src.view.WordExact) (dst : HBlk) (hd : dst.view.WordExact) (k : PG F) : PG F :=
  .op (.waitDma2 sem src dst hs hd) fun _ => k
def waitV (sem : DmaSem sig) (src : VBlk) (hs : src.view.WordExact) (dst : VBlk) (hd : dst.view.WordExact) (k : PG F) : PG F :=
  .op (.waitDma2 sem src dst hs hd) fun _ => k
/-- One unit onto a regular semaphore of device `d`. -/
def signal (d : Dev nD) (sem : Sem sig) (k : PG F) : PG F := .op (.semSignal (Dev.tc d) sem (1#32).toInt) fun _ => k

/-- A trip of the loops. -/
abbrev Trip : Type := Fin k0_t1_loop.trips

/-- One 128-row tile of a reduction step: the landed rows plus the staged rows. -/
def addBody (o6 : Trip → Off6) (o4 : Trip → Off4) : Trip → Unit → Prog (TpuEff nD τ sig (Elt F) Λ₀ .tc) Unit := fun t _ => do
  let v : Vec F S1x1x128x4096 .f32 ← Prog.lift (.load rB (Rect.unit (s := S2x2x256x4096) (o6 t).1 S1x1x128x4096.size (o6 t).2).toLoadRect (View.loadsAt_vmem h_S1x1x128x4096))
  let w : Vec F S1x128x4096 .f32 ← Prog.lift (.load pB (Rect.unit (s := S2x256x4096) (o4 t).1 S1x128x4096.size (o4 t).2).toLoadRect (View.loadsAt_vmem h_S1x128x4096))
  let _ ← Prog.lift (.load sB (Rect.unit (s := S2x256x4096) (o4 t).1 S1x128x4096.size (o4 t).2).toLoadRect (View.loadsAt_vmem h_S1x128x4096))
  Prog.lift (.store sB (Rect.unit (s := S2x256x4096) (o4 t).1 S1x128x4096.size (o4 t).2) (k0_pay1 v w) Finset.univ (View.stores_vmem_bits_univ h_S1x128x4096 rfl) (.inl rfl))
  pure ⟨⟩

/-- One 128-row tile of the normalization: the summed rows plus the residual's, normalized. -/
def normBody (g : Memref sig .tc .vmem S1x4096 .f32) (o4 : Trip → Off4) : Trip → Unit → Prog (TpuEff nD τ sig (Elt F) Λ₀ .tc) Unit := fun t _ => do
  let v : Vec F S1x128x4096 .f32 ← Prog.lift (.load sB (Rect.unit (s := S2x256x4096) (o4 t).1 S1x128x4096.size (o4 t).2).toLoadRect (View.loadsAt_vmem h_S1x128x4096))
  let w : Vec F S1x128x4096 .f32 ← Prog.lift (.load pB (Rect.unit (s := S2x256x4096) (o4 t).1 S1x128x4096.size (o4 t).2).toLoadRect (View.loadsAt_vmem h_S1x128x4096))
  let γ : Vec F S1x4096 .f32 ← Prog.lift (.load g (Rect.unit (s := S1x4096) ![0, 0] S1x4096.size inb_S1x4096_S1x4096_0_0).toLoadRect (View.loadsAt_vmem h_S1x4096))
  let _ ← Prog.lift (.load sB (Rect.unit (s := S2x256x4096) (o4 t).1 S1x128x4096.size (o4 t).2).toLoadRect (View.loadsAt_vmem h_S1x128x4096))
  Prog.lift (.store sB (Rect.unit (s := S2x256x4096) (o4 t).1 S1x128x4096.size (o4 t).2) (k0_pay7 v w γ) Finset.univ (View.stores_vmem_bits_univ h_S1x128x4096 rfl) (.inl rfl))
  pure ⟨⟩

def addLoop (o6 : Trip → Off6) (o4 : Trip → Off4) (k : PG F) : PG F :=
  Scf.Loop.for k0_t1_loop k0_t1_ok ⟨⟩ (addBody o6 o4) >>= fun _ => k
def normLoop (g : Memref sig .tc .vmem S1x4096 .f32) (o4 : Trip → Off4) (k : PG F) : PG F :=
  Scf.Loop.for k0_t1_loop k0_t1_ok ⟨⟩ (normBody g o4) >>= fun _ => k

/-! ## One round -/

/-- What one round's text depends on: peers, row offsets, tile offsets. -/
structure Pars where
  /-- The peer of each transfer and of each signal, in the order printed. -/
  dv : Fin 16 → Dev nD
  /-- The partial's rows of direction `i`, step `s`. -/
  x : Fin 2 → Fin 4 → XOff
  /-- The rows direction `i` normalizes (0) and receives at second-phase step `s` (`s + 1`). -/
  o : Fin 2 → Fin 4 → ROff
  /-- The landed tiles of direction `i`, step `s`. -/
  a6 : Fin 2 → Fin 3 → Trip → Off6
  /-- The staged tiles of direction `i`, step `s`. -/
  a4 : Fin 2 → Fin 3 → Trip → Off4
  /-- The tiles normalized. -/
  n4 : Fin 2 → Trip → Off4

variable (g : Memref sig .tc .vmem S1x4096 .f32) (q : Pars)

/-- Starts the copy of the partial's step-`s` rows to staging buffer `b`, on semaphore `j`. -/
def startX (i : Fin 2) (s : Fin 4) (b : Memref sig .tc .vmem S2x256x4096 .f32) (j : Fin 4) (k : PG F) : PG F :=
  startIn (xBlk (q.x i s)) (xBlk_wx _) (half b i) (half_wx _ _) (cpSem j) k
def waitX (i : Fin 2) (s : Fin 4) (b : Memref sig .tc .vmem S2x256x4096 .f32) (j : Fin 4) (k : PG F) : PG F :=
  waitIn (cpSem j) (xBlk (q.x i s)) (xBlk_wx _) (half b i) (half_wx _ _) k

/-- The copy semaphore of direction `i`'s first staging buffer, and of its second. -/
abbrev cA (i : Fin 2) : Fin 4 := ⟨i.val, by omega⟩
abbrev cB (i : Fin 2) : Fin 4 := ⟨i.val + 2, by omega⟩

/-- First-phase transfer `n` of direction `i`: the running sums to the peer's slot `s`. -/
def sendR (i : Fin 2) (n : Fin 6) (s : Fin 2) (j : Fin 16) (k : PG F) : PG F :=
  send (half sB i) (half_wx _ _) (q.dv j) (quarter rB i s) (quarter_wx _ _ _) i n k
def waitsR (i : Fin 2) (n : Fin 6) (s : Fin 2) (k : PG F) : PG F :=
  waitV (sendSem i n) (quarter rB i s) (quarter_wx _ _ _) (half sB i) (half_wx _ _) <|
  waitV (recvSem i n) (half sB i) (half_wx _ _) (quarter rB i s) (quarter_wx _ _ _) k

/-- The normalization of direction `i`'s rows: residual in, tiles, result out. -/
def normP (i : Fin 2) (k : PG F) : PG F :=
  startIn (rBlk (q.o i 0)) (rBlk_wx _) (half pB i) (half_wx _ _) (cpSem (cA i)) <|
  waitIn (cpSem (cA i)) (rBlk (q.o i 0)) (rBlk_wx _) (half pB i) (half_wx _ _) <|
  normLoop g (q.n4 i) <|
  startOut (half sB i) (half_wx _ _) (oBlk (q.o i 0)) (oBlk_wx _) (cpSem (cB i)) k

/-- Second-phase transfer `n` of direction `i`, from `src` to the peer's slot `s`. -/
def sendG (i : Fin 2) (n : Fin 6) (src : VBlk) (hs : src.view.WordExact) (s : Fin 2) (j : Fin 16) (k : PG F) : PG F :=
  send src hs (q.dv j) (quarter gB i s) (quarter_wx _ _ _) i n k
def waitsG (i : Fin 2) (n : Fin 6) (src : VBlk) (hs : src.view.WordExact) (s : Fin 2) (k : PG F) : PG F :=
  waitV (sendSem i n) (quarter gB i s) (quarter_wx _ _ _) src hs <|
  waitV (recvSem i n) src hs (quarter gB i s) (quarter_wx _ _ _) k
/-- The copy of slot `s`, holding the rows of step `m`, to the result. -/
def startO (i : Fin 2) (s : Fin 2) (m : Fin 4) (k : PG F) : PG F :=
  startOut (quarter gB i s) (quarter_wx _ _ _) (oBlk (q.o i m)) (oBlk_wx _) (outSem i s) k
def waitO (i : Fin 2) (s : Fin 2) (m : Fin 4) (k : PG F) : PG F :=
  waitOut (outSem i s) (quarter gB i s) (quarter_wx _ _ _) (oBlk (q.o i m)) (oBlk_wx _) k
def waitC (i : Fin 2) (k : PG F) : PG F := .op (.semWait (crSem i) (1#32).toInt) fun _ => k

/-- First-phase step 0 of direction `i`. -/
def rs0 (i : Fin 2) (j : Fin 16) (k : PG F) : PG F :=
  waitsR i 0 0 <| addLoop (q.a6 i 0) (q.a4 i 0) <| signal (q.dv j) (crSem i) <| startX q i 2 pB (cB i) k
def rs1 (i : Fin 2) (k : PG F) : PG F :=
  waitsR i 1 1 <| waitX q i 2 pB (cB i) <| addLoop (q.a6 i 1) (q.a4 i 1) <| startX q i 3 pB (cB i) k
def rs2 (i : Fin 2) (k : PG F) : PG F :=
  waitsR i 2 0 <| waitX q i 3 pB (cB i) <| addLoop (q.a6 i 2) (q.a4 i 2) k
def ag0 (i : Fin 2) (k : PG F) : PG F :=
  waitsG i 3 (half sB i) (half_wx _ _) 0 <| startO q i 0 1 k
def ag1 (i : Fin 2) (j : Fin 16) (k : PG F) : PG F :=
  waitsG i 4 (quarter gB i 0) (quarter_wx _ _ _) 1 <| waitO q i 0 1 <| signal (q.dv j) (crSem i) <| startO q i 1 2 k
def ag2 (i : Fin 2) (k : PG F) : PG F :=
  waitsG i 5 (quarter gB i 1) (quarter_wx _ _ _) 0 <| startO q i 0 3 k

/-- The loads that open a round. -/
def prologue (k : PG F) : PG F :=
  startX q 0 0 sB (cA 0) <| startX q 0 1 pB (cB 0) <| startX q 1 0 sB (cA 1) <| startX q 1 1 pB (cB 1) <|
  waitX q 0 0 sB (cA 0) <| waitX q 0 1 pB (cB 0) <| waitX q 1 0 sB (cA 1) <| waitX q 1 1 pB (cB 1) k

/-- The first phase. -/
def phase1 (k : PG F) : PG F :=
  sendR q 0 0 0 0 <| sendR q 1 0 0 1 <| rs0 q 0 2 <| rs0 q 1 3 <|
  sendR q 0 1 1 4 <| sendR q 1 1 1 5 <| rs1 q 0 <| rs1 q 1 <|
  waitC 0 <| sendR q 0 2 0 6 <| waitC 1 <| sendR q 1 2 0 7 <| rs2 q 0 <| rs2 q 1 k

/-- The second phase. -/
def phase2 (k : PG F) : PG F :=
  sendG q 0 3 (half sB 0) (half_wx _ _) 0 8 <| sendG q 1 3 (half sB 1) (half_wx _ _) 0 9 <| ag0 q 0 <| ag0 q 1 <|
  sendG q 0 4 (quarter gB 0 0) (quarter_wx _ _ _) 1 10 <| sendG q 1 4 (quarter gB 1 0) (quarter_wx _ _ _) 1 11 <| ag1 q 0 12 <| ag1 q 1 13 <|
  waitC 0 <| sendG q 0 5 (quarter gB 0 1) (quarter_wx _ _ _) 0 14 <| waitC 1 <| sendG q 1 5 (quarter gB 1 1) (quarter_wx _ _ _) 0 15 <| ag2 q 0 <| ag2 q 1 k

/-- The waits that close a round. -/
def epilogue (k : PG F) : PG F :=
  waitO q 0 0 3 <| waitO q 0 1 2 <| waitO q 1 0 3 <| waitO q 1 1 2 <|
  waitOut (cpSem (cB 0)) (half sB 0) (half_wx _ _) (oBlk (q.o 0 0)) (oBlk_wx _) <|
  waitOut (cpSem (cB 1)) (half sB 1) (half_wx _ _) (oBlk (q.o 1 0)) (oBlk_wx _) k

/-- One round. -/
def roundP (k : PG F) : PG F := prologue q <| phase1 q <| normP g q 0 <| normP g q 1 <| phase2 q <| epilogue q k

/-! ## The two rounds as printed -/

/-- The printed offsets of the first round. -/
def pars0 (c : Dev nD) : Pars where
  dv := ![⟨k0_dev3 c, k0_dev3_lt c⟩, ⟨k0_dev4 c, k0_dev4_lt c⟩, ⟨k0_dev5 c, k0_dev5_lt c⟩, ⟨k0_dev6 c, k0_dev6_lt c⟩,
    ⟨k0_dev7 c, k0_dev7_lt c⟩, ⟨k0_dev8 c, k0_dev8_lt c⟩, ⟨k0_dev9 c, k0_dev9_lt c⟩, ⟨k0_dev10 c, k0_dev10_lt c⟩,
    ⟨k0_dev11 c, k0_dev11_lt c⟩, ⟨k0_dev12 c, k0_dev12_lt c⟩, ⟨k0_dev13 c, k0_dev13_lt c⟩, ⟨k0_dev14 c, k0_dev14_lt c⟩,
    ⟨k0_dev15 c, k0_dev15_lt c⟩, ⟨k0_dev16 c, k0_dev16_lt c⟩, ⟨k0_dev17 c, k0_dev17_lt c⟩, ⟨k0_dev18 c, k0_dev18_lt c⟩]
  x := ![fun s => ⟨_, k0_off1_inb c 0 s⟩, fun s => ⟨_, k0_off2_inb c 0 s⟩]
  o := ![![⟨k0_off15 c 0#32 1#32 0#32, k0_off15_inb c 0⟩, ⟨k0_off17 c 0#32 0#32 0#32, k0_off17_inb c 1⟩, ⟨k0_off17 c 0#32 1#32 0#32, k0_off17_inb c 2⟩, ⟨k0_off17 c 0#32 2#32 0#32, k0_off17_inb c 3⟩],
    ![⟨k0_off17 c 0#32 1#32 256#32, k0_off17_inb c 0⟩, ⟨k0_off15 c 0#32 0#32 256#32, k0_off15_inb c 1⟩, ⟨k0_off15 c 0#32 1#32 256#32, k0_off15_inb c 2⟩, ⟨k0_off15 c 0#32 2#32 256#32, k0_off15_inb c 3⟩]]
  a6 := ![![fun t => ⟨_, k0_off3_inb t⟩, fun t => ⟨_, k0_off7_inb t⟩, fun t => ⟨_, k0_off11_inb t⟩],
    ![fun t => ⟨_, k0_off5_inb t⟩, fun t => ⟨_, k0_off9_inb t⟩, fun t => ⟨_, k0_off13_inb t⟩]]
  a4 := ![![fun t => ⟨_, k0_off4_inb t⟩, fun t => ⟨_, k0_off8_inb t⟩, fun t => ⟨_, k0_off12_inb t⟩],
    ![fun t => ⟨_, k0_off6_inb t⟩, fun t => ⟨_, k0_off10_inb t⟩, fun t => ⟨_, k0_off14_inb t⟩]]
  n4 := ![fun t => ⟨_, k0_off16_inb t⟩, fun t => ⟨_, k0_off18_inb t⟩]

/-- The printed offsets of the second round. -/
def pars1 (c : Dev nD) : Pars where
  dv := ![⟨k0_dev19 c, k0_dev19_lt c⟩, ⟨k0_dev20 c, k0_dev20_lt c⟩, ⟨k0_dev21 c, k0_dev21_lt c⟩, ⟨k0_dev22 c, k0_dev22_lt c⟩,
    ⟨k0_dev23 c, k0_dev23_lt c⟩, ⟨k0_dev24 c, k0_dev24_lt c⟩, ⟨k0_dev25 c, k0_dev25_lt c⟩, ⟨k0_dev26 c, k0_dev26_lt c⟩,
    ⟨k0_dev27 c, k0_dev27_lt c⟩, ⟨k0_dev28 c, k0_dev28_lt c⟩, ⟨k0_dev29 c, k0_dev29_lt c⟩, ⟨k0_dev30 c, k0_dev30_lt c⟩,
    ⟨k0_dev31 c, k0_dev31_lt c⟩, ⟨k0_dev32 c, k0_dev32_lt c⟩, ⟨k0_dev33 c, k0_dev33_lt c⟩, ⟨k0_dev34 c, k0_dev34_lt c⟩]
  x := ![fun s => ⟨_, k0_off1_inb c 1 s⟩, fun s => ⟨_, k0_off2_inb c 1 s⟩]
  o := ![![⟨k0_off15 c 2048#32 1#32 0#32, k0_off15_inb c 4⟩, ⟨k0_off17 c 2048#32 0#32 0#32, k0_off17_inb c 5⟩, ⟨k0_off17 c 2048#32 1#32 0#32, k0_off17_inb c 6⟩, ⟨k0_off17 c 2048#32 2#32 0#32, k0_off17_inb c 7⟩],
    ![⟨k0_off17 c 2048#32 1#32 256#32, k0_off17_inb c 4⟩, ⟨k0_off15 c 2048#32 0#32 256#32, k0_off15_inb c 5⟩, ⟨k0_off15 c 2048#32 1#32 256#32, k0_off15_inb c 6⟩, ⟨k0_off15 c 2048#32 2#32 256#32, k0_off15_inb c 7⟩]]
  a6 := ![![fun t => ⟨_, k0_off19_inb t⟩, fun t => ⟨_, k0_off23_inb t⟩, fun t => ⟨_, k0_off27_inb t⟩],
    ![fun t => ⟨_, k0_off21_inb t⟩, fun t => ⟨_, k0_off25_inb t⟩, fun t => ⟨_, k0_off29_inb t⟩]]
  a4 := ![![fun t => ⟨_, k0_off20_inb t⟩, fun t => ⟨_, k0_off24_inb t⟩, fun t => ⟨_, k0_off28_inb t⟩],
    ![fun t => ⟨_, k0_off22_inb t⟩, fun t => ⟨_, k0_off26_inb t⟩, fun t => ⟨_, k0_off30_inb t⟩]]
  n4 := ![fun t => ⟨_, k0_off31_inb t⟩, fun t => ⟨_, k0_off32_inb t⟩]

/-- The kernel body of device `c` after it has read its index. -/
def bodyP (c : Dev nD) : PG F :=
  signal ⟨k0_dev1 c, k0_dev1_lt c⟩ barSem <| signal ⟨k0_dev2 c, k0_dev2_lt c⟩ barSem <|
  .op (.semWait barSem (2#32).toInt) fun _ => roundP g (pars0 c) <| roundP g (pars1 c) <| .ret ⟨⟩

/-! ## The printed body -/

theorem op_congr {E : Type → Type} {A : Type} {X : Type} {e e' : E X} {k k' : X → Prog E A}
    (he : e = e') (hk : ∀ x, k x = k' x) : Prog.op e k = Prog.op e' k' := by
  subst he; rw [funext hk]

section
variable {E : Type → Type} {A B C D : Type} {l : Scf.Loop 32} {ok : l.OK} {b b' : Fin l.trips → Unit → Prog E Unit}
theorem loop_congr1 {k k' : Unit → Prog E A} (hb : b = b') (hk : ∀ x, k x = k' x) :
    (Scf.Loop.for l ok ⟨⟩ b).bind k = (Scf.Loop.for l ok ⟨⟩ b').bind k' := by subst hb; rw [funext hk]
theorem loop_congr2 {k : Unit → Prog E B} {k2 : B → Prog E A} {k' : Unit → Prog E A} (hb : b = b') (hk : ∀ x, (k x).bind k2 = k' x) :
    ((Scf.Loop.for l ok ⟨⟩ b).bind k).bind k2 = (Scf.Loop.for l ok ⟨⟩ b').bind k' := (Prog.bind_assoc _ _ _).trans (loop_congr1 hb hk)
theorem loop_congr3 {k : Unit → Prog E C} {k2 : C → Prog E B} {k3 : B → Prog E A} {k' : Unit → Prog E A} (hb : b = b') (hk : ∀ x, ((k x).bind k2).bind k3 = k' x) :
    (((Scf.Loop.for l ok ⟨⟩ b).bind k).bind k2).bind k3 = (Scf.Loop.for l ok ⟨⟩ b').bind k' := (congrArg (fun p => Prog.bind p k3) (Prog.bind_assoc _ _ _)).trans (loop_congr2 hb hk)
end
/-- The printed body is the parametric one. -/
theorem body_eq (h1 h2 h3 h4 h5 h6 h7) (hg : g.IsWhole) :
    cc0_body (F := F) (Memref.whole main_arg0) h1 (Memref.whole main_arg1) h2 g hg (Memref.whole main_v2) h3 (Memref.whole cc0_scratch0) h4 (Memref.whole cc0_scratch1) h5 (Memref.whole cc0_scratch2) h6 (Memref.whole cc0_scratch3) h7 cc0_scratch4 cc0_scratch5 cc0_scratch6 cc0_scratch7 cc0_scratch8
      = .op .deviceId fun c => bodyP g c := by
  rw [cc0_body_eq_skeleton]
  repeat (first | (refine op_congr ?_ fun _ => ?_; focus chain_rfl) | (refine loop_congr1 ?_ fun _ => ?_; focus chain_rfl) | (refine loop_congr2 ?_ fun _ => ?_; focus chain_rfl) | (refine loop_congr3 ?_ fun _ => ?_; focus chain_rfl))
  chain_rfl
end Cert.KernelIdeal.Ring
end
-- ==== Proof.ParsIdeal.lean ====
module

public import proofs.«01_k».proof.Proof.ProgIdeal

@[expose] public section

set_option maxRecDepth 65536

/-!
# The parameters of a round, in closed form

Devices stand on rings of four (the last mesh axis). `tgt i c` is the device that direction `i` sends
to from `c`, `src i c` the one it receives from. A 256-row block is named by round, direction and the
device whose position selects the chunk.
-/

noncomputable section

namespace Cert.KernelIdeal.Ring

open Idealize.ShloMosaic Idealize.ShloMosaic.TcCoe
open Cert.KernelIdeal Cert.KernelIdeal.Gen

theorem tgt_lt (i : Fin 2) (c : Dev nD) : 4 * (c.val / 4) + (c.val % 4 + (if i = 0 then 1 else 3)) % 4 < nD := by
  have h : c.val < 32 := c.isLt
  show _ < 32
  omega
/-- The neighbour direction `i` sends to: the next device of the ring for 0, the previous for 1. -/
def tgt (i : Fin 2) (c : Dev nD) : Dev nD := ⟨4 * (c.val / 4) + (c.val % 4 + (if i = 0 then 1 else 3)) % 4, tgt_lt i c⟩
/-- The neighbour direction `i` receives from. -/
def src (i : Fin 2) (c : Dev nD) : Dev nD := tgt (1 - i) c

theorem tgt_src : ∀ (i : Fin 2) (c : Dev nD), tgt i (src i c) = c := by decide +kernel
theorem src_tgt : ∀ (i : Fin 2) (c : Dev nD), src i (tgt i c) = c := by decide +kernel
theorem tgt_eq_src3 : ∀ (i : Fin 2) (c : Dev nD), src i (src i (src i c)) = tgt i c := by decide +kernel

/-- `src i` as often as said. -/
def srcN (i : Fin 2) : ℕ → Dev nD → Dev nD
  | 0, c => c
  | n + 1, c => srcN i n (src i c)

/-- The first row of the block of round `r`, direction `i`, chunk of device `d`. -/
def row (r i : Fin 2) (d : Dev nD) : ℕ := 2048 * r.val + 512 * (d.val % 4) + 256 * i.val
theorem row_le (r i : Fin 2) (d : Dev nD) : row r i d + 256 ≤ 4096 := by unfold row; omega

def xo (r i : Fin 2) (d : Dev nD) : XOff := ⟨![0, row r i d, 0], fun a => by
  have := row_le r i d
  fin_cases a
  · show 0 + 1 ≤ 1; omega
  · exact this
  · show 0 + 4096 ≤ 4096; omega⟩
def ro (r i : Fin 2) (d : Dev nD) : ROff := ⟨![row r i d, 0], fun a => by
  have := row_le r i d
  fin_cases a
  · exact this
  · show 0 + 4096 ≤ 4096; omega⟩

theorem trips_eq : k0_t1_loop.trips = 2 := by decide +kernel
theorem trip_lt (t : Trip) : t.val < 2 := trips_eq ▸ t.isLt

def to6 (i s : Fin 2) (t : Trip) : Off6 := ⟨![i.val, s.val, 128 * t.val, 0], fun a => by
  have := trip_lt t
  fin_cases a
  · show i.val + 1 ≤ 2; omega
  · show s.val + 1 ≤ 2; omega
  · show 128 * t.val + 128 ≤ 256; omega
  · show 0 + 4096 ≤ 4096; omega⟩
def to4 (i : Fin 2) (t : Trip) : Off4 := ⟨![i.val, 128 * t.val, 0], fun a => by
  have := trip_lt t
  fin_cases a
  · show i.val + 1 ≤ 2; omega
  · show 128 * t.val + 128 ≤ 256; omega
  · show 0 + 4096 ≤ 4096; omega⟩

/-- The direction of the transfer or signal in place `m` of a round. -/
abbrev dirOf (m : Fin 16) : Fin 2 := ⟨m.val % 2, Nat.mod_lt _ (by decide)⟩
/-- Whether it is a signal: those go back to the sender. -/
abbrev isSig (m : Fin 16) : Bool := m.val / 2 = 1 ∨ m.val / 2 = 6

/-- The parameters of round `r` on device `c`. -/
def pars (c : Dev nD) (r : Fin 2) : Pars where
  dv m := if isSig m then src (dirOf m) c else tgt (dirOf m) c
  x i s := xo r i (srcN i s c)
  o i m := ro r i (tgt i (srcN i m c))
  a6 i s t := to6 i ⟨s.val % 2, Nat.mod_lt _ (by decide)⟩ t
  a4 i _ t := to4 i t
  n4 i t := to4 i t

theorem Pars.ext' {p q : Pars} (h1 : p.dv = q.dv) (h2 : p.x = q.x) (h3 : p.o = q.o) (h4 : p.a6 = q.a6) (h5 : p.a4 = q.a4) (h6 : p.n4 = q.n4) :
    p = q := by cases p; cases q; simp only [Pars.mk.injEq]; exact ⟨h1, h2, h3, h4, h5, h6⟩

theorem dv0 : ∀ (c : Dev nD) (m : Fin 16), (pars0 c).dv m = (pars c 0).dv m := by decide +kernel
theorem dv1 : ∀ (c : Dev nD) (m : Fin 16), (pars1 c).dv m = (pars c 1).dv m := by decide +kernel
theorem x0 : ∀ (c : Dev nD) (i : Fin 2) (s : Fin 4), (pars0 c).x i s = (pars c 0).x i s := by decide +kernel
theorem x1 : ∀ (c : Dev nD) (i : Fin 2) (s : Fin 4), (pars1 c).x i s = (pars c 1).x i s := by decide +kernel
theorem o0 : ∀ (c : Dev nD) (i : Fin 2) (s : Fin 4), (pars0 c).o i s = (pars c 0).o i s := by decide +kernel
theorem o1 : ∀ (c : Dev nD) (i : Fin 2) (s : Fin 4), (pars1 c).o i s = (pars c 1).o i s := by decide +kernel

theorem a60 : ∀ (c : Dev nD) (i : Fin 2) (s : Fin 3) (t : Trip), (pars0 c).a6 i s t = (pars c 0).a6 i s t := by decide +kernel
theorem a61 : ∀ (c : Dev nD) (i : Fin 2) (s : Fin 3) (t : Trip), (pars1 c).a6 i s t = (pars c 1).a6 i s t := by decide +kernel
theorem a40 : ∀ (c : Dev nD) (i : Fin 2) (s : Fin 3) (t : Trip), (pars0 c).a4 i s t = (pars c 0).a4 i s t := by decide +kernel
theorem a41 : ∀ (c : Dev nD) (i : Fin 2) (s : Fin 3) (t : Trip), (pars1 c).a4 i s t = (pars c 1).a4 i s t := by decide +kernel
theorem n40 : ∀ (c : Dev nD) (i : Fin 2) (t : Trip), (pars0 c).n4 i t = (pars c 0).n4 i t := by decide +kernel
theorem n41 : ∀ (c : Dev nD) (i : Fin 2) (t : Trip), (pars1 c).n4 i t = (pars c 1).n4 i t := by decide +kernel

theorem pars0_eq (c : Dev nD) : pars0 c = pars c 0 :=
  Pars.ext' (funext (dv0 c)) (funext fun i => funext (x0 c i)) (funext fun i => funext (o0 c i))
    (funext fun i => funext fun s => funext (a60 c i s)) (funext fun i => funext fun s => funext (a40 c i s)) (funext fun i => funext (n40 c i))
theorem pars1_eq (c : Dev nD) : pars1 c = pars c 1 :=
  Pars.ext' (funext (dv1 c)) (funext fun i => funext (x1 c i)) (funext fun i => funext (o1 c i))
    (funext fun i => funext fun s => funext (a61 c i s)) (funext fun i => funext fun s => funext (a41 c i s)) (funext fun i => funext (n41 c i))

/-- The barrier's two signals: to the neighbours either way. -/
theorem bar_left : ∀ c : Dev nD, (⟨k0_dev1 c, k0_dev1_lt c⟩ : Dev nD) = tgt 1 c := by decide +kernel
theorem bar_right : ∀ c : Dev nD, (⟨k0_dev2 c, k0_dev2_lt c⟩ : Dev nD) = tgt 0 c := by decide +kernel

end Cert.KernelIdeal.Ring
end
-- ==== Proof.GeomIdeal.lean ====
module

public import proofs.«01_k».proof.Proof.ParsIdeal
public import Idealize.ShloMosaic.Lib.ValueLayout
public import Idealize.ShloMosaic.Lib.Transfers
public import Idealize.ShloMosaic.Lib.Rounds
public import Idealize.ShloMosaic.Lib.Pipeline.Kit
public import Idealize.ShloMosaic.Lib.Tactic

@[expose] public section

set_option maxRecDepth 16384

/-!
# Blocks, their contents, and the two loops

`hold c V q X` says that share `q` of block `V` of device `c` is held and reads `X`. The two loops of
the kernel go through a block by 128-row tiles; each is summed up as one step on blocks (`addB`, `normB`).
-/

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The user algebra: the staging pipeline's rounds, the exchange's, and the local copies' counters. -/
abbrev UU : Type := UR sig nD τ × (Rounds.URounds (GSem nD τ sig) (Fin 2) × Counters)

local notation "𝕄" => MT nD τ sig ℕ (Elt F) ℕ UU ℕ

abbrev 𝒱₀ : Variants := Variants.none

/-- Contents of a 256-row block. -/
abbrev Blk (F : FTy → Type) [FloatOps F] : Type := Vec F S256x4096 .f32
/-- Contents of a 128-row tile. -/
abbrev Tile (F : FTy → Type) [FloatOps F] : Type := Vec F S1x128x4096 .f32

section Blocks
variable {sp : Space}

def hold (c : Dev nD) (V : Memref sig .tc sp S256x4096 .f32) (q : PosShare TreeShare) (X : Blk F) : sProp 𝕄 :=
  iprop(∃ f : Buf (Elt F) (V.view.loc (c : Thread nD τ)), ⌜V.view.read (Elt F) f = X⌝ ∗ (V.view.loc (c : Thread nD τ) ↦[V.view.set]{q} f))
def anyB (c : Dev nD) (V : Memref sig .tc sp S256x4096 .f32) : sProp 𝕄 :=
  iprop(∃ f : Buf (Elt F) (V.view.loc (c : Thread nD τ)), V.view.loc (c : Thread nD τ) ↦[V.view.set]{fullShare} f)

theorem hold_any (c : Dev nD) (V : Memref sig .tc sp S256x4096 .f32) (X : Blk F) : hold c V fullShare X ⊢ anyB (F := F) c V := by
  unfold hold anyB
  iintro ⟨%f, -, H⟩; iexists f; iexact H
theorem any_hold (c : Dev nD) (V : Memref sig .tc sp S256x4096 .f32) : anyB (F := F) c V ⊢ iprop(∃ X, hold c V fullShare X) := by
  unfold hold anyB
  iintro ⟨%f, H⟩; iexists (V.view.read (Elt F) f); iexists f
  isplitr; · ipureintro; rfl
  iexact H

/-- Reads agree where contents do. -/
theorem read_eq (V : Memref sig .tc sp S256x4096 .f32) {f g : V.view.ty.Contents (Elt F)} (h : V.view.read (Elt F) f = V.view.read (Elt F) g) :
    ∀ i ∈ V.view.set, f i = g i := by
  intro i hi
  obtain ⟨j, -, rfl⟩ := Finset.mem_map.mp hi
  exact (Equiv.cast _).injective (congrFun h j)

/-- A block held whole is held in two halves, -/
theorem hold_split (c : Dev nD) (V : Memref sig .tc sp S256x4096 .f32) (X : Blk F) :
    hold c V fullShare X ⊢ iprop(hold c V fullShare.left X ∗ hold c V fullShare.right X) := by
  unfold hold
  iintro ⟨%f, %h, H⟩
  ihave H' := (pointsTo_share (PosShare.mem_left_op_right fullShare)).1 $$ H
  icases H' with ⟨H1, H2⟩
  isplitl [H1]
  · iexists f; isplitr; · ipureintro; exact h
    iexact H1
  · iexists f; isplitr; · ipureintro; exact h
    iexact H2
/-- and back. -/
theorem hold_join (c : Dev nD) (V : Memref sig .tc sp S256x4096 .f32) (X : Blk F) :
    iprop(hold c V fullShare.left X ∗ hold c V fullShare.right X) ⊢ hold c V fullShare X := by
  unfold hold
  iintro ⟨⟨%f, %h, H1⟩, ⟨%f', %h', H2⟩⟩
  ihave H2 := (Entails.of_eq (pointsTo_congr (read_eq V (h'.trans h.symm)))) $$ H2
  iexists f; isplitr; · ipureintro; exact h
  iapply (pointsTo_share (PosShare.mem_left_op_right fullShare)).2
  isplitl [H1]; · iexact H1
  iexact H2

end Blocks

/-! ## Where the elements of a block sit -/

open Idealize.ShloMosaic.ValueIdx

section Emb
variable (b : Memref sig .tc .vmem S2x256x4096 .f32) (b4 : Memref sig .tc .vmem S2x2x256x4096 .f32) (i s : Fin 2)

theorem resh3 (h : S256x4096.numel = S1x256x4096.numel) (a : Fin 256) (d : Fin 4096) :
    Shape.reshapeEquiv h (ix2 a d : S256x4096.Idx) = (ix3 (0 : Fin 1) a d : S1x256x4096.Idx) :=
  Shape.reshapeEquiv_eq_of_rowMajor h ((Shape.rowMajor_val_three _).trans (Eq.trans (by
    show (0 * 256 + a.val) * 4096 + d.val = a.val * 4096 + d.val; omega) (Shape.rowMajor_val_two _).symm))
theorem resh4 (h : S256x4096.numel = S1x1x256x4096.numel) (a : Fin 256) (d : Fin 4096) :
    Shape.reshapeEquiv h (ix2 a d : S256x4096.Idx) = (ix4 (0 : Fin 1) (0 : Fin 1) a d : S1x1x256x4096.Idx) :=
  Shape.reshapeEquiv_eq_of_rowMajor h ((Shape.rowMajor_val_four _).trans (Eq.trans (by
    show ((0 * 1 + 0) * 256 + a.val) * 4096 + d.val = a.val * 4096 + d.val; omega) (Shape.rowMajor_val_two _).symm))

theorem half_emb (a : Fin 256) (d : Fin 4096) : (half b i).view.emb (ix2 a d) = b.view.emb (ix3 i a d) := by
  refine congrArg b.view.emb ((congrArg (Rect.emb _) (resh3 _ a d)).trans ?_)
  funext x
  apply Fin.ext
  rw [Rect.emb_apply]
  fin_cases x
  · show i.val + 1 * 0 = i.val; omega
  · show 0 + 1 * a.val = a.val; omega
  · show 0 + 1 * d.val = d.val; omega
theorem quarter_emb (a : Fin 256) (d : Fin 4096) : (quarter b4 i s).view.emb (ix2 a d) = b4.view.emb (ix4 i s a d) := by
  refine congrArg b4.view.emb ((congrArg (Rect.emb _) (resh4 _ a d)).trans ?_)
  funext x
  apply Fin.ext
  rw [Rect.emb_apply]
  fin_cases x
  · show i.val + 1 * 0 = i.val; omega
  · show s.val + 1 * 0 = s.val; omega
  · show 0 + 1 * a.val = a.val; omega
  · show 0 + 1 * d.val = d.val; omega

/-- Row `a` of tile `t`. -/
def trow (t : ℕ) (ht : t < 2) (a : Fin 128) : Fin 256 := ⟨128 * t + a.val, by omega⟩

abbrev rect4 (t : Trip) : Rect S2x256x4096 := Rect.unit (s := S2x256x4096) (to4 i t).1 S1x128x4096.size (to4 i t).2
abbrev rect6 (t : Trip) : Rect S2x2x256x4096 := Rect.unit (s := S2x2x256x4096) (to6 i s t).1 S1x1x128x4096.size (to6 i s t).2

theorem tile4_emb (t : Trip) (x : S1x128x4096.Idx) :
    (b.access (rect4 i t)).emb x = (half b i).view.emb (ix2 (trow t.val (trip_lt t) (x 1)) (x 2)) := by
  refine Eq.trans ?_ (half_emb b i _ _).symm
  refine congrArg b.view.emb ?_
  funext y
  apply Fin.ext
  rw [Rect.emb_apply]
  have h0 : (x 0).val = 0 := by have : (x 0).val < 1 := (x 0).isLt; omega
  fin_cases y
  · show i.val + 1 * (x 0).val = i.val; omega
  · show 128 * t.val + 1 * (x 1).val = 128 * t.val + (x 1).val; omega
  · show 0 + 1 * (x 2).val = (x 2).val; omega
theorem tile6_emb (t : Trip) (x : S1x1x128x4096.Idx) :
    (b4.access (rect6 i s t)).emb x = (quarter b4 i s).view.emb (ix2 (trow t.val (trip_lt t) (x 2)) (x 3)) := by
  refine Eq.trans ?_ (quarter_emb b4 i s _ _).symm
  refine congrArg b4.view.emb ?_
  funext y
  apply Fin.ext
  rw [Rect.emb_apply]
  have h0 : (x 0).val = 0 := by have : (x 0).val < 1 := (x 0).isLt; omega
  have h1 : (x 1).val = 0 := by have : (x 1).val < 1 := (x 1).isLt; omega
  fin_cases y
  · show i.val + 1 * (x 0).val = i.val; omega
  · show s.val + 1 * (x 1).val = s.val; omega
  · show 128 * t.val + 1 * (x 2).val = 128 * t.val + (x 2).val; omega
  · show 0 + 1 * (x 3).val = (x 3).val; omega

theorem tile4_sub (t : Trip) : (b.access (rect4 i t)).set ⊆ (half b i).view.set := by
  intro y hy
  obtain ⟨x, -, rfl⟩ := Finset.mem_map.mp hy
  rw [tile4_emb]; exact View.emb_mem_set _ _
theorem tile6_sub (t : Trip) : (b4.access (rect6 i s t)).set ⊆ (quarter b4 i s).view.set := by
  intro y hy
  obtain ⟨x, -, rfl⟩ := Finset.mem_map.mp hy
  rw [tile6_emb]; exact View.emb_mem_set _ _
end Emb

/-! ## Tiles of a block -/

/-- Tile `t` of a block. -/
def tile (t : ℕ) (ht : t < 2) (X : Blk F) : Tile F := fun x => X (ix2 (trow t ht (x 1)) (x 2))
def tile6 (t : ℕ) (ht : t < 2) (X : Blk F) : Vec F S1x1x128x4096 .f32 := fun x => X (ix2 (trow t ht (x 2)) (x 3))

/-- The tile a row is in, and its row there. -/
theorem half_lt (a : Fin 256) : a.val / 128 < 2 := by omega
def untile (w : (t : ℕ) → t < 2 → Tile F) : Blk F := fun j => w ((j 0).val / 128) (half_lt (j 0)) (ix3 (0 : Fin 1) (⟨(j 0).val % 128, Nat.mod_lt _ (by decide)⟩ : Fin 128) (j 1))

/-- Landed rows plus staged rows, tile by tile. -/
def addB (A B : Blk F) : Blk F := untile fun t ht => k0_pay1 (tile6 t ht A) (tile t ht B)
/-- Summed rows plus residual rows, normalized, tile by tile. -/
def normB (A B : Blk F) (γ : Vec F S1x4096 .f32) : Blk F := untile fun t ht => k0_pay7 (tile t ht A) (tile t ht B) γ

theorem tile_untile (w : (t : ℕ) → t < 2 → Tile F) (t : ℕ) (ht : t < 2) : tile t ht (untile w) = w t ht := by
  funext x
  have hx : (x 1).val < 128 := (x 1).isLt
  have h1 : (128 * t + (x 1).val) / 128 = t := by omega
  have h2 : (128 * t + (x 1).val) % 128 = (x 1).val := by omega
  have h0 : x 0 = (0 : Fin 1) := Fin.ext (by have : (x 0).val < 1 := (x 0).isLt; show (x 0).val = 0; omega)
  have key : ∀ (t' : ℕ) (ht' : t' < 2) (r : Fin 128), t' = t → r = x 1 → w t' ht' (ix3 (0 : Fin 1) r (x 2)) = w t ht x := by
    intro t' ht' r e1 e2
    subst e1 e2
    exact congrArg (w t' ht') (funext fun a => by match a with | ⟨0, _⟩ => exact h0.symm | ⟨1, _⟩ => rfl | ⟨2, _⟩ => rfl)
  exact key _ _ _ h1 (Fin.ext h2)

/-- The block whose first `n` tiles are `New`'s, the others `Old`'s. -/
def mix (n : ℕ) (New Old : Blk F) : Blk F := fun j => if (j 0).val < 128 * n then New j else Old j

theorem mix_zero (New Old : Blk F) : mix 0 New Old = Old := by
  funext j; exact if_neg (by omega)
theorem mix_two (New Old : Blk F) : mix 2 New Old = New := by
  funext j; exact if_pos (by have : (j 0).val < 256 := (j 0).isLt; omega)
theorem tile_mix (t : ℕ) (ht : t < 2) (New Old : Blk F) : tile t ht (mix t New Old) = tile t ht Old := by
  funext x; exact if_neg (by show ¬ 128 * t + (x 1).val < _; omega)

/-! ## Loads and stores of tiles -/

theorem read_tile4 (b : Memref sig .tc .vmem S2x256x4096 .f32) (i : Fin 2) (t : Trip) (f : (half b i).view.ty.Contents (Elt F)) (x : S1x128x4096.Idx) :
    (b.access (rect4 i t)).read (Elt F) f x = (half b i).view.read (Elt F) f (ix2 (trow t.val (trip_lt t) (x 1)) (x 2)) := by
  show cast _ (f _) = cast _ (f _)
  rw [tile4_emb]
theorem read_tile6 (b : Memref sig .tc .vmem S2x2x256x4096 .f32) (i s : Fin 2) (t : Trip) (f : (quarter b i s).view.ty.Contents (Elt F)) (x : S1x1x128x4096.Idx) :
    (b.access (rect6 i s t)).read (Elt F) f x = (quarter b i s).view.read (Elt F) f (ix2 (trow t.val (trip_lt t) (x 2)) (x 3)) := by
  show cast _ (f _) = cast _ (f _)
  rw [tile6_emb]

theorem row_in {t : ℕ} (ht : t < 2) (j : S256x4096.Idx) (h1 : 128 * t ≤ (j 0).val) (h2 : (j 0).val < 128 * (t + 1)) :
    ∃ a : Fin 128, j = ix2 (trow t ht a) (j 1) :=
  ⟨⟨(j 0).val - 128 * t, by omega⟩, funext fun x => by
    match x with
    | ⟨0, _⟩ => exact Fin.ext (by show (j 0).val = 128 * t + ((j 0).val - 128 * t); omega)
    | ⟨1, _⟩ => rfl⟩

theorem read_store {b : Memref sig .tc .vmem S2x256x4096 .f32} {i : Fin 2} {t : Trip} {New Old : Blk F} {w : Tile F}
    (hw : w = tile t.val (trip_lt t) New) (f : (half b i).view.ty.Contents (Elt F)) (h : (half b i).view.read (Elt F) f = mix t.val New Old) :
    (half b i).view.read (Elt F) ((b.access (rect4 i t)).write (Elt F) f w Finset.univ) = mix (t.val + 1) New Old := by
  funext j
  by_cases hin : 128 * t.val ≤ (j 0).val ∧ (j 0).val < 128 * (t.val + 1)
  · obtain ⟨a, ej⟩ := row_in (trip_lt t) j hin.1 hin.2
    have e1 : mix (t.val + 1) New Old j = New j := if_pos hin.2
    have hr := read_tile4 b i t ((b.access (rect4 i t)).write (Elt F) f w Finset.univ) (ix3 (0 : Fin 1) a (j 1))
    have hr2 := View.read_write_univ (v := b.access (rect4 i t)) (Val := Elt F) f w
    rw [e1]
    refine (congrArg _ ej).trans (hr.symm.trans ((congrFun hr2 _).trans ?_))
    rw [hw]; exact congrArg New ej.symm
  · have hn : (half b i).view.emb j ∉ (b.access (rect4 i t)).setOn Finset.univ := by
      intro hm
      obtain ⟨x, -, hx⟩ := Finset.mem_map.mp hm
      have hx' := (half b i).view.emb.injective ((tile4_emb b i t x).symm.trans hx)
      apply hin
      have h1 : (x 1).val < 128 := (x 1).isLt
      have h0 : (j 0).val = 128 * t.val + (x 1).val := by rw [← hx']; rfl
      omega
    have e1 : mix (t.val + 1) New Old j = mix t.val New Old j := by
      show (if _ then _ else _) = (if _ then _ else _)
      by_cases hlt : (j 0).val < 128 * t.val
      · rw [if_pos hlt, if_pos (by omega)]
      · rw [if_neg hlt, if_neg (by omega)]
    rw [e1, ← congrFun h j]
    exact congrArg (cast _) (View.write_of_not_mem (v := b.access (rect4 i t)) f w Finset.univ hn)

section Steps
variable {c : Dev nD}

local notation "WP" => fun p Q => wp frame (wpE (defs₀ (F := F)) 𝒱₀ (c : Thread nD τ) none) Set.univ p Q

theorem wp_ld4 {A : Type} {b : Memref sig .tc .vmem S2x256x4096 .f32} {i : Fin 2} {t : Trip} {q : PosShare TreeShare} {X : Blk F}
    {hl} {k : Tile F → Prog (TpuEff nD τ sig (Elt F) Λ₀ .tc) A} {Q : A → sProp 𝕄} :
    hold c (half b i) q X ⊢ iprop((hold c (half b i) q X -∗ WP (k (tile t.val (trip_lt t) X)) Q)
      -∗ WP (.op (.load b (rect4 i t).toLoadRect hl) k) Q) := by
  unfold hold
  iintro ⟨%f, %h, H⟩ HK
  have L : (((half b i).view.loc (c : Thread nD τ) ↦[(half b i).view.set]{q} f : sProp 𝕄))
      ⊢ iprop((((half b i).view.loc (c : Thread nD τ) ↦[(half b i).view.set]{q} f) -∗ WP (k ((b.access (rect4 i t)).read (Elt F) f)) Q) -∗ WP (.op (.load b (rect4 i t).toLoadRect hl) k) Q) :=
    wp_load_rect (m := b) (r := rect4 i t) (f := f) 𝒱₀ (c : Thread nD τ) none Set.univ (tile4_sub b i t)
  iapply L $$ H
  iintro H
  have e : (b.access (rect4 i t)).read (Elt F) f = tile t.val (trip_lt t) X := by
    subst h; exact funext fun x => read_tile4 b i t f x
  rw [e]
  iapply HK
  iexists f; isplitr; · ipureintro; exact h
  iexact H

theorem wp_ld6 {A : Type} {b : Memref sig .tc .vmem S2x2x256x4096 .f32} {i s : Fin 2} {t : Trip} {q : PosShare TreeShare} {X : Blk F}
    {hl} {k : Vec F S1x1x128x4096 .f32 → Prog (TpuEff nD τ sig (Elt F) Λ₀ .tc) A} {Q : A → sProp 𝕄} :
    hold c (quarter b i s) q X ⊢ iprop((hold c (quarter b i s) q X -∗ WP (k (tile6 t.val (trip_lt t) X)) Q)
      -∗ WP (.op (.load b (rect6 i s t).toLoadRect hl) k) Q) := by
  unfold hold
  iintro ⟨%f, %h, H⟩ HK
  have L : (((quarter b i s).view.loc (c : Thread nD τ) ↦[(quarter b i s).view.set]{q} f : sProp 𝕄))
      ⊢ iprop((((quarter b i s).view.loc (c : Thread nD τ) ↦[(quarter b i s).view.set]{q} f) -∗ WP (k ((b.access (rect6 i s t)).read (Elt F) f)) Q) -∗ WP (.op (.load b (rect6 i s t).toLoadRect hl) k) Q) :=
    wp_load_rect (m := b) (r := rect6 i s t) (f := f) 𝒱₀ (c : Thread nD τ) none Set.univ (tile6_sub b i s t)
  iapply L $$ H
  iintro H
  have e : (b.access (rect6 i s t)).read (Elt F) f = tile6 t.val (trip_lt t) X := by
    subst h; exact funext fun x => read_tile6 b i s t f x
  rw [e]
  iapply HK
  iexists f; isplitr; · ipureintro; exact h
  iexact H

theorem wp_st4 {A : Type} {b : Memref sig .tc .vmem S2x256x4096 .f32} {i : Fin 2} {t : Trip} {New Old : Blk F} {w : Tile F}
    {hx hm} {k : PUnit → Prog (TpuEff nD τ sig (Elt F) Λ₀ .tc) A} {Q : A → sProp 𝕄} (hw : w = tile t.val (trip_lt t) New) :
    hold c (half b i) fullShare (mix t.val New Old) ⊢ iprop((hold c (half b i) fullShare (mix (t.val + 1) New Old) -∗ WP (k ⟨⟩) Q)
      -∗ WP (.op (.store b (rect4 i t) w Finset.univ hx hm) k) Q) := by
  unfold hold
  iintro ⟨%f, %h, H⟩ HK
  have L : (((half b i).view.loc (c : Thread nD τ) ↦[(half b i).view.set]{fullShare} f : sProp 𝕄))
      ⊢ iprop((((half b i).view.loc (c : Thread nD τ) ↦[(half b i).view.set]{fullShare} ((b.access (rect4 i t)).write (Elt F) f w Finset.univ)) -∗ WP (k ⟨⟩) Q)
        -∗ WP (.op (.store b (rect4 i t) w Finset.univ hx hm) k) Q) :=
    wp_store (m := b) (r := rect4 i t) (f := f) 𝒱₀ (c : Thread nD τ) none Set.univ (tile4_sub b i t)
  iapply L $$ H
  iintro H
  iapply HK
  iexists ((b.access (rect4 i t)).write (Elt F) f w Finset.univ)
  isplitr
  · ipureintro; exact read_store hw f h
  iexact H
end Steps

end Cert.KernelIdeal.Ring
end
-- ==== Proof.LoopIdeal.lean ====
module

public import proofs.«01_k».proof.Proof.GeomIdeal

@[expose] public section

set_option maxRecDepth 16384

/-!
# The two tile loops as steps on blocks
-/

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable {c : Dev nD}

local notation "WP" => fun p Q => wp frame (wpE (defs₀ (F := F)) 𝒱₀ (c : Thread nD τ) none) Set.univ p Q

/-- The reduction loop adds the staged block to the landed one. -/
theorem wp_addLoop {i s : Fin 2} {A B Old : Blk F} {qa : PosShare TreeShare} {k : PG F} {Q : PUnit → sProp 𝕄} :
    iprop(hold c (quarter rB i s) qa A ∗ hold c (half pB i) fullShare B ∗ hold c (half sB i) fullShare Old)
      ⊢ iprop(((hold c (quarter rB i s) qa A ∗ hold c (half pB i) fullShare B ∗ hold c (half sB i) fullShare (addB A B)) -∗ WP k Q)
        -∗ WP (addLoop (to6 i s) (to4 i) k) Q) := by
  iintro H HK
  unfold addLoop
  iapply (Scf.wp_for_bind frame (wpE (defs₀ (F := F)) 𝒱₀ (c : Thread nD τ) none) Set.univ _ _ _ _ PUnit.unit (addBody (to6 i s) (to4 i))
    (fun n _ => iprop(hold c (quarter rB i s) qa A ∗ hold c (half pB i) fullShare B ∗ hold c (half sB i) fullShare (mix n (addB A B) Old))) ?_) $$ [H]
  · intro t u
    have hb : (addBody (F := F) (to6 i s) (to4 i) t u) = .op (.load rB (rect6 i s t).toLoadRect (View.loadsAt_vmem h_S1x1x128x4096)) fun v =>
      .op (.load pB (rect4 i t).toLoadRect (View.loadsAt_vmem h_S1x128x4096)) fun w =>
      .op (.load sB (rect4 i t).toLoadRect (View.loadsAt_vmem h_S1x128x4096)) fun _ =>
      .op (.store sB (rect4 i t) (k0_pay1 v w) Finset.univ (View.stores_vmem_bits_univ h_S1x128x4096 rfl) (.inl rfl)) fun _ => .ret ⟨⟩ := rfl
    rw [hb]
    iintro ⟨H1, H2, H3⟩
    iapply (wp_ld6) $$ H1; iintro H1
    iapply (wp_ld4) $$ H2; iintro H2
    iapply (wp_ld4) $$ H3; iintro H3
    iapply (wp_st4 (New := addB A B) (Old := Old) (tile_untile _ _ _).symm) $$ H3; iintro H3
    iapply (le_wp_ret)
    isplitl [H1]; · iexact H1
    isplitl [H2]; · iexact H2
    iexact H3
  · rw [mix_zero]; iexact H
  · iintro %u
    rw [show Scf.trips _ _ _ = 2 from trips_eq, mix_two]
    iexact HK

/-- A whole weight vector held: what it reads. -/
def holdG (c : Dev nD) (g : Memref sig .tc .vmem S1x4096 .f32) (γ : Vec F S1x4096 .f32) : sProp 𝕄 :=
  iprop(∃ f : Buf (Elt F) (g.view.loc (c : Thread nD τ)), ⌜g.view.read (Elt F) f = γ⌝ ∗ (g.view.loc (c : Thread nD τ) ↦[g.view.set]{fullShare} f))

abbrev rectG : Rect S1x4096 := Rect.unit (s := S1x4096) ![0, 0] S1x4096.size inb_S1x4096_S1x4096_0_0

theorem rectG_emb (g : Memref sig .tc .vmem S1x4096 .f32) (x : S1x4096.Idx) : (g.access rectG).emb x = g.view.emb x := by
  refine congrArg g.view.emb ?_
  funext y
  apply Fin.ext
  rw [Rect.emb_apply]
  fin_cases y
  · show 0 + 1 * (x 0).val = (x 0).val; omega
  · show 0 + 1 * (x 1).val = (x 1).val; omega

theorem wp_ldG {A : Type} {g : Memref sig .tc .vmem S1x4096 .f32} {γ : Vec F S1x4096 .f32}
    {hl} {k : Vec F S1x4096 .f32 → Prog (TpuEff nD τ sig (Elt F) Λ₀ .tc) A} {Q : A → sProp 𝕄} :
    holdG c g γ ⊢ iprop((holdG c g γ -∗ WP (k γ) Q) -∗ WP (.op (.load g rectG.toLoadRect hl) k) Q) := by
  unfold holdG
  iintro ⟨%f, %h, H⟩ HK
  have hsub : (g.access rectG).set ⊆ g.view.set := by
    intro y hy
    obtain ⟨x, -, rfl⟩ := Finset.mem_map.mp hy
    rw [rectG_emb]; exact View.emb_mem_set _ _
  iapply (wp_load_rect (m := g) (r := rectG) (f := f) 𝒱₀ (c : Thread nD τ) none Set.univ hsub) $$ H
  iintro H
  have e : (g.access rectG).read (Elt F) f = γ := by
    subst h; funext x
    show cast _ (f _) = cast _ (f _)
    rw [rectG_emb]
  rw [e]
  iapply HK
  iexists f; isplitr; · ipureintro; exact h
  iexact H

/-- The normalization loop. -/
theorem wp_normLoop {i : Fin 2} {g : Memref sig .tc .vmem S1x4096 .f32} {A B : Blk F} {γ : Vec F S1x4096 .f32} {k : PG F} {Q : PUnit → sProp 𝕄} :
    iprop(hold c (half pB i) fullShare B ∗ hold c (half sB i) fullShare A ∗ holdG c g γ)
      ⊢ iprop(((hold c (half pB i) fullShare B ∗ hold c (half sB i) fullShare (normB A B γ) ∗ holdG c g γ) -∗ WP k Q)
        -∗ WP (normLoop g (to4 i) k) Q) := by
  iintro H HK
  unfold normLoop
  iapply (Scf.wp_for_bind frame (wpE (defs₀ (F := F)) 𝒱₀ (c : Thread nD τ) none) Set.univ _ _ _ _ PUnit.unit (normBody g (to4 i))
    (fun n _ => iprop(hold c (half pB i) fullShare B ∗ hold c (half sB i) fullShare (mix n (normB A B γ) A) ∗ holdG c g γ)) ?_) $$ [H]
  · intro t u
    have hb : (normBody (F := F) g (to4 i) t u) = .op (.load sB (rect4 i t).toLoadRect (View.loadsAt_vmem h_S1x128x4096)) fun v =>
      .op (.load pB (rect4 i t).toLoadRect (View.loadsAt_vmem h_S1x128x4096)) fun w =>
      .op (.load g rectG.toLoadRect (View.loadsAt_vmem h_S1x4096)) fun γ =>
      .op (.load sB (rect4 i t).toLoadRect (View.loadsAt_vmem h_S1x128x4096)) fun _ =>
      .op (.store sB (rect4 i t) (k0_pay7 v w γ) Finset.univ (View.stores_vmem_bits_univ h_S1x128x4096 rfl) (.inl rfl)) fun _ => .ret ⟨⟩ := rfl
    rw [hb]
    have hw : k0_pay7 (tile t.val (trip_lt t) (mix t.val (normB A B γ) A)) (tile t.val (trip_lt t) B) γ = tile t.val (trip_lt t) (normB A B γ) := by
      rw [tile_mix (F := F)]; exact (tile_untile (F := F) (fun t ht => k0_pay7 (tile t ht A) (tile t ht B) γ) _ _).symm
    iintro ⟨H1, H2, H3⟩
    iapply (wp_ld4) $$ H2; iintro H2
    iapply (wp_ld4) $$ H1; iintro H1
    iapply (wp_ldG) $$ H3; iintro H3
    iapply (wp_ld4) $$ H2; iintro H2
    iapply (wp_st4 (New := normB A B γ) (Old := A) hw) $$ H2; iintro H2
    iapply (le_wp_ret)
    isplitl [H1]; · iexact H1
    isplitl [H2]; · iexact H2
    iexact H3
  · rw [mix_zero]; iexact H
  · iintro %u
    rw [show Scf.trips _ _ _ = 2 from trips_eq, mix_two]
    iexact HK

end Cert.KernelIdeal.Ring
end
-- ==== Proof.CommonIdeal.lean ====
module

public import proofs.«01_k».proof.Proof.LoopIdeal

@[expose] public section

set_option maxRecDepth 16384

/-!
# The exchange protocol

Values. `acc r i s c` is the running sum device `c` holds after step `s` of the first phase of round `r`,
direction `i`; `blk r i c` the normalized block it then owns.

Cells. Every device has a barrier cell, one credit cell per direction and six landing cells per direction.
A device pays 34 times, in program order: two barrier signals, then sixteen payments a round (payment `p` of
direction `i` is number `2 p + i` of its round). The credit a device hands its sender carries the landing
buffers that are free again.
-/

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-- The exchange's rounds in the user algebra, and the counters of the copies waited for where they start. -/
def ER : Emb (Rounds.URounds (GSem nD τ sig) (Fin 2)) (MT nD τ sig ℕ (Elt F) ℕ UU ℕ) :=
  (Emb.inl : Emb (Rounds.URounds (GSem nD τ sig) (Fin 2)) (Rounds.URounds (GSem nD τ sig) (Fin 2) × Counters)).trans embR
abbrev EC : UEmb Counters (MT nD τ sig ℕ (Elt F) ℕ UU ℕ) := countersEmb

/-! ## Values -/

/-- What the devices are given. -/
structure Inp (F : FTy → Type) [FloatOps F] where
  x : Dev nD → Vec F S1x4096x4096 .f32
  r : Dev nD → Vec F S4096x4096 .f32
  g : Dev nD → Vec F S1x4096 .f32

variable (I : Inp F)

/-- The rows of device `c`'s partial in the block of round `r`, direction `i`, chunk `d`; of its residual. -/
def xv (r i : Fin 2) (d c : Dev nD) : Blk F := (xBlk (xo r i d)).view.read (Elt F) (I.x c)
def rv (r i : Fin 2) (d c : Dev nD) : Blk F := (rBlk (ro r i d)).view.read (Elt F) (I.r c)

def acc (r i : Fin 2) : ℕ → Dev nD → Blk F
  | 0, c => xv I r i c c
  | s + 1, c => addB (acc r i s (src i c)) (xv I r i (srcN i (s + 1) c) c)
def blk (r i : Fin 2) (c : Dev nD) : Blk F := normB (acc I r i 3 c) (rv I r i (tgt i c) c) (I.g c)

/-! ## Cells and payments -/

abbrev barCell (c : Dev nD) : GSem nD τ sig := ((c : Thread nD τ), .reg barSem)
abbrev crCell (i : Fin 2) (c : Dev nD) : GSem nD τ sig := ((c : Thread nD τ), .reg (crSem i))
abbrev rvCell (i : Fin 2) (k : Fin 6) (c : Dev nD) : GSem nD τ sig := ((c : Thread nD τ), .dma (recvSem i k))

/-- What a semaphore is for. -/
inductive Kd where
  | bar
  | cr (i : Fin 2)
  | rv (i : Fin 2) (k : Fin 6)
  | no
  deriving DecidableEq

def Kd.sem : Kd → SemLoc sig
  | .bar => .reg barSem
  | .cr i => .reg (crSem i)
  | .rv i k => .dma (recvSem i k)
  | .no => .reg barSem

def kind (sm : SemLoc sig) : Kd :=
  if sm = .reg barSem then .bar
  else if sm = .reg (crSem 0) then .cr 0
  else if sm = .reg (crSem 1) then .cr 1
  else if sm = .dma (recvSem 0 0) then .rv 0 0
  else if sm = .dma (recvSem 0 1) then .rv 0 1
  else if sm = .dma (recvSem 0 2) then .rv 0 2
  else if sm = .dma (recvSem 0 3) then .rv 0 3
  else if sm = .dma (recvSem 0 4) then .rv 0 4
  else if sm = .dma (recvSem 0 5) then .rv 0 5
  else if sm = .dma (recvSem 1 0) then .rv 1 0
  else if sm = .dma (recvSem 1 1) then .rv 1 1
  else if sm = .dma (recvSem 1 2) then .rv 1 2
  else if sm = .dma (recvSem 1 3) then .rv 1 3
  else if sm = .dma (recvSem 1 4) then .rv 1 4
  else if sm = .dma (recvSem 1 5) then .rv 1 5
  else .no

theorem kind_bar : kind (.reg barSem) = .bar := by decide +kernel
theorem kind_cr : ∀ i, kind (.reg (crSem i)) = .cr i := by decide +kernel
theorem kind_rv : ∀ i k, kind (.dma (recvSem i k)) = .rv i k := by decide +kernel
theorem kind_send : ∀ i k, kind (.dma (sendSem i k)) = .no := by decide +kernel
theorem kind_cp : ∀ j, kind (.dma (cpSem j)) = .no := by decide +kernel
theorem kind_out : ∀ i s, kind (.dma (outSem i s)) = .no := by decide +kernel

/-- A block's transfer credit. -/
def Nv : ℕ := (half sB 0).view.dmaCredit
theorem Nv_pos : 0 < Nv := View.dmaCredit_pos _ (by decide)
theorem credit_sB : ∀ i, (half sB i).view.dmaCredit = Nv := fun _ => rfl
theorem credit_pB : ∀ i, (half pB i).view.dmaCredit = Nv := fun _ => rfl
theorem credit_rB : ∀ i s, (quarter rB i s).view.dmaCredit = Nv := fun _ _ => rfl
theorem credit_gB : ∀ i s, (quarter gB i s).view.dmaCredit = Nv := fun _ _ => rfl
theorem credit_o : ∀ o, (oBlk o).view.dmaCredit = Nv := fun _ => rfl

/-- Payment `p` of direction `i`: its cell, whose device it is, the cell's round (by the round of the program), the amount. -/
def pkd (p : Fin 8) (i : Fin 2) : Kd := ![.rv i 0, .cr i, .rv i 1, .rv i 2, .rv i 3, .rv i 4, .cr i, .rv i 5] p
def pdv (p : Fin 8) (i : Fin 2) (c : Dev nD) : Dev nD := if p = 1 ∨ p = 6 then src i c else tgt i c
def pix (p : Fin 8) (r : ℕ) : ℕ := ![r, 2 * r, r, r, r, r, 2 * r + 1, r] p
def pam (p : Fin 8) : ℕ := if p = 1 ∨ p = 6 then 1 else Nv

abbrev pcell (p : Fin 8) (i : Fin 2) (c : Dev nD) : GSem nD τ sig := ((c : Thread nD τ), (pkd p i).sem)

/-- Payment number `j` of device `c`. -/
def payAt (c : Dev nD) (j : ℕ) : CellTallies nD τ sig ℕ :=
  if j = 0 then tallyAt (barCell (tgt 1 c)) 0 1 else if j = 1 then tallyAt (barCell (tgt 0 c)) 0 1
  else
    let p : Fin 8 := ⟨(j - 2) % 16 / 2, by omega⟩
    let i : Fin 2 := ⟨j % 2, by omega⟩
    tallyAt (pcell p i (pdv p i c)) (pix p ((j - 2) / 16)) (pam p)

theorem payAt_round (c : Dev nD) (r i : Fin 2) (p : Fin 8) :
    payAt c (2 + 16 * r.val + (2 * p.val + i.val)) = tallyAt (pcell p i (pdv p i c)) (pix p r.val) (pam p) := by
  have h1 : (2 + 16 * r.val + (2 * p.val + i.val) - 2) % 16 / 2 = p.val := by omega
  have h2 : (2 + 16 * r.val + (2 * p.val + i.val)) % 2 = i.val := by omega
  have h3 : (2 + 16 * r.val + (2 * p.val + i.val) - 2) / 16 = r.val := by omega
  unfold payAt
  rw [if_neg (by omega), if_neg (by omega)]
  have key : ∀ (p' : Fin 8) (i' : Fin 2) (r' : ℕ), p' = p → i' = i → r' = r.val →
      tallyAt (pcell p' i' (pdv p' i' c)) (pix p' r') (pam p') = (tallyAt (pcell p i (pdv p i c)) (pix p r.val) (pam p) : CellTallies nD τ sig ℕ) := by
    intro p' i' r' e1 e2 e3; subst e1 e2 e3; rfl
  exact key _ _ _ (Fin.ext h1) (Fin.ext h2) h3

/-- What device `c` still owes after `n` payments. -/
def O (c : Dev nD) (n : ℕ) : CellTallies nD τ sig ℕ := ∑ j ∈ Finset.Ico n 34, payAt c j
theorem O_succ (c : Dev nD) {n : ℕ} (h : n < 34) : O c n = O c (n + 1) + payAt c n := by
  unfold O
  have e : Finset.Ico n 34 = insert n (Finset.Ico (n + 1) 34) := by
    ext j; simp only [Finset.mem_Ico, Finset.mem_insert]; omega
  rw [e, Finset.sum_insert (by simp), add_comm]
theorem O_last (c : Dev nD) : O c 34 = 0 := by unfold O; rw [Finset.Ico_self]; rfl
theorem O_round (c : Dev nD) (r i : Fin 2) (p : Fin 8) {n : ℕ} (h : n = 2 + 16 * r.val + (2 * p.val + i.val)) :
    O c n = O c (n + 1) + tallyAt (pcell p i (pdv p i c)) (pix p r.val) (pam p) := by
  subst h; rw [O_succ c (by omega), payAt_round]

/-! ## Levels -/

def L (g : GSem nD τ sig) : Finset ℕ := if g.1.2 = .tc then Finset.range 4 else ∅
def lvK : Kd → ℕ → ℕ
  | .bar, _ => 1
  | .cr _, x => 8 * (x / 2) + if x % 2 = 0 then 3 else 8
  | .rv _ k, x => 8 * x + ![2, 4, 5, 6, 7, 9] k
  | .no, _ => 0
def lv (g : GSem nD τ sig) (x : ℕ) : ℕ := lvK (kind g.2) x

theorem L_of_ne (g : GSem nD τ sig) (h : g.1.2 ≠ .tc) : L g = ∅ := if_neg h
theorem L_tc (c : Dev nD) (sm : SemLoc sig) : L ((c : Thread nD τ), sm) = Finset.range 4 := if_pos rfl

theorem kind_pkd : ∀ (p : Fin 8) (i : Fin 2), kind (pkd p i).sem = pkd p i := by decide +kernel
theorem lv_pay : ∀ (p : Fin 8) (i r : Fin 2), lvK (pkd p i) (pix p r.val) = 8 * r.val + 2 + p.val := by decide +kernel
theorem pix_lt : ∀ (p : Fin 8) (r : Fin 2), pix p r.val < 4 := by decide +kernel

theorem tallyAt_pos {g g' : GSem nD τ sig} {x y n : ℕ} (h : 0 < (tallyAt g x n : CellTallies nD τ sig ℕ) g' y) : g' = g ∧ y = x := by
  rw [tallyAt_apply] at h
  by_contra hc
  rw [if_neg hc] at h
  exact absurd h (Nat.lt_irrefl 0)

theorem payAt_pos {c : Dev nD} {j : ℕ} (hj : j < 34) {g : GSem nD τ sig} {x : ℕ} (h : 0 < payAt c j g x) :
    x ∈ L g ∧ lv g x = j / 2 + 1 := by
  by_cases h0 : j = 0
  · subst h0
    obtain ⟨rfl, rfl⟩ := tallyAt_pos h
    refine ⟨by rw [L_tc]; decide, ?_⟩
    show lvK (kind _) 0 = _
    rw [kind_bar]; rfl
  by_cases h1 : j = 1
  · subst h1
    obtain ⟨rfl, rfl⟩ := tallyAt_pos h
    refine ⟨by rw [L_tc]; decide, ?_⟩
    show lvK (kind _) 0 = _
    rw [kind_bar]; rfl
  have e : j = 2 + 16 * ((⟨(j - 2) / 16, by omega⟩ : Fin 2)).val + (2 * ((⟨(j - 2) % 16 / 2, by omega⟩ : Fin 8)).val + ((⟨j % 2, by omega⟩ : Fin 2)).val) := by
    show j = 2 + 16 * ((j - 2) / 16) + (2 * ((j - 2) % 16 / 2) + j % 2)
    omega
  rw [e, payAt_round] at h
  obtain ⟨e1, e2⟩ := tallyAt_pos h
  rw [e1, e2]
  refine ⟨by rw [L_tc]; exact Finset.mem_range.mpr (pix_lt _ _), ?_⟩
  show lvK (kind _) _ = _
  rw [kind_pkd, lv_pay]
  show 8 * ((j - 2) / 16) + 2 + (j - 2) % 16 / 2 = j / 2 + 1
  omega

theorem O_pos {c : Dev nD} {n : ℕ} {g : GSem nD τ sig} {x : ℕ} (h : 0 < O c n g x) : x ∈ L g ∧ n / 2 < lv g x := by
  unfold O at h
  rw [Finset.sum_apply, Finsupp.finset_sum_apply] at h
  obtain ⟨j, hj, hp⟩ := Finset.exists_ne_zero_of_sum_ne_zero (Nat.pos_iff_ne_zero.mp h)
  obtain ⟨h1, h2⟩ := Finset.mem_Ico.mp hj
  obtain ⟨hL, hl⟩ := payAt_pos h2 (Nat.pos_of_ne_zero hp)
  exact ⟨hL, by rw [hl]; omega⟩

theorem mayWait (c : Dev nD) (sm : SemLoc sig) (x n : ℕ) (hx : x < 4) (h : lvK (kind sm) x ≤ n / 2) :
    (levAts L lv : sProp 𝕄) ⊢ MayWait (c : Thread nD τ) sm x (O c n) :=
  MayOwe.of_cut (L := L) (lev := lv) (n / 2)
    (fun p hp => by rw [Finset.mem_singleton.mp hp, L_tc]; exact Finset.mem_range.mpr hx)
    (fun g u hg => (O_pos hg).1)
    (fun p hp => by rw [Finset.mem_singleton.mp hp]; exact h)
    (fun g u hg => (O_pos hg).2)

/-! ## The schedule -/

def rf (r : ℕ) : Fin 2 := ⟨r % 2, Nat.mod_lt _ (by decide)⟩
theorem rf_val (r : Fin 2) : rf r.val = r := Fin.ext (Nat.mod_eq_of_lt r.isLt)

/-- Paid to the barrier of `c` by its neighbour `tgt i c`: the first landing buffers there. -/
def barPay (c : Dev nD) (i : Fin 2) : sProp 𝕄 :=
  iprop(anyB (tgt i c) (quarter rB i 0) ∗ anyB (tgt i c) (quarter rB i 1)
    ∗ reached ER (rvCell i 0 (tgt i c)) 0 ∗ reached ER (rvCell i 1 (tgt i c)) 0 ∗ reached ER (rvCell i 2 (tgt i c)) 0)
/-- The first credit of round `r`, and the second. -/
def crPayA (c : Dev nD) (i : Fin 2) (r : ℕ) : sProp 𝕄 :=
  iprop(anyB (tgt i c) (quarter rB i 0) ∗ anyB (tgt i c) (quarter gB i 0) ∗ anyB (tgt i c) (quarter gB i 1)
    ∗ reached ER (rvCell i 3 (tgt i c)) r ∗ reached ER (rvCell i 4 (tgt i c)) r ∗ reached ER (rvCell i 5 (tgt i c)) r)
def crPayB (c : Dev nD) (i : Fin 2) (r : ℕ) : sProp 𝕄 :=
  iprop(anyB (tgt i c) (quarter gB i 0) ∗ if r = 0 then iprop(anyB (tgt i c) (quarter rB i 0) ∗ anyB (tgt i c) (quarter rB i 1)
    ∗ reached ER (rvCell i 0 (tgt i c)) 1 ∗ reached ER (rvCell i 1 (tgt i c)) 1 ∗ reached ER (rvCell i 2 (tgt i c)) 1) else iprop(emp))
/-- What lands on device `c`, from `src i c`. -/
def rvPay (c : Dev nD) (i : Fin 2) (k : Fin 6) (r : ℕ) : sProp 𝕄 :=
  match k with
  | 0 => iprop(reached ER (crCell i (src i c)) (2 * r) ∗ hold c (quarter rB i 0) fullShare (acc I (rf r) i 0 (src i c)))
  | 1 => hold c (quarter rB i 1) fullShare (acc I (rf r) i 1 (src i c))
  | 2 => hold c (quarter rB i 0) fullShare (acc I (rf r) i 2 (src i c))
  | 3 => iprop(reached ER (crCell i (src i c)) (2 * r + 1) ∗ hold c (quarter gB i 0) fullShare (blk I (rf r) i (src i c)))
  | 4 => hold c (quarter gB i 1) fullShare (blk I (rf r) i (src i (src i c)))
  | 5 => hold c (quarter gB i 0) fullShare (blk I (rf r) i (src i (src i (src i c))))

def dutK : Kd → ℕ → Finset (Fin 2)
  | .bar, r => if r = 0 then {0, 1} else ∅
  | .cr _, r => if r < 4 then {0} else ∅
  | .rv _ _, r => if r < 2 then {0} else ∅
  | .no, _ => ∅
def amtK : Kd → ℕ
  | .rv _ _ => Nv
  | _ => 1
def payK (c : Dev nD) : Kd → ℕ → Fin 2 → sProp 𝕄
  | .bar, _, d => barPay c d
  | .cr i, r, _ => if r % 2 = 0 then crPayA c i (r / 2) else crPayB c i (r / 2)
  | .rv i k, r, _ => rvPay I c i k r
  | .no, _, _ => iprop(emp)

def Rd : Rounds.Schedule (GSem nD τ sig) (Fin 2) 𝕄 where
  duties g r := if g.1.2 = .tc then dutK (kind g.2) r else ∅
  unitless _ := False
  amount g _ _ := amtK (kind g.2)
  payload g r d := payK I g.1.1 (kind g.2) r d
  amount_pos g _ _ _ := by
    cases h : kind g.2 <;> first | exact Nat.one_pos | exact Nv_pos

instance hold_storable {sp : Space} (c : Dev nD) (V : Memref sig .tc sp S256x4096 .f32) (q : PosShare TreeShare) (X : Blk F) :
    BI.Storable (upEmb : UEmb _ 𝕄) (hold c V q X) := by unfold hold; infer_instance
instance anyB_storable {sp : Space} (c : Dev nD) (V : Memref sig .tc sp S256x4096 .f32) :
    BI.Storable (upEmb : UEmb _ 𝕄) (anyB (F := F) c V) := by unfold anyB; infer_instance
instance ER_landsIn : (ER (F := F)).LandsIn (upEmb : UEmb _ 𝕄) := by unfold ER; infer_instance

instance barPay_storable (c : Dev nD) (i : Fin 2) : BI.Storable (upEmb : UEmb _ 𝕄) (barPay (F := F) c i) := by unfold barPay; infer_instance
instance crPayA_storable (c : Dev nD) (i : Fin 2) (r : ℕ) : BI.Storable (upEmb : UEmb _ 𝕄) (crPayA (F := F) c i r) := by unfold crPayA; infer_instance
instance crPayB_storable (c : Dev nD) (i : Fin 2) (r : ℕ) : BI.Storable (upEmb : UEmb _ 𝕄) (crPayB (F := F) c i r) := by
  unfold crPayB; split <;> infer_instance
instance rvPay_storable (c : Dev nD) (i : Fin 2) (k : Fin 6) (r : ℕ) : BI.Storable (upEmb : UEmb _ 𝕄) (rvPay I c i k r) := by
  unfold rvPay; split <;> infer_instance

instance Rd_payload_storable (g : GSem nD τ sig) (r : ℕ) (d : Fin 2) : BI.Storable (upEmb : UEmb _ 𝕄) ((Rd I).payload g r d) := by
  show BI.Storable upEmb (payK I g.1.1 (kind g.2) r d)
  unfold payK
  split
  · infer_instance
  · split <;> infer_instance
  · infer_instance
  · infer_instance

section Sched
variable (c : Dev nD)

theorem duties_bar : (Rd I).duties (barCell c) 0 = {0, 1} := by dsimp only [Rd]; rw [if_pos rfl, kind_bar]; rfl
theorem duties_cr (i : Fin 2) {r : ℕ} (h : r < 4) : (Rd I).duties (crCell i c) r = {0} := by dsimp only [Rd]; rw [if_pos rfl, kind_cr]; exact if_pos h
theorem duties_rv (i : Fin 2) (k : Fin 6) {r : ℕ} (h : r < 2) : (Rd I).duties (rvCell i k c) r = {0} := by dsimp only [Rd]; rw [if_pos rfl, kind_rv]; exact if_pos h
theorem later_bar (r : ℕ) (h : 1 ≤ r) : (Rd I).duties (barCell c) r = ∅ := by dsimp only [Rd]; rw [if_pos rfl, kind_bar]; exact if_neg (by omega)
theorem later_cr (i : Fin 2) (r : ℕ) (h : 4 ≤ r) : (Rd I).duties (crCell i c) r = ∅ := by dsimp only [Rd]; rw [if_pos rfl, kind_cr]; exact if_neg (by omega)
theorem later_rv (i : Fin 2) (k : Fin 6) (r : ℕ) (h : 2 ≤ r) : (Rd I).duties (rvCell i k c) r = ∅ := by dsimp only [Rd]; rw [if_pos rfl, kind_rv]; exact if_neg (by omega)

theorem amount_bar (r : ℕ) (d : Fin 2) : (Rd I).amount (barCell c) r d = 1 := by dsimp only [Rd]; rw [kind_bar]; rfl
theorem amount_cr (i : Fin 2) (r : ℕ) (d : Fin 2) : (Rd I).amount (crCell i c) r d = 1 := by dsimp only [Rd]; rw [kind_cr]; rfl
theorem amount_rv (i : Fin 2) (k : Fin 6) (r : ℕ) (d : Fin 2) : (Rd I).amount (rvCell i k c) r d = Nv := by dsimp only [Rd]; rw [kind_rv]; rfl

theorem expect_bar : (Rd I).expect (barCell c) 0 = 2 := by
  unfold Schedule.expect Schedule.amountOf; rw [duties_bar, Finset.sum_pair (by decide), amount_bar, amount_bar]
theorem expect_cr (i : Fin 2) {r : ℕ} (h : r < 4) : (Rd I).expect (crCell i c) r = 1 := by
  unfold Schedule.expect Schedule.amountOf; rw [duties_cr I c i h, Finset.sum_singleton, amount_cr]
theorem expect_rv (i : Fin 2) (k : Fin 6) {r : ℕ} (h : r < 2) : (Rd I).expect (rvCell i k c) r = Nv := by
  unfold Schedule.expect Schedule.amountOf; rw [duties_rv I c i k h, Finset.sum_singleton, amount_rv]

theorem payload_bar (r : ℕ) (d : Fin 2) : (Rd I).payload (barCell c) r d = barPay c d := by dsimp only [Rd]; rw [kind_bar]; rfl
theorem payload_crA (i : Fin 2) (r : ℕ) (d : Fin 2) : (Rd I).payload (crCell i c) (2 * r) d = crPayA c i r := by
  dsimp only [Rd]; rw [kind_cr]
  show (if (2 * r) % 2 = 0 then _ else _) = _
  rw [if_pos (by omega), show 2 * r / 2 = r by omega]
theorem payload_crB (i : Fin 2) (r : ℕ) (d : Fin 2) : (Rd I).payload (crCell i c) (2 * r + 1) d = crPayB c i r := by
  dsimp only [Rd]; rw [kind_cr]
  show (if (2 * r + 1) % 2 = 0 then _ else _) = _
  rw [if_neg (by omega), show (2 * r + 1) / 2 = r by omega]
theorem payload_rv (i : Fin 2) (k : Fin 6) (r : ℕ) (d : Fin 2) : (Rd I).payload (rvCell i k c) r d = rvPay I c i k r := by
  dsimp only [Rd]; rw [kind_rv]; rfl

theorem rest_bar : bigSep ((Rd I).duties (barCell c) 0 \ ∅) (fun u => (Rd I).payload (barCell c) 0 u) = iprop(barPay c 0 ∗ barPay c 1) := by
  rw [Finset.sdiff_empty, duties_bar, bigSep_insert (by decide), bigSep_singleton, payload_bar, payload_bar]; rfl
theorem rest_crA (i : Fin 2) {r : ℕ} (h : r < 2) : bigSep ((Rd I).duties (crCell i c) (2 * r) \ ∅) (fun u => (Rd I).payload (crCell i c) (2 * r) u) = crPayA c i r := by
  rw [Finset.sdiff_empty, duties_cr I c i (by omega), bigSep_singleton, payload_crA]
theorem rest_crB (i : Fin 2) {r : ℕ} (h : r < 2) : bigSep ((Rd I).duties (crCell i c) (2 * r + 1) \ ∅) (fun u => (Rd I).payload (crCell i c) (2 * r + 1) u) = crPayB c i r := by
  rw [Finset.sdiff_empty, duties_cr I c i (by omega), bigSep_singleton, payload_crB]
theorem rest_rv (i : Fin 2) (k : Fin 6) {r : ℕ} (h : r < 2) : bigSep ((Rd I).duties (rvCell i k c) r \ ∅) (fun u => (Rd I).payload (rvCell i k c) r u) = rvPay I c i k r := by
  rw [Finset.sdiff_empty, duties_rv I c i k h, bigSep_singleton, payload_rv]

end Sched

end Cert.KernelIdeal.Ring
end
-- ==== Proof.StepsIdeal.lean ====
module

public import proofs.«01_k».proof.Proof.CommonIdeal

@[expose] public section

set_option maxRecDepth 16384

/-!
# One operation at a time

Rules for the kernel's operations on blocks held: a local copy and the wait for it, a transfer to the
neighbour and the two waits that end it, a credit given and a credit taken.
-/

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig ℕ (Elt F) ℕ UU ℕ

/-! ## What every device knows -/

/-- The kinds of the cells a region opens and closes. -/
def scKd (j : Fin 14) : Kd := if h : j.val < 2 then .cr ⟨j.val, h⟩ else .rv ⟨(j.val - 2) / 6, by omega⟩ ⟨(j.val - 2) % 6, by omega⟩
def scCell (x : Dev nD × Fin 14) : GSem nD τ sig := ((x.1 : Thread nD τ), (scKd x.2).sem)
def barCells : Finset (GSem nD τ sig) := Finset.univ.image barCell
def scCells : Finset (GSem nD τ sig) := Finset.univ.image scCell

theorem scKd_cr : ∀ i : Fin 2, (scKd ⟨i.val, by omega⟩).sem = .reg (crSem i) := by decide +kernel
theorem scKd_rv : ∀ (i : Fin 2) (k : Fin 6), (scKd ⟨2 + 6 * i.val + k.val, by omega⟩).sem = .dma (recvSem i k) := by decide +kernel

theorem cr_mem (i : Fin 2) (c : Dev nD) : crCell i c ∈ barCells ∪ scCells := by
  refine Finset.mem_union_right _ (Finset.mem_image.mpr ⟨(c, ⟨i.val, by omega⟩), Finset.mem_univ _, ?_⟩)
  exact congrArg (Prod.mk (c : Thread nD τ)) (scKd_cr i)
theorem rv_mem (i : Fin 2) (k : Fin 6) (c : Dev nD) : rvCell i k c ∈ barCells ∪ scCells := by
  refine Finset.mem_union_right _ (Finset.mem_image.mpr ⟨(c, ⟨2 + 6 * i.val + k.val, by omega⟩), Finset.mem_univ _, ?_⟩)
  exact congrArg (Prod.mk (c : Thread nD τ)) (scKd_rv i k)
theorem bar_mem (c : Dev nD) : barCell c ∈ barCells ∪ scCells :=
  Finset.mem_union_left _ (Finset.mem_image_of_mem _ (Finset.mem_univ c))

variable (I : Inp F) (κ : GSem nD τ sig → ℕ)

/-- The invariants of all the cells, and the levels. -/
def know : sProp 𝕄 := iprop((bigSep (barCells ∪ scCells) fun g => cellInv ER (Rd I) (κ g) g) ∗ levAts L lv)

instance know_persistent : BI.Persistent (know I κ) := by unfold know; infer_instance

theorem know_inv {g : GSem nD τ sig} (h : g ∈ barCells ∪ scCells) : know I κ ⊢ cellInv ER (Rd I) (κ g) g := by
  have hel : (bigSep (barCells ∪ scCells) fun g => (cellInv ER (Rd I) (κ g) g : sProp 𝕄)) ⊢ cellInv ER (Rd I) (κ g) g := bigSep_elim h
  unfold know; iintro ⟨H, -⟩
  iapply hel $$ H
theorem know_lev : know I κ ⊢ (levAts L lv : sProp 𝕄) := by unfold know; iintro ⟨-, H⟩; iexact H

/-- Device `c` after `n` payments, whatever it waited for. -/
def ow (c : Dev nD) (n : ℕ) : sProp 𝕄 := iprop(∃ W, owes (c : Thread nD τ) (O c n) W)

/-- A credit update that needs a resource on top of what is delivered, given the resource. -/
theorem creditUpdate_frame {g : GSem nD τ sig} {N n : ℕ} {P R : sProp 𝕄} :
    iprop(P ∗ creditUpdate g N n iprop(P ∗ R)) ⊢ (creditUpdate g N n R : sProp 𝕄) := by
  rw [creditUpdate_def, creditUpdate_def]
  iintro ⟨HP, ⟨%B, HB, Hsteps, Hlast⟩⟩
  iexists B
  isplitl [HB]; · iexact HB
  isplitl [Hsteps]; · iexact Hsteps
  iintro %n' %k %hk ⟨HB, HR⟩
  iapply Hlast $$ %n' %k %hk
  isplitl [HB]; · iexact HB
  isplitl [HP]; · iexact HP
  iexact HR

variable {I κ} {c : Dev nD}

local notation "WP" => fun p Q => wp frame (wpE (defs₀ (F := F)) 𝒱₀ (c : Thread nD τ) none) Set.univ p Q

/-- A copy of this device in flight on semaphore `sem`, to deliver `D`. -/
abbrev flt (c : Dev nD) (sem : DmaSem sig) (D : sProp 𝕄) : sProp 𝕄 := Flight EC (c : Thread nD τ) (.dma sem) 0 Nv D
abbrev sv0 (c : Dev nD) (sem : DmaSem sig) : sProp 𝕄 := semVal ((c : Thread nD τ), SemLoc.dma sem) 0

/-! ## Local copies -/

theorem wp_copy {sp sp' : Space} {src : Memref sig .tc sp S256x4096 .f32} {dst : Memref sig .tc sp' S256x4096 .f32} {sem : DmaSem sig} {hs hd ht}
    {q : PosShare TreeShare} {X : Blk F} {k : PUnit → PG F} {Q : PUnit → sProp 𝕄} (hN : dst.view.amount (.dma sem) = Nv) :
    iprop(hold c src q X ∗ anyB c dst ∗ sv0 c sem)
      ⊢ iprop((flt c sem iprop(hold c dst fullShare X ∗ hold c src q X) -∗ WP (k ⟨⟩) Q)
        -∗ WP (.op (.enqueueDma src (.here dst) (.dma sem) hs hd ht) k) Q) := by
  iintro ⟨Hs, Hd, Hv⟩ HK
  unfold hold anyB
  icases Hs with ⟨%f, %h, Hs⟩
  icases Hd with ⟨%fd, Hd⟩
  subst h
  iapply (wp_dmaLocal EC 𝒱₀ (c : Thread nD τ) none 0 Nv hN Nv_pos subset_rfl) $$ [Hs Hd Hv]
  · isplitl [Hs]; · iexact Hs
    isplitl [Hd]; · iexact Hd
    iexact Hv
  iintro HF
  iapply HK
  iapply (Flight_mono EC (c : Thread nD τ) ?_) $$ HF
  iintro ⟨Hd, Hs⟩
  isplitl [Hd]
  · iexists (dst.view.write (Elt F) fd (src.view.read (Elt F) f) Finset.univ); isplitr
    · ipureintro; exact View.read_write_univ (Val := Elt F) fd _
    iexact Hd
  · iexists f; isplitr; · ipureintro; rfl
    iexact Hs

theorem wp_waitF {sp sp' : Space} {srcw : Memref sig .tc sp S256x4096 .f32} {dstw : Memref sig .tc sp' S256x4096 .f32} {sem : DmaSem sig} {hs hd}
    {D : sProp 𝕄} {k : PUnit → PG F} {Q : PUnit → sProp 𝕄} {n : ℕ} (hk : kind (.dma sem) = .no) (hN : dstw.view.dmaCredit = Nv) :
    iprop(know I κ ∗ flt c sem D ∗ ow c n)
      ⊢ iprop(((D ∗ sv0 c sem ∗ ow c n) -∗ WP (k ⟨⟩) Q) -∗ WP (.op (.waitDma2 sem srcw dstw hs hd) k) Q) := by
  iintro ⟨#HK, HF, HO⟩ Hk
  unfold ow
  icases HO with ⟨%W, HO⟩
  ihave Hl := (know_lev I κ) $$ HK
  iapply (wp_waitLocalO EC 𝒱₀ (c : Thread nD τ) none 0 hN) $$ [HF HO Hl]
  · isplitl [HF]; · iexact HF
    isplitl [HO]; · iexact HO
    iapply (mayWait c (.dma sem) 0 n (by decide) (by rw [hk]; exact Nat.zero_le _)) $$ Hl
  iintro ⟨HD, Hv, HO⟩
  iapply Hk
  isplitl [HD]; · iexact HD
  isplitl [Hv]; · iexact Hv
  iexists _; iexact HO

/-! ## Transfers to the neighbour -/

theorem wp_sendTo {src dst : VBlk} {hs hd} {i r : Fin 2} {n : Fin 6} {q : PosShare TreeShare} {X : Blk F} {P : sProp 𝕄} {m : ℕ}
    {k : PG F} {Q : PUnit → sProp 𝕄} (hN : dst.view.amount (.dma (recvSem i n)) = Nv)
    (hO : O c m = O c (m + 1) + tallyAt (rvCell i n (tgt i c)) r.val Nv)
    (hpay : iprop(P ∗ hold (tgt i c) dst fullShare X) ⊢ rvPay I (tgt i c) i n r.val) :
    iprop(know I κ ∗ hold c src q X ∗ anyB (tgt i c) dst ∗ reached ER (rvCell i n (tgt i c)) r.val ∗ P
        ∗ (sv0 c (sendSem i n) ∗ dutyTok ER (rvCell i n (tgt i c)) r.val 0) ∗ ow c m)
      ⊢ iprop(((flt c (sendSem i n) (hold c src q X) ∗ ow c (m + 1)) -∗ WP k Q)
        -∗ WP (send src hs (tgt i c) dst hd i n k) Q) := by
  iintro ⟨#HK, Hs, Hd, #Hr, HP, ⟨Hv, Ht⟩, HO⟩ Hk
  ihave Hi := (know_inv I κ (rv_mem i n (tgt i c))) $$ HK
  have hland := Rounds.land_credit ER (Rd I) (κ := κ (rvCell i n (tgt i c))) (g := rvCell i n (tgt i c)) (r := r.val) (d := (0 : Fin 2))
    (by rw [duties_rv I _ i n r.isLt]; exact Finset.mem_singleton_self _) (X := iprop(P ∗ hold (tgt i c) dst fullShare X))
    (by rw [payload_rv]; exact hpay)
  rw [amount_rv] at hland
  imod (flight_alloc EC Nv_pos (hold c src q X) (g := ((c : Thread nD τ), SemLoc.dma (sendSem i n)))) $$ Hv with ⟨%γ, %δ, %κ', #Hinv, Hγ, Hδ⟩
  ihave Hcu := hland $$ [Hi Ht]
  · isplitl [Hi]; · iexact Hi
    isplitl [Ht]; · iexact Ht
    iexact Hr
  ihave Hcu := (creditUpdate_frame (P := P) (R := hold (tgt i c) dst fullShare X)) $$ [HP Hcu]
  · isplitl [HP]; · iexact HP
    iexact Hcu
  ihave Hsu := (flight_creditUpdate EC (D := hold c src q X) (δ := δ) (ι := κ')) $$ [Hγ]
  · isplitr; · iexact Hinv
    iexact Hγ
  unfold ow
  icases HO with ⟨%W, HO⟩
  ihave Hs := (Entails.of_eq (by unfold hold; rfl)) $$ Hs
  ihave Hd := (Entails.of_eq (by unfold anyB; rfl)) $$ Hd
  icases Hs with ⟨%f, %h, Hs⟩
  icases Hd with ⟨%fd, Hd⟩
  unfold send
  iapply (wp_enqueueDma_remote_pointsTo 𝒱₀ (c : Thread nD τ) none Set.univ (c' := ((tgt i c) : Thread nD τ)) r.val 0 (O c (m + 1)) Nv hN hO) $$ [Hs Hd HO] [Hsu] [Hcu]
  · isplitl [Hs]; · iexact Hs
    isplitl [Hd]; · iexact Hd
    iexact HO
  · iapply (creditUpdate_anti ?_) $$ Hsu
    unfold hold
    iintro H; iexists f; isplitr; · ipureintro; exact h
    iexact H
  · iapply (creditUpdate_anti ?_) $$ Hcu
    unfold hold
    iintro H; iexists _; isplitr
    · ipureintro
      exact (View.read_write_univ (Val := Elt F) fd _).trans h
    iexact H
  iintro ⟨Hc, HO⟩
  iapply Hk
  isplitl [Hδ Hc]
  · iapply (flight_intro EC (c : Thread nD τ) (κ := κ'))
    isplitr; · iexact Hinv
    isplitl [Hδ]; · iexact Hδ
    iexact Hc
  iexists W; iexact HO

/-- Transfer `n`'s landing waited for: position and credit. -/
def rcv (i : Fin 2) (n : Fin 6) (r : ℕ) (c : Dev nD) : sProp 𝕄 :=
  iprop(cred (tallyAt (rvCell i n c) r Nv) ∗ atPos ER (rvCell i n c) r ∅ 0)
/-- Transfer `n` right to be sent. -/
def snd (i : Fin 2) (n : Fin 6) (r : ℕ) (c : Dev nD) : sProp 𝕄 :=
  iprop(sv0 c (sendSem i n) ∗ dutyTok ER (rvCell i n (tgt i c)) r 0)
/-- Transfer `n` of the round done. -/
def xd (i : Fin 2) (n : Fin 6) (r : ℕ) (c : Dev nD) : sProp 𝕄 :=
  iprop(sv0 c (sendSem i n) ∗ atPos ER (rvCell i n c) (r + 1) ∅ 0 ∗ reached ER (rvCell i n c) (r + 1))

theorem wp_waits {src dst : VBlk} {hs hd hs' hd'} {i r : Fin 2} {n : Fin 6} {D : sProp 𝕄} {m : ℕ}
    {k : PG F} {Q : PUnit → sProp 𝕄} (hN : src.view.dmaCredit = Nv) (hN' : dst.view.dmaCredit = Nv)
    (hl : lvK (.rv i n) r.val ≤ m / 2) :
    iprop(know I κ ∗ flt c (sendSem i n) D ∗ rcv i n r.val c ∗ ow c m)
      ⊢ iprop(((D ∗ xd i n r.val c ∗ rvPay I c i n r.val ∗ ow c m) -∗ WP k Q)
        -∗ WP (waitV (sendSem i n) dst hd src hs (waitV (recvSem i n) src hs' dst hd' k)) Q) := by
  unfold rcv
  iintro ⟨#HK, HF, ⟨Hc, Ha⟩, HO⟩ Hk
  unfold waitV
  iapply (wp_waitF (I := I) (κ := κ) (kind_send i n) hN) $$ [HF HO]
  · isplitr; · iexact HK
    isplitl [HF]; · iexact HF
    iexact HO
  iintro ⟨HD, Hv, HO⟩
  unfold ow
  icases HO with ⟨%W, HO⟩
  ihave Hl := (know_lev I κ) $$ HK
  ihave Hi := (know_inv I κ (rv_mem i n c)) $$ HK
  have hw : ∀ K : PUnit → sProp 𝕄, wpE (defs₀ (F := F)) 𝒱₀ (c : Thread nD τ) none Set.univ (.waitDma2 (recvSem i n) src dst hs' hd') K
      = waitSpec (c : Thread nD τ) Set.univ (.dma (recvSem i n)) Nv K := by
    rw [← hN']; exact wpE_waitDma2_eq 𝒱₀ (c : Thread nD τ) none Set.univ
  iapply (Rounds.wp_wait_rest_token 𝒱₀ ER (Rd I) (c : Thread nD τ) none (κ := κ (rvCell i n c)) hw (Set.mem_univ _) r.val
    (O := O c m) (W := W) (R := r.val) (m := 0) (T := ∅) ((Nat.zero_add _).trans (expect_rv I c i n r.isLt).symm)) $$ [Hc HO Ha Hi Hl]
  · isplitl [Hi]; · iexact Hi
    isplitl [Hc]; · iexact Hc
    isplitl [HO]; · iexact HO
    isplitl [Hl]; · iapply (mayWait c (.dma (recvSem i n)) r.val m (by omega) (by rw [kind_rv]; exact hl)) $$ Hl
    iexact Ha
  rw [rest_rv I c i n r.isLt]
  iintro ⟨HO, Ha, Hr, Hp⟩
  iapply Hk
  isplitl [HD]; · iexact HD
  isplitl [Hv Ha Hr]
  · unfold xd
    isplitl [Hv]; · iexact Hv
    isplitl [Ha]; · iexact Ha
    iexact Hr
  isplitl [Hp]; · iexact Hp
  iexists _; iexact HO

/-! ## Credits -/

theorem wp_sigCr {i : Fin 2} {x m : ℕ} {P : sProp 𝕄} {k : PG F} {Q : PUnit → sProp 𝕄} (hx : x < 4)
    (hO : O c m = O c (m + 1) + tallyAt (crCell i (src i c)) x 1) (hpay : P ⊢ (Rd I).payload (crCell i (src i c)) x 0) :
    iprop(know I κ ∗ dutyTok ER (crCell i (src i c)) x 0 ∗ reached ER (crCell i (src i c)) x ∗ P ∗ ow c m)
      ⊢ iprop((ow c (m + 1) -∗ WP k Q) -∗ WP (signal (src i c) (crSem i) k) Q) := by
  iintro ⟨#HK, Ht, Hr, HP, HO⟩ Hk
  ihave Hi := (know_inv I κ (cr_mem i (src i c))) $$ HK
  ihave HP := hpay $$ HP
  unfold ow
  icases HO with ⟨%W, HO⟩
  unfold signal
  iapply (Rounds.wp_signal 𝒱₀ ER (Rd I) (c : Thread nD τ) none (dst := ((src i c) : Thread nD τ)) (sem := crSem i) (r := x) (d := (0 : Fin 2)) (κ := κ (crCell i (src i c)))
    (by rw [duties_cr I _ i hx]; exact Finset.mem_singleton_self _) (amount_cr I _ i x 0) x (O c (m + 1)) hO) $$ [Ht Hr HP HO Hi]
  · isplitl [Hi]; · iexact Hi
    isplitl [HO]; · iexact HO
    isplitl [Ht]; · iexact Ht
    isplitl [HP]; · iexact HP
    iexact Hr
  iintro HO
  iapply Hk
  iexists W; iexact HO

theorem wp_waitCr {i : Fin 2} {x m : ℕ} {P : sProp 𝕄} {k : PG F} {Q : PUnit → sProp 𝕄} (hx : x < 4) (hl : lvK (.cr i) x ≤ m / 2)
    (hp : bigSep ((Rd I).duties (crCell i c) x \ ∅) (fun u => (Rd I).payload (crCell i c) x u) = P) :
    iprop(know I κ ∗ cred (tallyAt (crCell i c) x 1) ∗ atPos ER (crCell i c) x ∅ 0 ∗ ow c m)
      ⊢ iprop(((atPos ER (crCell i c) (x + 1) ∅ 0 ∗ reached ER (crCell i c) (x + 1) ∗ P ∗ ow c m) -∗ WP k Q)
        -∗ WP (waitC i k) Q) := by
  iintro ⟨#HK, Hc, Ha, HO⟩ Hk
  unfold ow
  icases HO with ⟨%W, HO⟩
  ihave Hl := (know_lev I κ) $$ HK
  ihave Hi := (know_inv I κ (cr_mem i c)) $$ HK
  unfold waitC
  iapply (Rounds.wp_wait_rest_token 𝒱₀ ER (Rd I) (c : Thread nD τ) none (κ := κ (crCell i c)) (wpE_semWait_eq 𝒱₀ (c : Thread nD τ) none Set.univ) (Set.mem_univ _) x
    (O := O c m) (W := W) (R := x) (m := 0) (T := ∅) ((Nat.zero_add _).trans (expect_cr I c i hx).symm)) $$ [Hc HO Ha Hi Hl]
  · isplitl [Hi]; · iexact Hi
    isplitl [Hc]; · iexact Hc
    isplitl [HO]; · iexact HO
    isplitl [Hl]; · iapply (mayWait c (.reg (crSem i)) x m hx (by rw [kind_cr]; exact hl)) $$ Hl
    iexact Ha
  rw [hp]
  iintro ⟨HO, Ha, Hr, Hp⟩
  iapply Hk
  isplitl [Ha]; · iexact Ha
  isplitl [Hr]; · iexact Hr
  isplitl [Hp]; · iexact Hp
  iexists _; iexact HO

end Cert.KernelIdeal.Ring
end
-- ==== Proof.GroupsIdeal.lean ====
module

public import proofs.«01_k».proof.Proof.StepsIdeal

@[expose] public section

set_option maxRecDepth 16384

/-!
# The groups of operations of a round

Each group of a round's program, for either direction, as one rule: what it takes, what it leaves.
-/

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig ℕ (Elt F) ℕ UU ℕ

variable (I : Inp F)

/-! ## Names for what is held -/

/-- The partial's rows of step `s`; the residual's rows; the result's rows of step `m`, at a value or at anything. -/
abbrev hx (r i : Fin 2) (s : ℕ) (c : Dev nD) : sProp 𝕄 := hold c (xBlk (xo r i (srcN i s c))) fullShare (xv I r i (srcN i s c) c)
abbrev hr (r i : Fin 2) (c : Dev nD) : sProp 𝕄 := hold c (rBlk (ro r i (tgt i c))) fullShare (rv I r i (tgt i c) c)
abbrev ha (r i : Fin 2) (m : ℕ) (c : Dev nD) : sProp 𝕄 := anyB c (oBlk (ro r i (tgt i (srcN i m c))))
abbrev ho (r i : Fin 2) (m : ℕ) (c : Dev nD) : sProp 𝕄 := hold c (oBlk (ro r i (tgt i (srcN i m c)))) fullShare (blk I r i (srcN i m c))
abbrev hS (i : Fin 2) (q : PosShare TreeShare) (X : Blk F) (c : Dev nD) : sProp 𝕄 := hold c (half sB i) q X
abbrev hP (i : Fin 2) (X : Blk F) (c : Dev nD) : sProp 𝕄 := hold c (half pB i) fullShare X
abbrev hG (i s : Fin 2) (q : PosShare TreeShare) (X : Blk F) (c : Dev nD) : sProp 𝕄 := hold c (quarter gB i s) q X

/-- The landing cells' round reached, for the first phase's three and for the second's. -/
def re3 (i : Fin 2) (r : ℕ) (c : Dev nD) : sProp 𝕄 :=
  iprop(reached ER (rvCell i 0 c) r ∗ reached ER (rvCell i 1 c) r ∗ reached ER (rvCell i 2 c) r)
def re6 (i : Fin 2) (r : ℕ) (c : Dev nD) : sProp 𝕄 :=
  iprop(reached ER (rvCell i 3 c) r ∗ reached ER (rvCell i 4 c) r ∗ reached ER (rvCell i 5 c) r)
instance re3_p (i : Fin 2) (r : ℕ) (c : Dev nD) : BI.Persistent (re3 (F := F) i r c) := by unfold re3; infer_instance
instance re6_p (i : Fin 2) (r : ℕ) (c : Dev nD) : BI.Persistent (re6 (F := F) i r c) := by unfold re6; infer_instance

theorem rvPay_0 (c : Dev nD) (i r : Fin 2) : rvPay I c i 0 r.val = iprop(reached ER (crCell i (src i c)) (2 * r.val) ∗ hold c (quarter rB i 0) fullShare (acc I r i 0 (src i c))) := by
  show iprop(_ ∗ hold c _ _ (acc I (rf r.val) i 0 (src i c))) = _; rw [rf_val]
theorem rvPay_1 (c : Dev nD) (i r : Fin 2) : rvPay I c i 1 r.val = hold c (quarter rB i 1) fullShare (acc I r i 1 (src i c)) := by
  show hold c _ _ (acc I (rf r.val) i 1 (src i c)) = _; rw [rf_val]
theorem rvPay_2 (c : Dev nD) (i r : Fin 2) : rvPay I c i 2 r.val = hold c (quarter rB i 0) fullShare (acc I r i 2 (src i c)) := by
  show hold c _ _ (acc I (rf r.val) i 2 (src i c)) = _; rw [rf_val]
theorem rvPay_3 (c : Dev nD) (i r : Fin 2) : rvPay I c i 3 r.val = iprop(reached ER (crCell i (src i c)) (2 * r.val + 1) ∗ hold c (quarter gB i 0) fullShare (blk I r i (srcN i 1 c))) := by
  show iprop(_ ∗ hold c _ _ (blk I (rf r.val) i (src i c))) = _; rw [rf_val]; rfl
theorem rvPay_4 (c : Dev nD) (i r : Fin 2) : rvPay I c i 4 r.val = hold c (quarter gB i 1) fullShare (blk I r i (srcN i 2 c)) := by
  show hold c _ _ (blk I (rf r.val) i (src i (src i c))) = _; rw [rf_val]; rfl
theorem rvPay_5 (c : Dev nD) (i r : Fin 2) : rvPay I c i 5 r.val = hold c (quarter gB i 0) fullShare (blk I r i (srcN i 3 c)) := by
  show hold c _ _ (blk I (rf r.val) i (src i (src i (src i c)))) = _; rw [rf_val]; rfl

variable {I} {κ : GSem nD τ sig → ℕ} {c : Dev nD}

local notation "WP" => fun p Q => wp frame (wpE (defs₀ (F := F)) 𝒱₀ (c : Thread nD τ) none) Set.univ p Q

variable {k : PG F} {r i : Fin 2} {m : ℕ}

theorem amt_h (b : Memref sig .tc .vmem S2x256x4096 .f32) (i : Fin 2) (sem : DmaSem sig) : (half b i).view.amount (.dma sem) = Nv := rfl
theorem amt_q (b : Memref sig .tc .vmem S2x2x256x4096 .f32) (i s : Fin 2) (sem : DmaSem sig) : (quarter b i s).view.amount (.dma sem) = Nv := rfl
theorem amt_o (o : ROff) (sem : DmaSem sig) : (oBlk o).view.amount (.dma sem) = Nv := rfl

/-! ## Local copies of the partial and of the result -/

theorem wp_startX {Q : PUnit → sProp 𝕄} {q : Pars} (hq : q = pars c r) {s : Fin 4} {b : Memref sig .tc .vmem S2x256x4096 .f32} {j : Fin 4} :
    iprop(hx I r i s.val c ∗ anyB c (half b i) ∗ sv0 c (cpSem j))
      ⊢ iprop((flt c (cpSem j) iprop(hold c (half b i) fullShare (xv I r i (srcN i s.val c) c) ∗ hx I r i s.val c) -∗ WP k Q)
        -∗ WP (startX q i s b j k) Q) := by
  subst hq
  exact wp_copy (k := fun _ => k) (amt_h b i _)
theorem wp_waitX {Q : PUnit → sProp 𝕄} {q : Pars} {s : Fin 4} {b : Memref sig .tc .vmem S2x256x4096 .f32} {j : Fin 4} {D : sProp 𝕄} :
    iprop(know I κ ∗ flt c (cpSem j) D ∗ ow c m)
      ⊢ iprop(((D ∗ sv0 c (cpSem j) ∗ ow c m) -∗ WP k Q) -∗ WP (waitX q i s b j k) Q) :=
  wp_waitF (k := fun _ => k) (kind_cp j) rfl
theorem wp_startO {Q : PUnit → sProp 𝕄} {q : Pars} (hq : q = pars c r) {s : Fin 2} {n : Fin 4} {p : PosShare TreeShare} {X : Blk F} (hX : X = blk I r i (srcN i n.val c)) :
    iprop(hG i s p X c ∗ ha r i n.val c ∗ sv0 c (outSem i s))
      ⊢ iprop((flt c (outSem i s) iprop(ho I r i n.val c ∗ hG i s p X c) -∗ WP k Q) -∗ WP (startO q i s n k) Q) := by
  subst hq hX
  exact wp_copy (k := fun _ => k) (amt_o _ _)
theorem wp_waitO {Q : PUnit → sProp 𝕄} {q : Pars} {s : Fin 2} {n : Fin 4} {D : sProp 𝕄} :
    iprop(know I κ ∗ flt c (outSem i s) D ∗ ow c m)
      ⊢ iprop(((D ∗ sv0 c (outSem i s) ∗ ow c m) -∗ WP k Q) -∗ WP (waitO q i s n k) Q) :=
  wp_waitF (k := fun _ => k) (kind_out i s) (credit_o _)

/-! ## The first phase -/

/-- What the first transfer takes: the landing buffer, and that the credit cell's round is open. -/
def j2 (r i : Fin 2) (c : Dev nD) : sProp 𝕄 :=
  iprop(anyB (tgt i c) (quarter rB i 0) ∗ reached ER (rvCell i 0 (tgt i c)) r.val ∗ reached ER (crCell i c) (2 * r.val) ∗ snd i 0 r.val c)

theorem wp_sendR0 {Q : PUnit → sProp 𝕄} {q : Pars} (hq : q = pars c r) {j : Fin 16} (hj : (pars c r).dv j = tgt i c) (hm : m = 2 + 16 * r.val + (2 * 0 + i.val)) :
    iprop(know I κ ∗ hS i fullShare (acc I r i 0 c) c ∗ j2 r i c ∗ ow c m)
      ⊢ iprop(((flt c (sendSem i 0) (hS i fullShare (acc I r i 0 c) c) ∗ ow c (m + 1)) -∗ WP k Q) -∗ WP (sendR q i 0 0 j k) Q) := by
  subst hq
  unfold sendR j2 snd
  rw [hj]
  iintro ⟨#HK, Hs, ⟨Hd, Hr, Hc, Ht⟩, HO⟩ Hk
  iapply (wp_sendTo (I := I) (κ := κ) (r := r) (i := i) (n := 0) (src := half sB i) (dst := quarter rB i 0) (q := fullShare) (X := acc I r i 0 c) (m := m) (k := k) (Q := Q) (P := reached ER (crCell i c) (2 * r.val)) (amt_q rB i 0 _) (O_round c r i 0 hm)
    (by rw [rvPay_0, src_tgt])) $$ [Hs Hd Hr Hc Ht HO]
  · isplitr; · iexact HK
    isplitl [Hs]; · iexact Hs
    isplitl [Hd]; · iexact Hd
    isplitl [Hr]; · iexact Hr
    isplitl [Hc]; · iexact Hc
    isplitl [Ht]; · iexact Ht
    iexact HO
  iexact Hk

/-- What the first step takes. -/
def j3 (I : Inp F) (r i : Fin 2) (c : Dev nD) : sProp 𝕄 :=
  iprop(rcv i 0 r.val c ∗ dutyTok ER (crCell i (src i c)) (2 * r.val) 0 ∗ anyB c (quarter gB i 0) ∗ anyB c (quarter gB i 1) ∗ re6 i r.val c ∗ hx I r i 2 c)

theorem wp_rs0 {Q : PUnit → sProp 𝕄} {q : Pars} (hq : q = pars c r) {j : Fin 16} (hj : (pars c r).dv j = src i c) (hm : m = 2 + 16 * r.val + (2 * 1 + i.val)) :
    iprop(know I κ ∗ flt c (sendSem i 0) (hS i fullShare (acc I r i 0 c) c) ∗ hP i (xv I r i (srcN i 1 c) c) c ∗ sv0 c (cpSem (cB i)) ∗ j3 I r i c ∗ ow c m)
      ⊢ iprop(((hS i fullShare (acc I r i 1 c) c ∗ flt c (cpSem (cB i)) iprop(hP i (xv I r i (srcN i 2 c) c) c ∗ hx I r i 2 c) ∗ xd i 0 r.val c ∗ ow c (m + 1)) -∗ WP k Q)
        -∗ WP (rs0 q i j k) Q) := by
  subst hq
  unfold rs0 waitsR j3
  rw [hj]
  iintro ⟨#HK, HF, HP, HB, ⟨HR, Ht, HG0, HG1, #Hre, Hx⟩, HO⟩ Hk
  iapply (wp_waits (I := I) (κ := κ) (r := r) (i := i) (n := 0) (m := m) (credit_sB i) (credit_rB i 0) (by subst hm; show 8 * r.val + 2 ≤ _; omega)) $$ [HF HR HO]
  · isplitr; · iexact HK
    isplitl [HF]; · iexact HF
    isplitl [HR]; · iexact HR
    iexact HO
  rw [rvPay_0]
  iintro ⟨HS, HX, ⟨Hc, HL⟩, HO⟩
  iapply (wp_addLoop (s := 0)) $$ [HL HP HS]
  · isplitl [HL]; · iexact HL
    isplitl [HP]; · iexact HP
    iexact HS
  iintro ⟨HL, HP, HS⟩
  ihave HL := (hold_any c _ _) $$ HL
  iapply (wp_sigCr (I := I) (κ := κ) (m := m) (x := 2 * r.val) (P := iprop(anyB c (quarter rB i 0) ∗ anyB c (quarter gB i 0) ∗ anyB c (quarter gB i 1) ∗ re6 i r.val c))
    (by omega) (O_round c r i 1 hm) (by rw [payload_crA]; unfold crPayA re6; rw [tgt_src])) $$ [Ht Hc HL HG0 HG1 HO]
  · isplitr; · iexact HK
    isplitl [Ht]; · iexact Ht
    isplitl [Hc]; · iexact Hc
    isplitl [HL HG0 HG1]
    · isplitl [HL]; · iexact HL
      isplitl [HG0]; · iexact HG0
      isplitl [HG1]; · iexact HG1
      iexact Hre
    iexact HO
  iintro HO
  ihave HP := (hold_any c _ _) $$ HP
  iapply (wp_startX (I := I) (i := i) (b := pB) (j := cB i) (q := pars c r) rfl (s := 2)) $$ [Hx HP HB]
  · isplitl [Hx]; · iexact Hx
    isplitl [HP]; · iexact HP
    iexact HB
  iintro HB
  iapply Hk
  isplitl [HS]; · iexact HS
  isplitl [HB]; · iexact HB
  isplitl [HX]; · iexact HX
  iexact HO

def j4 (r i : Fin 2) (c : Dev nD) : sProp 𝕄 :=
  iprop(anyB (tgt i c) (quarter rB i 1) ∗ reached ER (rvCell i 1 (tgt i c)) r.val ∗ snd i 1 r.val c)

theorem wp_sendR1 {Q : PUnit → sProp 𝕄} {q : Pars} (hq : q = pars c r) {j : Fin 16} (hj : (pars c r).dv j = tgt i c) (hm : m = 2 + 16 * r.val + (2 * 2 + i.val)) :
    iprop(know I κ ∗ hS i fullShare (acc I r i 1 c) c ∗ j4 r i c ∗ ow c m)
      ⊢ iprop(((flt c (sendSem i 1) (hS i fullShare (acc I r i 1 c) c) ∗ ow c (m + 1)) -∗ WP k Q) -∗ WP (sendR q i 1 1 j k) Q) := by
  subst hq
  unfold sendR j4 snd
  rw [hj]
  iintro ⟨#HK, Hs, ⟨Hd, Hr, Ht⟩, HO⟩ Hk
  iapply (wp_sendTo (I := I) (κ := κ) (r := r) (i := i) (n := 1) (src := half sB i) (dst := quarter rB i 1) (q := fullShare) (X := acc I r i 1 c) (m := m) (k := k) (Q := Q) (P := iprop(emp)) (amt_q rB i 1 _) (O_round c r i 2 hm)
    (by rw [rvPay_1, src_tgt]; iintro ⟨-, H⟩; iexact H)) $$ [Hs Hd Hr Ht HO]
  · isplitr; · iexact HK
    isplitl [Hs]; · iexact Hs
    isplitl [Hd]; · iexact Hd
    isplitl [Hr]; · iexact Hr
    isplitr; · iempintro
    isplitl [Ht]; · iexact Ht
    iexact HO
  iexact Hk

theorem wp_rs1 {Q : PUnit → sProp 𝕄} {q : Pars} (hq : q = pars c r) (hm : m = 2 + 16 * r.val + 6) :
    iprop(know I κ ∗ flt c (sendSem i 1) (hS i fullShare (acc I r i 1 c) c) ∗ flt c (cpSem (cB i)) iprop(hP i (xv I r i (srcN i 2 c) c) c ∗ hx I r i 2 c)
        ∗ (rcv i 1 r.val c ∗ hx I r i 3 c) ∗ ow c m)
      ⊢ iprop(((hS i fullShare (acc I r i 2 c) c ∗ flt c (cpSem (cB i)) iprop(hP i (xv I r i (srcN i 3 c) c) c ∗ hx I r i 3 c) ∗ hx I r i 2 c ∗ xd i 1 r.val c ∗ anyB c (quarter rB i 1) ∗ ow c m) -∗ WP k Q)
        -∗ WP (rs1 q i k) Q) := by
  subst hq
  unfold rs1 waitsR
  iintro ⟨#HK, HF, HB, ⟨HR, Hx⟩, HO⟩ Hk
  iapply (wp_waits (I := I) (κ := κ) (r := r) (i := i) (n := 1) (m := m) (credit_sB i) (credit_rB i 1) (by subst hm; show 8 * r.val + 4 ≤ _; omega)) $$ [HF HR HO]
  · isplitr; · iexact HK
    isplitl [HF]; · iexact HF
    isplitl [HR]; · iexact HR
    iexact HO
  rw [rvPay_1]
  iintro ⟨HS, HX, HL, HO⟩
  iapply (wp_waitX (I := I) (κ := κ)) $$ [HB HO]
  · isplitr; · iexact HK
    isplitl [HB]; · iexact HB
    iexact HO
  iintro ⟨⟨HP, Hx2⟩, HB, HO⟩
  iapply (wp_addLoop (s := 1)) $$ [HL HP HS]
  · isplitl [HL]; · iexact HL
    isplitl [HP]; · iexact HP
    iexact HS
  iintro ⟨HL, HP, HS⟩
  ihave HL := (hold_any c _ _) $$ HL
  ihave HP := (hold_any c _ _) $$ HP
  iapply (wp_startX (I := I) (i := i) (b := pB) (j := cB i) (q := pars c r) rfl (s := 3)) $$ [Hx HP HB]
  · isplitl [Hx]; · iexact Hx
    isplitl [HP]; · iexact HP
    iexact HB
  iintro HB
  iapply Hk
  isplitl [HS]; · iexact HS
  isplitl [HB]; · iexact HB
  isplitl [Hx2]; · iexact Hx2
  isplitl [HX]; · iexact HX
  isplitl [HL]; · iexact HL
  iexact HO

/-- What the first credit takes, and what is left of it for the second phase. -/
def j6 (r i : Fin 2) (c : Dev nD) : sProp 𝕄 :=
  iprop(cred (tallyAt (crCell i c) (2 * r.val) 1) ∗ atPos ER (crCell i c) (2 * r.val) ∅ 0 ∗ reached ER (rvCell i 2 (tgt i c)) r.val ∗ snd i 2 r.val c)
def gr (r i : Fin 2) (c : Dev nD) : sProp 𝕄 :=
  iprop(anyB (tgt i c) (quarter gB i 0) ∗ reached ER (crCell i c) (2 * r.val + 1) ∗ reached ER (rvCell i 3 (tgt i c)) r.val)
def gr' (r i : Fin 2) (c : Dev nD) : sProp 𝕄 :=
  iprop(anyB (tgt i c) (quarter gB i 1) ∗ reached ER (rvCell i 4 (tgt i c)) r.val)
def gr'' (r i : Fin 2) (c : Dev nD) : sProp 𝕄 :=
  iprop(atPos ER (crCell i c) (2 * r.val + 1) ∅ 0 ∗ reached ER (rvCell i 5 (tgt i c)) r.val)

theorem wp_sendR2 {Q : PUnit → sProp 𝕄} {q : Pars} (hq : q = pars c r) {j : Fin 16} (hj : (pars c r).dv j = tgt i c) (hm : m = 2 + 16 * r.val + (2 * 3 + i.val)) :
    iprop(know I κ ∗ hS i fullShare (acc I r i 2 c) c ∗ j6 r i c ∗ ow c m)
      ⊢ iprop(((flt c (sendSem i 2) (hS i fullShare (acc I r i 2 c) c) ∗ gr r i c ∗ gr' r i c ∗ gr'' r i c ∗ ow c (m + 1)) -∗ WP k Q)
        -∗ WP (waitC i (sendR q i 2 0 j k)) Q) := by
  subst hq
  unfold j6 gr gr' gr''
  iintro ⟨#HK, Hs, ⟨Hc, Ha, Hr, Ht⟩, HO⟩ Hk
  iapply (wp_waitCr (I := I) (κ := κ) (m := m) (x := 2 * r.val) (by omega)
    (by subst hm; show 8 * (2 * r.val / 2) + (if 2 * r.val % 2 = 0 then 3 else 8) ≤ _; rw [if_pos (by omega)]; omega) (rest_crA I c i r.isLt)) $$ [Hc Ha HO]
  · isplitr; · iexact HK
    isplitl [Hc]; · iexact Hc
    isplitl [Ha]; · iexact Ha
    iexact HO
  unfold crPayA
  iintro ⟨Ha, Hr1, ⟨Hd, HG0, HG1, H3, H4, H5⟩, HO⟩
  unfold sendR snd
  rw [hj]
  iapply (wp_sendTo (I := I) (κ := κ) (r := r) (i := i) (n := 2) (src := half sB i) (dst := quarter rB i 0) (q := fullShare) (X := acc I r i 2 c) (m := m) (k := k) (Q := Q) (P := iprop(emp)) (amt_q rB i 0 _) (O_round c r i 3 hm)
    (by rw [rvPay_2, src_tgt]; iintro ⟨-, H⟩; iexact H)) $$ [Hs Hd Hr Ht HO]
  · isplitr; · iexact HK
    isplitl [Hs]; · iexact Hs
    isplitl [Hd]; · iexact Hd
    isplitl [Hr]; · iexact Hr
    isplitr; · iempintro
    isplitl [Ht]; · iexact Ht
    iexact HO
  iintro ⟨HF, HO⟩
  iapply Hk
  isplitl [HF]; · iexact HF
  isplitl [HG0 Hr1 H3]
  · isplitl [HG0]; · iexact HG0
    isplitl [Hr1]; · iexact Hr1
    iexact H3
  isplitl [HG1 H4]
  · isplitl [HG1]; · iexact HG1
    iexact H4
  isplitl [Ha H5]
  · isplitl [Ha]; · iexact Ha
    iexact H5
  iexact HO

theorem wp_rs2 {Q : PUnit → sProp 𝕄} {q : Pars} (hq : q = pars c r) (hm : m = 2 + 16 * r.val + 8) :
    iprop(know I κ ∗ flt c (sendSem i 2) (hS i fullShare (acc I r i 2 c) c) ∗ flt c (cpSem (cB i)) iprop(hP i (xv I r i (srcN i 3 c) c) c ∗ hx I r i 3 c)
        ∗ rcv i 2 r.val c ∗ ow c m)
      ⊢ iprop(((hS i fullShare (acc I r i 3 c) c ∗ anyB c (half pB i) ∗ sv0 c (cpSem (cB i)) ∗ hx I r i 3 c ∗ xd i 2 r.val c ∗ anyB c (quarter rB i 0) ∗ ow c m) -∗ WP k Q)
        -∗ WP (rs2 q i k) Q) := by
  subst hq
  unfold rs2 waitsR
  iintro ⟨#HK, HF, HB, HR, HO⟩ Hk
  iapply (wp_waits (I := I) (κ := κ) (r := r) (i := i) (n := 2) (m := m) (credit_sB i) (credit_rB i 0) (by subst hm; show 8 * r.val + 5 ≤ _; omega)) $$ [HF HR HO]
  · isplitr; · iexact HK
    isplitl [HF]; · iexact HF
    isplitl [HR]; · iexact HR
    iexact HO
  rw [rvPay_2]
  iintro ⟨HS, HX, HL, HO⟩
  iapply (wp_waitX (I := I) (κ := κ)) $$ [HB HO]
  · isplitr; · iexact HK
    isplitl [HB]; · iexact HB
    iexact HO
  iintro ⟨⟨HP, Hx2⟩, HB, HO⟩
  iapply (wp_addLoop (s := 0)) $$ [HL HP HS]
  · isplitl [HL]; · iexact HL
    isplitl [HP]; · iexact HP
    iexact HS
  iintro ⟨HL, HP, HS⟩
  ihave HL := (hold_any c _ _) $$ HL
  ihave HP := (hold_any c _ _) $$ HP
  iapply Hk
  isplitl [HS]; · iexact HS
  isplitl [HP]; · iexact HP
  isplitl [HB]; · iexact HB
  isplitl [Hx2]; · iexact Hx2
  isplitl [HX]; · iexact HX
  isplitl [HL]; · iexact HL
  iexact HO

/-! ## The normalization -/

theorem wp_normP {Q : PUnit → sProp 𝕄} {q : Pars} (hq : q = pars c r) {g : Memref sig .tc .vmem S1x4096 .f32} :
    iprop(know I κ ∗ hS i fullShare (acc I r i 3 c) c ∗ anyB c (half pB i) ∗ sv0 c (cpSem (cA i)) ∗ sv0 c (cpSem (cB i)) ∗ (hr I r i c ∗ ha r i 0 c) ∗ holdG c g (I.g c) ∗ ow c m)
      ⊢ iprop(((hS i fullShare.right (blk I r i c) c ∗ anyB c (half pB i) ∗ sv0 c (cpSem (cA i))
          ∗ flt c (cpSem (cB i)) iprop(ho I r i 0 c ∗ hS i fullShare.left (blk I r i c) c) ∗ hr I r i c ∗ holdG c g (I.g c) ∗ ow c m) -∗ WP k Q)
        -∗ WP (normP g q i k) Q) := by
  subst hq
  unfold normP startIn waitIn startOut
  iintro ⟨#HK, HS, HP, HA, HB, ⟨Hr, Ho⟩, Hg, HO⟩ Hk
  iapply (wp_copy (src := rBlk (ro r i (tgt i c))) (dst := half pB i) (sem := cpSem (cA i)) (X := rv I r i (tgt i c) c) (q := fullShare) (amt_h _ _ _)) $$ [Hr HP HA]
  · isplitl [Hr]; · iexact Hr
    isplitl [HP]; · iexact HP
    iexact HA
  iintro HA
  iapply (wp_waitF (I := I) (κ := κ) (kind_cp (cA i)) (credit_pB i)) $$ [HA HO]
  · isplitr; · iexact HK
    isplitl [HA]; · iexact HA
    iexact HO
  iintro ⟨⟨HP, Hr⟩, HA, HO⟩
  iapply (wp_normLoop (c := c) (i := i) (g := g)) $$ [HP HS Hg]
  · isplitl [HP]; · iexact HP
    isplitl [HS]; · iexact HS
    iexact Hg
  iintro ⟨HP, HS, Hg⟩
  ihave HP := (hold_any c _ _) $$ HP
  ihave HS := (hold_split c _ _) $$ HS
  icases HS with ⟨HSl, HSr⟩
  iapply (wp_copy (src := half sB i) (dst := oBlk (ro r i (tgt i (srcN i 0 c)))) (sem := cpSem (cB i)) (X := blk I r i c) (q := fullShare.left) (amt_o _ _)) $$ [HSl Ho HB]
  · isplitl [HSl]; · iexact HSl
    isplitl [Ho]; · iexact Ho
    iexact HB
  iintro HB
  iapply Hk
  isplitl [HSr]; · iexact HSr
  isplitl [HP]; · iexact HP
  isplitl [HA]; · iexact HA
  isplitl [HB]; · iexact HB
  isplitl [Hr]; · iexact Hr
  isplitl [Hg]; · iexact Hg
  iexact HO

/-! ## The second phase -/

theorem wp_sendG3 {Q : PUnit → sProp 𝕄} {q : Pars} (hq : q = pars c r) {j : Fin 16} (hj : (pars c r).dv j = tgt i c) (hm : m = 2 + 16 * r.val + (2 * 4 + i.val)) :
    iprop(know I κ ∗ hS i fullShare.right (blk I r i c) c ∗ gr r i c ∗ snd i 3 r.val c ∗ ow c m)
      ⊢ iprop(((flt c (sendSem i 3) (hS i fullShare.right (blk I r i c) c) ∗ ow c (m + 1)) -∗ WP k Q)
        -∗ WP (sendG q i 3 (half sB i) (half_wx _ _) 0 j k) Q) := by
  subst hq
  unfold sendG gr snd
  rw [hj]
  iintro ⟨#HK, Hs, ⟨Hd, Hc, Hr⟩, Ht, HO⟩ Hk
  iapply (wp_sendTo (I := I) (κ := κ) (r := r) (i := i) (n := 3) (src := half sB i) (dst := quarter gB i 0) (q := fullShare.right) (X := blk I r i c) (m := m) (k := k) (Q := Q) (P := reached ER (crCell i c) (2 * r.val + 1)) (amt_q gB i 0 _) (O_round c r i 4 hm)
    (by rw [rvPay_3]; show _ ⊢ iprop(reached ER (crCell i (src i (tgt i c))) _ ∗ hold _ _ _ (blk I r i (src i (tgt i c)))); rw [src_tgt])) $$ [Hs Hd Hr Hc Ht HO]
  · isplitr; · iexact HK
    isplitl [Hs]; · iexact Hs
    isplitl [Hd]; · iexact Hd
    isplitl [Hr]; · iexact Hr
    isplitl [Hc]; · iexact Hc
    isplitl [Ht]; · iexact Ht
    iexact HO
  iexact Hk

theorem wp_ag0 {Q : PUnit → sProp 𝕄} {q : Pars} (hq : q = pars c r) (hm : m = 2 + 16 * r.val + 10) :
    iprop(know I κ ∗ flt c (sendSem i 3) (hS i fullShare.right (blk I r i c) c) ∗ (rcv i 3 r.val c ∗ sv0 c (outSem i 0) ∗ ha r i 1 c) ∗ ow c m)
      ⊢ iprop(((hS i fullShare.right (blk I r i c) c ∗ hG i 0 fullShare.right (blk I r i (srcN i 1 c)) c
          ∗ flt c (outSem i 0) iprop(ho I r i 1 c ∗ hG i 0 fullShare.left (blk I r i (srcN i 1 c)) c) ∗ reached ER (crCell i (src i c)) (2 * r.val + 1) ∗ xd i 3 r.val c ∗ ow c m) -∗ WP k Q)
        -∗ WP (ag0 q i k) Q) := by
  subst hq
  unfold ag0 waitsG
  iintro ⟨#HK, HF, ⟨HR, HB, Ho⟩, HO⟩ Hk
  iapply (wp_waits (I := I) (κ := κ) (r := r) (i := i) (n := 3) (m := m) (credit_sB i) (credit_gB i 0) (by subst hm; show 8 * r.val + 6 ≤ _; omega)) $$ [HF HR HO]
  · isplitr; · iexact HK
    isplitl [HF]; · iexact HF
    isplitl [HR]; · iexact HR
    iexact HO
  rw [rvPay_3]
  iintro ⟨HS, HX, ⟨Hc, HG⟩, HO⟩
  ihave HG := (hold_split c _ _) $$ HG
  icases HG with ⟨HGl, HGr⟩
  iapply (wp_startO (I := I) (i := i) (r := r) (q := pars c r) rfl (s := 0) (n := 1) (p := fullShare.left) (X := blk I r i (srcN i 1 c)) rfl) $$ [HGl Ho HB]
  · isplitl [HGl]; · iexact HGl
    isplitl [Ho]; · iexact Ho
    iexact HB
  iintro HB
  iapply Hk
  isplitl [HS]; · iexact HS
  isplitl [HGr]; · iexact HGr
  isplitl [HB]; · iexact HB
  isplitl [Hc]; · iexact Hc
  isplitl [HX]; · iexact HX
  iexact HO

theorem wp_sendG4 {Q : PUnit → sProp 𝕄} {q : Pars} (hq : q = pars c r) {j : Fin 16} (hj : (pars c r).dv j = tgt i c) (hm : m = 2 + 16 * r.val + (2 * 5 + i.val)) :
    iprop(know I κ ∗ hG i 0 fullShare.right (blk I r i (srcN i 1 c)) c ∗ gr' r i c ∗ snd i 4 r.val c ∗ ow c m)
      ⊢ iprop(((flt c (sendSem i 4) (hG i 0 fullShare.right (blk I r i (srcN i 1 c)) c) ∗ ow c (m + 1)) -∗ WP k Q)
        -∗ WP (sendG q i 4 (quarter gB i 0) (quarter_wx _ _ _) 1 j k) Q) := by
  subst hq
  unfold sendG gr' snd
  rw [hj]
  iintro ⟨#HK, Hs, ⟨Hd, Hr⟩, Ht, HO⟩ Hk
  iapply (wp_sendTo (I := I) (κ := κ) (r := r) (i := i) (n := 4) (src := quarter gB i 0) (dst := quarter gB i 1) (q := fullShare.right) (X := blk I r i (srcN i 1 c)) (m := m) (k := k) (Q := Q) (P := iprop(emp)) (amt_q gB i 1 _) (O_round c r i 5 hm)
    (by rw [rvPay_4]; show _ ⊢ hold _ _ _ (blk I r i (src i (src i (tgt i c)))); rw [src_tgt]; iintro ⟨-, H⟩; iexact H)) $$ [Hs Hd Hr Ht HO]
  · isplitr; · iexact HK
    isplitl [Hs]; · iexact Hs
    isplitl [Hd]; · iexact Hd
    isplitl [Hr]; · iexact Hr
    isplitr; · iempintro
    isplitl [Ht]; · iexact Ht
    iexact HO
  iexact Hk

/-- What the round's first phase leaves for the next round's, given back in the first round, kept in the last. -/
def give (r i : Fin 2) (c : Dev nD) : sProp 𝕄 :=
  if r.val = 0 then iprop(anyB c (quarter rB i 0) ∗ anyB c (quarter rB i 1) ∗ re3 i 1 c) else iprop(emp)

theorem wp_ag1 {Q : PUnit → sProp 𝕄} {q : Pars} (hq : q = pars c r) {j : Fin 16} (hj : (pars c r).dv j = src i c) (hm : m = 2 + 16 * r.val + (2 * 6 + i.val)) :
    iprop(know I κ ∗ flt c (sendSem i 4) (hG i 0 fullShare.right (blk I r i (srcN i 1 c)) c)
        ∗ flt c (outSem i 0) iprop(ho I r i 1 c ∗ hG i 0 fullShare.left (blk I r i (srcN i 1 c)) c) ∗ reached ER (crCell i (src i c)) (2 * r.val + 1)
        ∗ give r i c ∗ (rcv i 4 r.val c ∗ dutyTok ER (crCell i (src i c)) (2 * r.val + 1) 0 ∗ sv0 c (outSem i 1) ∗ ha r i 2 c) ∗ ow c m)
      ⊢ iprop(((hG i 1 fullShare.right (blk I r i (srcN i 2 c)) c
          ∗ flt c (outSem i 1) iprop(ho I r i 2 c ∗ hG i 1 fullShare.left (blk I r i (srcN i 2 c)) c) ∗ ho I r i 1 c ∗ sv0 c (outSem i 0) ∗ xd i 4 r.val c ∗ ow c (m + 1)) -∗ WP k Q)
        -∗ WP (ag1 q i j k) Q) := by
  subst hq
  unfold ag1 waitsG
  rw [hj]
  iintro ⟨#HK, HF, HB0, Hc, Hgv, ⟨HR, Ht, HB1, Ho⟩, HO⟩ Hk
  iapply (wp_waits (I := I) (κ := κ) (r := r) (i := i) (n := 4) (m := m) (credit_gB i 0) (credit_gB i 1) (by subst hm; show 8 * r.val + 7 ≤ _; omega)) $$ [HF HR HO]
  · isplitr; · iexact HK
    isplitl [HF]; · iexact HF
    isplitl [HR]; · iexact HR
    iexact HO
  rw [rvPay_4]
  iintro ⟨HGr, HX, HG1, HO⟩
  iapply (wp_waitO (I := I) (κ := κ)) $$ [HB0 HO]
  · isplitr; · iexact HK
    isplitl [HB0]; · iexact HB0
    iexact HO
  iintro ⟨⟨Ho1, HGl⟩, HB0, HO⟩
  ihave HG0 := (hold_join c _ _) $$ [HGl HGr]
  · isplitl [HGl]; · iexact HGl
    iexact HGr
  ihave HG0 := (hold_any c _ _) $$ HG0
  iapply (wp_sigCr (I := I) (κ := κ) (m := m) (x := 2 * r.val + 1) (P := iprop(anyB c (quarter gB i 0) ∗ give r i c))
    (by omega) (O_round c r i 6 hm) (by rw [payload_crB]; unfold crPayB give re3; rw [tgt_src])) $$ [Ht Hc HG0 Hgv HO]
  · isplitr; · iexact HK
    isplitl [Ht]; · iexact Ht
    isplitl [Hc]; · iexact Hc
    isplitl [HG0 Hgv]
    · isplitl [HG0]; · iexact HG0
      iexact Hgv
    iexact HO
  iintro HO
  ihave HG1 := (hold_split c _ _) $$ HG1
  icases HG1 with ⟨HGl, HGr⟩
  iapply (wp_startO (I := I) (i := i) (r := r) (q := pars c r) rfl (s := 1) (n := 2) (p := fullShare.left) (X := blk I r i (srcN i 2 c)) rfl) $$ [HGl Ho HB1]
  · isplitl [HGl]; · iexact HGl
    isplitl [Ho]; · iexact Ho
    iexact HB1
  iintro HB1
  iapply Hk
  isplitl [HGr]; · iexact HGr
  isplitl [HB1]; · iexact HB1
  isplitl [Ho1]; · iexact Ho1
  isplitl [HB0]; · iexact HB0
  isplitl [HX]; · iexact HX
  iexact HO

/-- The next round's landing buffers, as far as the credit hands them over. -/
def got (r i : Fin 2) (c : Dev nD) : sProp 𝕄 :=
  if r.val = 0 then iprop(anyB (tgt i c) (quarter rB i 0) ∗ anyB (tgt i c) (quarter rB i 1) ∗ re3 i 1 (tgt i c)) else iprop(emp)

theorem wp_sendG5 {Q : PUnit → sProp 𝕄} {q : Pars} (hq : q = pars c r) {j : Fin 16} (hj : (pars c r).dv j = tgt i c) (hm : m = 2 + 16 * r.val + (2 * 7 + i.val)) :
    iprop(know I κ ∗ hG i 1 fullShare.right (blk I r i (srcN i 2 c)) c ∗ gr'' r i c ∗ (cred (tallyAt (crCell i c) (2 * r.val + 1) 1) ∗ snd i 5 r.val c) ∗ ow c m)
      ⊢ iprop(((flt c (sendSem i 5) (hG i 1 fullShare.right (blk I r i (srcN i 2 c)) c) ∗ got r i c
          ∗ (atPos ER (crCell i c) (2 * r.val + 2) ∅ 0 ∗ reached ER (crCell i c) (2 * r.val + 2)) ∗ ow c (m + 1)) -∗ WP k Q)
        -∗ WP (waitC i (sendG q i 5 (quarter gB i 1) (quarter_wx _ _ _) 0 j k)) Q) := by
  subst hq
  unfold gr''
  iintro ⟨#HK, Hs, ⟨Ha, Hr⟩, ⟨Hc, Ht⟩, HO⟩ Hk
  iapply (wp_waitCr (I := I) (κ := κ) (m := m) (x := 2 * r.val + 1) (by omega)
    (by subst hm; show 8 * ((2 * r.val + 1) / 2) + (if (2 * r.val + 1) % 2 = 0 then 3 else 8) ≤ _; rw [if_neg (by omega)]; omega) (rest_crB I c i r.isLt)) $$ [Hc Ha HO]
  · isplitr; · iexact HK
    isplitl [Hc]; · iexact Hc
    isplitl [Ha]; · iexact Ha
    iexact HO
  unfold crPayB
  iintro ⟨Ha, Hr1, ⟨Hd, Hgot⟩, HO⟩
  unfold sendG snd
  rw [hj]
  iapply (wp_sendTo (I := I) (κ := κ) (r := r) (i := i) (n := 5) (src := quarter gB i 1) (dst := quarter gB i 0) (q := fullShare.right) (X := blk I r i (srcN i 2 c)) (m := m) (k := k) (Q := Q) (P := iprop(emp)) (amt_q gB i 0 _) (O_round c r i 7 hm)
    (by rw [rvPay_5]; show _ ⊢ hold _ _ _ (blk I r i (src i (src i (src i (tgt i c))))); rw [src_tgt]; iintro ⟨-, H⟩; iexact H)) $$ [Hs Hd Hr Ht HO]
  · isplitr; · iexact HK
    isplitl [Hs]; · iexact Hs
    isplitl [Hd]; · iexact Hd
    isplitl [Hr]; · iexact Hr
    isplitr; · iempintro
    isplitl [Ht]; · iexact Ht
    iexact HO
  iintro ⟨HF, HO⟩
  iapply Hk
  isplitl [HF]; · iexact HF
  isplitl [Hgot]; · unfold got re3; iexact Hgot
  isplitl [Ha Hr1]
  · isplitl [Ha]; · iexact Ha
    iexact Hr1
  iexact HO

theorem wp_ag2 {Q : PUnit → sProp 𝕄} {q : Pars} (hq : q = pars c r) (hm : m = 2 + 16 * r.val + 16) :
    iprop(know I κ ∗ flt c (sendSem i 5) (hG i 1 fullShare.right (blk I r i (srcN i 2 c)) c) ∗ sv0 c (outSem i 0) ∗ (rcv i 5 r.val c ∗ ha r i 3 c) ∗ ow c m)
      ⊢ iprop(((hG i 1 fullShare.right (blk I r i (srcN i 2 c)) c
          ∗ flt c (outSem i 0) iprop(ho I r i 3 c ∗ hG i 0 fullShare (blk I r i (srcN i 3 c)) c) ∗ xd i 5 r.val c ∗ ow c m) -∗ WP k Q)
        -∗ WP (ag2 q i k) Q) := by
  subst hq
  unfold ag2 waitsG
  iintro ⟨#HK, HF, HB, ⟨HR, Ho⟩, HO⟩ Hk
  iapply (wp_waits (I := I) (κ := κ) (r := r) (i := i) (n := 5) (m := m) (credit_gB i 1) (credit_gB i 0) (by subst hm; show 8 * r.val + 9 ≤ _; omega)) $$ [HF HR HO]
  · isplitr; · iexact HK
    isplitl [HF]; · iexact HF
    isplitl [HR]; · iexact HR
    iexact HO
  rw [rvPay_5]
  iintro ⟨HGr, HX, HG, HO⟩
  iapply (wp_startO (I := I) (i := i) (r := r) (q := pars c r) rfl (s := 0) (n := 3) (p := fullShare) (X := blk I r i (srcN i 3 c)) rfl) $$ [HG Ho HB]
  · isplitl [HG]; · iexact HG
    isplitl [Ho]; · iexact Ho
    iexact HB
  iintro HB
  iapply Hk
  isplitl [HGr]; · iexact HGr
  isplitl [HB]; · iexact HB
  isplitl [HX]; · iexact HX
  iexact HO

end Cert.KernelIdeal.Ring
end
-- ==== Proof.RoundIdeal.lean ====
module

public import proofs.«01_k».proof.Proof.GroupsIdeal

@[expose] public section

set_option maxRecDepth 16384

/-!
# One round

What a direction takes into a round and what it brings out; the round's two directions run together.
-/

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig ℕ (Elt F) ℕ UU ℕ

section Bundles
variable (I : Inp F) (r i : Fin 2) (c : Dev nD)

def j1 : sProp 𝕄 :=
  iprop(hx I r i 0 c ∗ hx I r i 1 c ∗ sv0 c (cpSem (cA i)) ∗ sv0 c (cpSem (cB i)) ∗ anyB c (half sB i) ∗ anyB c (half pB i))
def j5 : sProp 𝕄 := iprop(rcv i 1 r.val c ∗ hx I r i 3 c)
def j8 : sProp 𝕄 := iprop(hr I r i c ∗ ha r i 0 c)
def j10 : sProp 𝕄 := iprop(rcv i 3 r.val c ∗ sv0 c (outSem i 0) ∗ ha r i 1 c)
def j12 : sProp 𝕄 := iprop(rcv i 4 r.val c ∗ dutyTok ER (crCell i (src i c)) (2 * r.val + 1) 0 ∗ sv0 c (outSem i 1) ∗ ha r i 2 c)
def j13 : sProp 𝕄 := iprop(cred (tallyAt (crCell i c) (2 * r.val + 1) 1) ∗ snd i 5 r.val c)
def j14 : sProp 𝕄 := iprop(rcv i 5 r.val c ∗ ha r i 3 c)

/-- What direction `i` takes into round `r`. -/
def dirPre : sProp 𝕄 :=
  iprop(j1 I r i c ∗ j2 r i c ∗ j3 I r i c ∗ j4 r i c ∗ j5 I r i c ∗ j6 r i c ∗ rcv i 2 r.val c ∗ j8 I r i c ∗ snd i 3 r.val c
    ∗ j10 r i c ∗ snd i 4 r.val c ∗ j12 r i c ∗ j13 r i c ∗ j14 r i c)

/-- The first phase's landing buffers, kept in the last round. -/
def keep : sProp 𝕄 := if r.val = 0 then iprop(emp) else iprop(anyB c (quarter rB i 0) ∗ anyB c (quarter rB i 1))

/-- The copies' semaphores and the buffers no transfer touches any more. -/
def loc4 : sProp 𝕄 := iprop(sv0 c (cpSem (cA i)) ∗ sv0 c (cpSem (cB i)) ∗ sv0 c (outSem i 0) ∗ sv0 c (outSem i 1))
def buf4 : sProp 𝕄 := iprop(anyB c (half sB i) ∗ anyB c (half pB i) ∗ anyB c (quarter gB i 0) ∗ anyB c (quarter gB i 1))
/-- The operands' rows back, and the result's. -/
def rows5 : sProp 𝕄 := iprop(hx I r i 0 c ∗ hx I r i 1 c ∗ hx I r i 2 c ∗ hx I r i 3 c ∗ hr I r i c)
def outs4 : sProp 𝕄 := iprop(ho I r i 0 c ∗ ho I r i 1 c ∗ ho I r i 2 c ∗ ho I r i 3 c)
def xds : sProp 𝕄 := iprop(xd i 0 r.val c ∗ xd i 1 r.val c ∗ xd i 2 r.val c ∗ xd i 3 r.val c ∗ xd i 4 r.val c ∗ xd i 5 r.val c)
def crd : sProp 𝕄 := iprop(atPos ER (crCell i c) (2 * r.val + 2) ∅ 0 ∗ reached ER (crCell i c) (2 * r.val + 2))

/-- What it brings out. -/
def dirPost : sProp 𝕄 :=
  iprop(rows5 I r i c ∗ outs4 I r i c ∗ loc4 i c ∗ buf4 i c ∗ keep r i c ∗ got r i c ∗ crd r i c ∗ xds r i c)

/-- The landing buffers go with the second credit in the first round and stay in the last. -/
theorem give_keep : iprop(anyB c (quarter rB i 0) ∗ anyB c (quarter rB i 1) ∗ xd i 0 r.val c ∗ xd i 1 r.val c ∗ xd i 2 r.val c)
    ⊢ (iprop(give r i c ∗ keep r i c ∗ xd i 0 r.val c ∗ xd i 1 r.val c ∗ xd i 2 r.val c) : sProp 𝕄) := by
  unfold give keep
  by_cases h : r.val = 0
  · rw [if_pos h, if_pos h, h]
    unfold xd re3
    iintro ⟨H0, H1, ⟨Hs0, Ha0, #Hr0⟩, ⟨Hs1, Ha1, #Hr1⟩, ⟨Hs2, Ha2, #Hr2⟩⟩
    isplitl [H0 H1]
    · isplitl [H0]; · iexact H0
      isplitl [H1]; · iexact H1
      isplitr; · iexact Hr0
      isplitr; · iexact Hr1
      iexact Hr2
    isplitr; · iempintro
    isplitl [Hs0 Ha0]
    · isplitl [Hs0]; · iexact Hs0
      isplitl [Ha0]; · iexact Ha0
      iexact Hr0
    isplitl [Hs1 Ha1]
    · isplitl [Hs1]; · iexact Hs1
      isplitl [Ha1]; · iexact Ha1
      iexact Hr1
    isplitl [Hs2]; · iexact Hs2
    isplitl [Ha2]; · iexact Ha2
    iexact Hr2
  · rw [if_neg h, if_neg h]
    iintro ⟨H0, H1, H⟩
    isplitr; · iempintro
    isplitl [H0 H1]
    · isplitl [H0]; · iexact H0
      iexact H1
    iexact H
end Bundles

variable {I : Inp F} {κ : GSem nD τ sig → ℕ} {c : Dev nD}

local notation "WP" => fun p Q => wp frame (wpE (defs₀ (F := F)) 𝒱₀ (c : Thread nD τ) none) Set.univ p Q

variable {k : PG F} {r : Fin 2} {m : ℕ}

/-- The loads that open a round. -/
theorem wp_prologue {Q : PUnit → sProp 𝕄} {q : Pars} (hq : q = pars c r) :
    iprop(know I κ ∗ j1 I r 0 c ∗ j1 I r 1 c ∗ ow c m)
      ⊢ iprop(((hx I r 0 0 c ∗ hx I r 0 1 c ∗ sv0 c (cpSem (cA 0)) ∗ sv0 c (cpSem (cB 0)) ∗ hS 0 fullShare (acc I r 0 0 c) c ∗ hP 0 (xv I r 0 (srcN 0 1 c) c) c
          ∗ hx I r 1 0 c ∗ hx I r 1 1 c ∗ sv0 c (cpSem (cA 1)) ∗ sv0 c (cpSem (cB 1)) ∗ hS 1 fullShare (acc I r 1 0 c) c ∗ hP 1 (xv I r 1 (srcN 1 1 c) c) c ∗ ow c m) -∗ WP k Q)
        -∗ WP (prologue q k) Q) := by
  subst hq
  unfold j1 prologue
  iintro ⟨#HK, ⟨Hx0, Hx1, HA, HB, HS, HP⟩, ⟨Hx0', Hx1', HA', HB', HS', HP'⟩, HO⟩ Hk
  iapply (wp_startX (I := I) (r := r) (i := 0) (b := sB) (j := cA 0) (q := pars c r) rfl (s := 0)) $$ [Hx0 HS HA]; · iframe HS HA; iexact Hx0
  iintro HA
  iapply (wp_startX (I := I) (r := r) (i := 0) (b := pB) (j := cB 0) (q := pars c r) rfl (s := 1)) $$ [Hx1 HP HB]; · iframe HP HB; iexact Hx1
  iintro HB
  iapply (wp_startX (I := I) (r := r) (i := 1) (b := sB) (j := cA 1) (q := pars c r) rfl (s := 0)) $$ [Hx0' HS' HA']; · iframe HS' HA'; iexact Hx0'
  iintro HA'
  iapply (wp_startX (I := I) (r := r) (i := 1) (b := pB) (j := cB 1) (q := pars c r) rfl (s := 1)) $$ [Hx1' HP' HB']; · iframe HP' HB'; iexact Hx1'
  iintro HB'
  iapply (wp_waitX (I := I) (κ := κ) (i := 0)) $$ [HA HO]; · iframe HK HA HO
  iintro ⟨⟨HS, Hx0⟩, HA, HO⟩
  iapply (wp_waitX (I := I) (κ := κ) (i := 0)) $$ [HB HO]; · iframe HK HB HO
  iintro ⟨⟨HP, Hx1⟩, HB, HO⟩
  iapply (wp_waitX (I := I) (κ := κ) (i := 1)) $$ [HA' HO]; · iframe HK HA' HO
  iintro ⟨⟨HS', Hx0'⟩, HA', HO⟩
  iapply (wp_waitX (I := I) (κ := κ) (i := 1)) $$ [HB' HO]; · iframe HK HB' HO
  iintro ⟨⟨HP', Hx1'⟩, HB', HO⟩
  iapply Hk
  isplitl [Hx0]; · iexact Hx0
  isplitl [Hx1]; · iexact Hx1
  isplitl [HA]; · iexact HA
  isplitl [HB]; · iexact HB
  isplitl [HS]; · iexact HS
  isplitl [HP]; · iexact HP
  isplitl [Hx0']; · iexact Hx0'
  isplitl [Hx1']; · iexact Hx1'
  isplitl [HA']; · iexact HA'
  isplitl [HB']; · iexact HB'
  isplitl [HS']; · iexact HS'
  isplitl [HP']; · iexact HP'
  iexact HO

/-- The waits that close it. -/
theorem wp_epilogue {Q : PUnit → sProp 𝕄} {q : Pars} {D0 D1 D2 D3 D4 D5 : sProp 𝕄} :
    iprop(know I κ ∗ (flt c (outSem 0 0) D0 ∗ flt c (outSem 0 1) D1 ∗ flt c (cpSem (cB 0)) D4) ∗ (flt c (outSem 1 0) D2 ∗ flt c (outSem 1 1) D3 ∗ flt c (cpSem (cB 1)) D5) ∗ ow c m)
      ⊢ iprop((((D0 ∗ D1 ∗ D4 ∗ sv0 c (outSem 0 0) ∗ sv0 c (outSem 0 1) ∗ sv0 c (cpSem (cB 0))) ∗ (D2 ∗ D3 ∗ D5 ∗ sv0 c (outSem 1 0) ∗ sv0 c (outSem 1 1) ∗ sv0 c (cpSem (cB 1))) ∗ ow c m) -∗ WP k Q)
        -∗ WP (epilogue q k) Q) := by
  unfold epilogue waitOut
  iintro ⟨#HK, ⟨H0, H1, H4⟩, ⟨H2, H3, H5⟩, HO⟩ Hk
  iapply (wp_waitO (I := I) (κ := κ) (i := 0)) $$ [H0 HO]; · iframe HK H0 HO
  iintro ⟨H0, S0, HO⟩
  iapply (wp_waitO (I := I) (κ := κ) (i := 0)) $$ [H1 HO]; · iframe HK H1 HO
  iintro ⟨H1, S1, HO⟩
  iapply (wp_waitO (I := I) (κ := κ) (i := 1)) $$ [H2 HO]; · iframe HK H2 HO
  iintro ⟨H2, S2, HO⟩
  iapply (wp_waitO (I := I) (κ := κ) (i := 1)) $$ [H3 HO]; · iframe HK H3 HO
  iintro ⟨H3, S3, HO⟩
  iapply (wp_waitF (I := I) (κ := κ) (sem := cpSem (cB 0)) (kind_cp _) (credit_o _)) $$ [H4 HO]; · iframe HK H4 HO
  iintro ⟨H4, S4, HO⟩
  iapply (wp_waitF (I := I) (κ := κ) (sem := cpSem (cB 1)) (kind_cp _) (credit_o _)) $$ [H5 HO]; · iframe HK H5 HO
  iintro ⟨H5, S5, HO⟩
  iapply Hk
  isplitl [H0 H1 H4 S0 S1 S4]; · iframe
  isplitl [H2 H3 H5 S2 S3 S5]; · iframe
  iexact HO

set_option maxHeartbeats 1600000 in
/-- A round, from what its directions take to what they bring out. -/
theorem wp_round {Q : PUnit → sProp 𝕄} {q : Pars} (hq : q = pars c r) {g : Memref sig .tc .vmem S1x4096 .f32} :
    iprop(know I κ ∗ dirPre I r 0 c ∗ dirPre I r 1 c ∗ holdG c g (I.g c) ∗ ow c (2 + 16 * r.val))
      ⊢ iprop(((dirPost I r 0 c ∗ dirPost I r 1 c ∗ holdG c g (I.g c) ∗ ow c (2 + 16 * r.val + 16)) -∗ WP k Q)
        -∗ WP (roundP g q k) Q) := by
  subst hq
  unfold roundP phase1 phase2 dirPre
  iintro ⟨#HK, ⟨J1, J2, J3, J4, J5, J6, J7, J8, J9, J10, J11, J12, J13, J14⟩, ⟨K1, K2, K3, K4, K5, K6, K7, K8, K9, K10, K11, K12, K13, K14⟩, Hg, HO⟩ Hk
  iapply (wp_prologue (I := I) (κ := κ) (q := pars c r) rfl) $$ [J1 K1 HO]; · iframe HK J1 K1 HO
  iintro ⟨X0, X1, A, B, S, P, Y0, Y1, A', B', S', P', HO⟩
  iapply (wp_sendR0 (I := I) (κ := κ) (i := 0) (q := pars c r) (m := 2 + 16 * r.val + 0) rfl rfl rfl) $$ [S J2 HO]; · iframe HK S J2 HO
  iintro ⟨S, HO⟩
  iapply (wp_sendR0 (I := I) (κ := κ) (i := 1) (q := pars c r) (m := 2 + 16 * r.val + 1) rfl rfl rfl) $$ [S' K2 HO]; · iframe HK S' K2 HO
  iintro ⟨S', HO⟩
  iapply (wp_rs0 (I := I) (κ := κ) (i := 0) (q := pars c r) (m := 2 + 16 * r.val + 2) rfl rfl rfl) $$ [S P B J3 HO]; · iframe HK S P B J3 HO
  iintro ⟨S, B, D0, HO⟩
  iapply (wp_rs0 (I := I) (κ := κ) (i := 1) (q := pars c r) (m := 2 + 16 * r.val + 3) rfl rfl rfl) $$ [S' P' B' K3 HO]; · iframe HK S' P' B' K3 HO
  iintro ⟨S', B', D0', HO⟩
  iapply (wp_sendR1 (I := I) (κ := κ) (i := 0) (q := pars c r) (m := 2 + 16 * r.val + 4) rfl rfl rfl) $$ [S J4 HO]; · iframe HK S J4 HO
  iintro ⟨S, HO⟩
  iapply (wp_sendR1 (I := I) (κ := κ) (i := 1) (q := pars c r) (m := 2 + 16 * r.val + 5) rfl rfl rfl) $$ [S' K4 HO]; · iframe HK S' K4 HO
  iintro ⟨S', HO⟩
  unfold j5
  iapply (wp_rs1 (I := I) (κ := κ) (i := 0) (q := pars c r) (m := 2 + 16 * r.val + 6) rfl rfl) $$ [S B J5 HO]; · iframe HK S B J5 HO
  iintro ⟨S, B, X2, D1, R1, HO⟩
  iapply (wp_rs1 (I := I) (κ := κ) (i := 1) (q := pars c r) (m := 2 + 16 * r.val + 6) rfl rfl) $$ [S' B' K5 HO]; · iframe HK S' B' K5 HO
  iintro ⟨S', B', Y2, D1', R1', HO⟩
  iapply (wp_sendR2 (I := I) (κ := κ) (i := 0) (q := pars c r) (m := 2 + 16 * r.val + 6) rfl rfl rfl) $$ [S J6 HO]; · iframe HK S J6 HO
  iintro ⟨S, G, GG, GGG, HO⟩
  iapply (wp_sendR2 (I := I) (κ := κ) (i := 1) (q := pars c r) (m := 2 + 16 * r.val + 7) rfl rfl rfl) $$ [S' K6 HO]; · iframe HK S' K6 HO
  iintro ⟨S', G', GG', GGG', HO⟩
  iapply (wp_rs2 (I := I) (κ := κ) (i := 0) (q := pars c r) (m := 2 + 16 * r.val + 8) rfl rfl) $$ [S B J7 HO]; · iframe HK S B J7 HO
  iintro ⟨S, P, B, X3, D2, R0, HO⟩
  iapply (wp_rs2 (I := I) (κ := κ) (i := 1) (q := pars c r) (m := 2 + 16 * r.val + 8) rfl rfl) $$ [S' B' K7 HO]; · iframe HK S' B' K7 HO
  iintro ⟨S', P', B', Y3, D2', R0', HO⟩
  unfold j8
  iapply (wp_normP (I := I) (κ := κ) (i := 0) (q := pars c r) (m := 2 + 16 * r.val + 8) rfl) $$ [S P A B J8 Hg HO]; · iframe HK S P A B J8 Hg HO
  iintro ⟨S, P, A, B, X4, Hg, HO⟩
  iapply (wp_normP (I := I) (κ := κ) (i := 1) (q := pars c r) (m := 2 + 16 * r.val + 8) rfl) $$ [S' P' A' B' K8 Hg HO]; · iframe HK S' P' A' B' K8 Hg HO
  iintro ⟨S', P', A', B', Y4, Hg, HO⟩
  iapply (wp_sendG3 (I := I) (κ := κ) (i := 0) (q := pars c r) (m := 2 + 16 * r.val + 8) rfl rfl rfl) $$ [S G J9 HO]; · iframe HK S G J9 HO
  iintro ⟨S, HO⟩
  iapply (wp_sendG3 (I := I) (κ := κ) (i := 1) (q := pars c r) (m := 2 + 16 * r.val + 9) rfl rfl rfl) $$ [S' G' K9 HO]; · iframe HK S' G' K9 HO
  iintro ⟨S', HO⟩
  unfold j10
  iapply (wp_ag0 (I := I) (κ := κ) (i := 0) (q := pars c r) (m := 2 + 16 * r.val + 10) rfl rfl) $$ [S J10 HO]; · iframe HK S J10 HO
  iintro ⟨S, G, E0, C, D3, HO⟩
  iapply (wp_ag0 (I := I) (κ := κ) (i := 1) (q := pars c r) (m := 2 + 16 * r.val + 10) rfl rfl) $$ [S' K10 HO]; · iframe HK S' K10 HO
  iintro ⟨S', G', E0', C', D3', HO⟩
  iapply (wp_sendG4 (I := I) (κ := κ) (i := 0) (q := pars c r) (m := 2 + 16 * r.val + 10) rfl rfl rfl) $$ [G GG J11 HO]; · iframe HK G GG J11 HO
  iintro ⟨G, HO⟩
  iapply (wp_sendG4 (I := I) (κ := κ) (i := 1) (q := pars c r) (m := 2 + 16 * r.val + 11) rfl rfl rfl) $$ [G' GG' K11 HO]; · iframe HK G' GG' K11 HO
  iintro ⟨G', HO⟩
  ihave T := (give_keep r 0 c) $$ [R0 R1 D0 D1 D2]; · iframe
  icases T with ⟨V, KP, D0, D1, D2⟩
  ihave T := (give_keep r 1 c) $$ [R0' R1' D0' D1' D2']; · iframe
  icases T with ⟨V', KP', D0', D1', D2'⟩
  unfold j12
  iapply (wp_ag1 (I := I) (κ := κ) (i := 0) (q := pars c r) (m := 2 + 16 * r.val + 12) rfl rfl rfl) $$ [G E0 C V J12 HO]; · iframe HK G E0 C V J12 HO
  iintro ⟨G, E1, O1, E0, D4, HO⟩
  iapply (wp_ag1 (I := I) (κ := κ) (i := 1) (q := pars c r) (m := 2 + 16 * r.val + 13) rfl rfl rfl) $$ [G' E0' C' V' K12 HO]; · iframe HK G' E0' C' V' K12 HO
  iintro ⟨G', E1', O1', E0', D4', HO⟩
  unfold j13
  iapply (wp_sendG5 (I := I) (κ := κ) (i := 0) (q := pars c r) (m := 2 + 16 * r.val + 14) rfl rfl rfl) $$ [G GGG J13 HO]; · iframe HK G GGG J13 HO
  iintro ⟨G, GT, CR, HO⟩
  iapply (wp_sendG5 (I := I) (κ := κ) (i := 1) (q := pars c r) (m := 2 + 16 * r.val + 15) rfl rfl rfl) $$ [G' GGG' K13 HO]; · iframe HK G' GGG' K13 HO
  iintro ⟨G', GT', CR', HO⟩
  unfold j14
  iapply (wp_ag2 (I := I) (κ := κ) (i := 0) (q := pars c r) (m := 2 + 16 * r.val + 16) rfl rfl) $$ [G E0 J14 HO]; · iframe HK G E0 J14 HO
  iintro ⟨G, E0, D5, HO⟩
  iapply (wp_ag2 (I := I) (κ := κ) (i := 1) (q := pars c r) (m := 2 + 16 * r.val + 16) rfl rfl) $$ [G' E0' K14 HO]; · iframe HK G' E0' K14 HO
  iintro ⟨G', E0', D5', HO⟩
  iapply (wp_epilogue (I := I) (κ := κ) (m := 2 + 16 * r.val + 16)) $$ [E0 E1 B E0' E1' B' HO]; · iframe HK E0 E1 B E0' E1' B' HO
  iintro ⟨⟨⟨O3, W0⟩, ⟨O2, W1⟩, ⟨O0, W2⟩, E0, E1, B⟩, ⟨⟨O3', W0'⟩, ⟨O2', W1'⟩, ⟨O0', W2'⟩, E0', E1', B'⟩, HO⟩
  ihave W1 := (hold_join c _ _) $$ [W1 G]; · isplitl [W1] <;> iassumption
  ihave W2 := (hold_join c _ _) $$ [W2 S]; · isplitl [W2] <;> iassumption
  ihave W0 := (hold_any c _ _) $$ W0
  ihave W1 := (hold_any c _ _) $$ W1
  ihave W2 := (hold_any c _ _) $$ W2
  ihave W1' := (hold_join c _ _) $$ [W1' G']; · isplitl [W1'] <;> iassumption
  ihave W2' := (hold_join c _ _) $$ [W2' S']; · isplitl [W2'] <;> iassumption
  ihave W0' := (hold_any c _ _) $$ W0'
  ihave W1' := (hold_any c _ _) $$ W1'
  ihave W2' := (hold_any c _ _) $$ W2'
  iapply Hk
  unfold dirPost rows5 outs4 loc4 buf4 crd xds
  isplitl [X0 X1 X2 X3 X4 O0 O1 O2 O3 A B E0 E1 W2 P W0 W1 KP GT CR D0 D1 D2 D3 D4 D5]
  · isplitl [X0 X1 X2 X3 X4]; · iframe
    isplitl [O0 O1 O2 O3]; · iframe
    isplitl [A B E0 E1]; · iframe
    isplitl [W2 P W0 W1]; · iframe
    isplitl [KP]; · iframe
    isplitl [GT]; · iframe
    isplitl [CR]; · iframe
    iframe
  isplitl [Y0 Y1 Y2 Y3 Y4 O0' O1' O2' O3' A' B' E0' E1' W2' P' W0' W1' KP' GT' CR' D0' D1' D2' D3' D4' D5']
  · isplitl [Y0 Y1 Y2 Y3 Y4]; · iframe
    isplitl [O0' O1' O2' O3']; · iframe
    isplitl [A' B' E0' E1']; · iframe
    isplitl [W2' P' W0' W1']; · iframe
    isplitl [KP']; · iframe
    isplitl [GT']; · iframe
    isplitl [CR']; · iframe
    iframe
  isplitl [Hg]; · iexact Hg
  iexact HO

end Cert.KernelIdeal.Ring
end
-- ==== Proof.BodyIdeal.lean ====
module

public import proofs.«01_k».proof.Proof.RoundIdeal

@[expose] public section

set_option maxRecDepth 16384

/-!
# The kernel's body

The barrier, the two rounds, and the cells closed at the end.
-/

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig ℕ (Elt F) ℕ UU ℕ

section Bundles
variable (I : Inp F) (r i : Fin 2) (c : Dev nD)

/-- A direction's tokens for a round's payments, and the credits for what it is paid. -/
def toks : sProp 𝕄 := bigSep Finset.univ fun p : Fin 8 => dutyTok ER (pcell p i (pdv p i c)) (pix p r.val) 0
def crds : sProp 𝕄 := bigSep Finset.univ fun p : Fin 8 => cred (tallyAt (pcell p i c) (pix p r.val) (pam p))

/-- Transfer `n` before round `r`. -/
def xe (n : Fin 6) (r : ℕ) : sProp 𝕄 :=
  iprop(sv0 c (sendSem i n) ∗ atPos ER (rvCell i n c) r ∅ 0 ∗ reached ER (rvCell i n c) r)
def xes (r : ℕ) : sProp 𝕄 := iprop(xe i c 0 r ∗ xe i c 1 r ∗ xe i c 2 r ∗ xe i c 3 r ∗ xe i c 4 r ∗ xe i c 5 r)
def crAt (x : ℕ) : sProp 𝕄 := iprop(atPos ER (crCell i c) x ∅ 0 ∗ reached ER (crCell i c) x)
/-- The neighbour's landing buffers. -/
def land : sProp 𝕄 := iprop(anyB (tgt i c) (quarter rB i 0) ∗ anyB (tgt i c) (quarter rB i 1) ∗ re3 i r.val (tgt i c))
/-- The result's rows, unwritten. -/
def any4 : sProp 𝕄 := iprop(ha r i 0 c ∗ ha r i 1 c ∗ ha r i 2 c ∗ ha r i 3 c)
/-- What a round takes that no earlier one had. -/
def fresh : sProp 𝕄 := iprop(rows5 I r i c ∗ any4 r i c ∗ toks r i c ∗ crds r i c)

theorem sep8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]; rfl

theorem toks_eq : (toks r i c : sProp 𝕄) = iprop(dutyTok ER (rvCell i 0 (tgt i c)) r.val 0 ∗ dutyTok ER (crCell i (src i c)) (2 * r.val) 0
    ∗ dutyTok ER (rvCell i 1 (tgt i c)) r.val 0 ∗ dutyTok ER (rvCell i 2 (tgt i c)) r.val 0 ∗ dutyTok ER (rvCell i 3 (tgt i c)) r.val 0
    ∗ dutyTok ER (rvCell i 4 (tgt i c)) r.val 0 ∗ dutyTok ER (crCell i (src i c)) (2 * r.val + 1) 0 ∗ dutyTok ER (rvCell i 5 (tgt i c)) r.val 0) := by
  unfold toks; rw [sep8]; rfl
theorem crds_eq : (crds r i c : sProp 𝕄) = iprop(cred (tallyAt (rvCell i 0 c) r.val Nv) ∗ cred (tallyAt (crCell i c) (2 * r.val) 1)
    ∗ cred (tallyAt (rvCell i 1 c) r.val Nv) ∗ cred (tallyAt (rvCell i 2 c) r.val Nv) ∗ cred (tallyAt (rvCell i 3 c) r.val Nv)
    ∗ cred (tallyAt (rvCell i 4 c) r.val Nv) ∗ cred (tallyAt (crCell i c) (2 * r.val + 1) 1) ∗ cred (tallyAt (rvCell i 5 c) r.val Nv)) := by
  unfold crds; rw [sep8]; rfl

theorem pre_of : iprop(fresh I r i c ∗ loc4 i c ∗ buf4 i c ∗ xes i c r.val ∗ crAt i c (2 * r.val) ∗ re6 i r.val c ∗ land r i c) ⊢ dirPre I r i c := by
  unfold fresh rows5 any4 loc4 buf4 xes xe crAt land re3 dirPre j1 j2 j3 j4 j5 j6 j8 j10 j12 j13 j14 rcv snd
  rw [toks_eq, crds_eq]
  iintro ⟨⟨⟨X0, X1, X2, X3, XR⟩, ⟨A0, A1, A2, A3⟩, ⟨T0, T1, T2, T3, T4, T5, T6, T7⟩, ⟨C0, C1, C2, C3, C4, C5, C6, C7⟩⟩,
    ⟨VA, VB, V0, V1⟩, ⟨BS, BP, BG0, BG1⟩, ⟨⟨S0, P0, -⟩, ⟨S1, P1, -⟩, ⟨S2, P2, -⟩, ⟨S3, P3, -⟩, ⟨S4, P4, -⟩, ⟨S5, P5, -⟩⟩,
    ⟨PC, RC⟩, R6, ⟨L0, L1, ⟨N0, N1, N2⟩⟩⟩
  isplitl [X0 X1 VA VB BS BP]
  · iframe X0 X1 VA VB BS BP
  isplitl [L0 N0 RC S0 T0]
  · iframe L0 N0 RC S0 T0
  isplitl [C0 P0 T1 BG0 BG1 R6 X2]
  · iframe C0 P0 T1 BG0 BG1 R6 X2
  isplitl [L1 N1 S1 T2]
  · iframe L1 N1 S1 T2
  isplitl [C2 P1 X3]
  · iframe C2 P1 X3
  isplitl [C1 PC N2 S2 T3]
  · iframe C1 PC N2 S2 T3
  isplitl [C3 P2]
  · iframe C3 P2
  isplitl [XR A0]
  · iframe XR A0
  isplitl [S3 T4]
  · iframe S3 T4
  isplitl [C4 P3 V0 A1]
  · iframe C4 P3 V0 A1
  isplitl [S4 T5]
  · iframe S4 T5
  isplitl [C5 P4 T6 V1 A2]
  · iframe C5 P4 T6 V1 A2
  isplitl [C6 S5 T7]
  · iframe C6 S5 T7
  iframe C7 P5 A3

/-- What is left once both rounds are over. -/
def left : sProp 𝕄 := iprop(loc4 i c ∗ buf4 i c ∗ anyB c (quarter rB i 0) ∗ anyB c (quarter rB i 1) ∗ xes i c 2 ∗ crAt i c 4)

theorem post_0 : dirPost I 0 i c ⊢ iprop(rows5 I 0 i c ∗ outs4 I 0 i c ∗ loc4 i c ∗ buf4 i c ∗ xes i c 1 ∗ crAt i c 2 ∗ re6 i 1 c ∗ land 1 i c) := by
  unfold dirPost got keep crd xds xd land xes xe crAt re6
  have h0 : (0 : Fin 2).val = 0 := rfl
  rw [if_pos h0, if_pos h0]
  iintro ⟨HX, HO, HL, HB, -, HG, HC, ⟨H0, H1, H2, ⟨S3, P3, #R3⟩, ⟨S4, P4, #R4⟩, ⟨S5, P5, #R5⟩⟩⟩
  isplitl [HX]; · iexact HX
  isplitl [HO]; · iexact HO
  isplitl [HL]; · iexact HL
  isplitl [HB]; · iexact HB
  isplitl [H0 H1 H2 S3 P3 S4 P4 S5 P5]
  · isplitl [H0]; · iexact H0
    isplitl [H1]; · iexact H1
    isplitl [H2]; · iexact H2
    isplitl [S3 P3]
    · isplitl [S3]; · iexact S3
      isplitl [P3]; · iexact P3
      iexact R3
    isplitl [S4 P4]
    · isplitl [S4]; · iexact S4
      isplitl [P4]; · iexact P4
      iexact R4
    isplitl [S5]; · iexact S5
    isplitl [P5]; · iexact P5
    iexact R5
  isplitl [HC]; · iexact HC
  isplitr
  · isplitr; · iexact R3
    isplitr; · iexact R4
    iexact R5
  iexact HG

theorem post_1 : dirPost I 1 i c ⊢ iprop(rows5 I 1 i c ∗ outs4 I 1 i c ∗ left i c) := by
  unfold dirPost got keep crd xds xd left xes xe crAt
  have h1 : ¬ (1 : Fin 2).val = 0 := by decide
  rw [if_neg h1, if_neg h1]
  iintro ⟨HX, HO, HL, HB, ⟨K0, K1⟩, -, HC, HS⟩
  isplitl [HX]; · iexact HX
  isplitl [HO]; · iexact HO
  isplitl [HL]; · iexact HL
  isplitl [HB]; · iexact HB
  isplitl [K0]; · iexact K0
  isplitl [K1]; · iexact K1
  isplitl [HS]; · iexact HS
  iexact HC

/-- The semaphores of a direction, all at zero. -/
def sems : sProp 𝕄 :=
  iprop(loc4 i c ∗ (sv0 c (sendSem i 0) ∗ sv0 c (sendSem i 1) ∗ sv0 c (sendSem i 2) ∗ sv0 c (sendSem i 3) ∗ sv0 c (sendSem i 4) ∗ sv0 c (sendSem i 5))
    ∗ (sv0 c (recvSem i 0) ∗ sv0 c (recvSem i 1) ∗ sv0 c (recvSem i 2) ∗ sv0 c (recvSem i 3) ∗ sv0 c (recvSem i 4) ∗ sv0 c (recvSem i 5))
    ∗ semVal (crCell i c) 0)
/-- The buffers of a direction. -/
def bufd : sProp 𝕄 := iprop(buf4 i c ∗ anyB c (quarter rB i 0) ∗ anyB c (quarter rB i 1))

theorem close_rv (κ : GSem nD τ sig → ℕ) (n : Fin 6) : iprop(know I κ ∗ xe i c n 2) ⊢ (|={Set.univ}=> iprop(sv0 c (sendSem i n) ∗ sv0 c (recvSem i n)) : sProp 𝕄) := by
  unfold xe
  iintro ⟨#HK, HS, HP, -⟩
  ihave Hi := (know_inv I κ (rv_mem i n c)) $$ HK
  imod (Rounds.cell_close ER (Rd I) (Set.mem_univ (κ (rvCell i n c))) id (fun r h => later_rv I c i n r h)) $$ [Hi HP] with HV
  · isplitl [Hi]; · iexact Hi
    iexact HP
  imodintro
  isplitl [HS]; · iexact HS
  iexact HV

theorem close_dir (κ : GSem nD τ sig → ℕ) : iprop(know I κ ∗ left i c) ⊢ (|={Set.univ}=> iprop(sems i c ∗ bufd i c) : sProp 𝕄) := by
  unfold left xes crAt sems bufd
  iintro ⟨#HK, HL, HB, B0, B1, ⟨H0, H1, H2, H3, H4, H5⟩, ⟨HP, -⟩⟩
  ihave Hi := (know_inv I κ (cr_mem i c)) $$ HK
  imod (Rounds.cell_close ER (Rd I) (Set.mem_univ (κ (crCell i c))) id (fun r h => later_cr I c i r h)) $$ [Hi HP] with HV
  · isplitl [Hi]; · iexact Hi
    iexact HP
  imod (close_rv I i c κ 0) $$ [H0] with ⟨S0, R0⟩; · iframe HK H0
  imod (close_rv I i c κ 1) $$ [H1] with ⟨S1, R1⟩; · iframe HK H1
  imod (close_rv I i c κ 2) $$ [H2] with ⟨S2, R2⟩; · iframe HK H2
  imod (close_rv I i c κ 3) $$ [H3] with ⟨S3, R3⟩; · iframe HK H3
  imod (close_rv I i c κ 4) $$ [H4] with ⟨S4, R4⟩; · iframe HK H4
  imod (close_rv I i c κ 5) $$ [H5] with ⟨S5, R5⟩; · iframe HK H5
  imodintro
  isplitl [HL S0 S1 S2 S3 S4 S5 R0 R1 R2 R3 R4 R5 HV]
  · iframe HL S0 S1 S2 S3 S4 S5 R0 R1 R2 R3 R4 R5 HV
  iframe HB B0 B1

end Bundles

variable (I : Inp F) (κ : GSem nD τ sig → ℕ) (c : Dev nD)

/-! ## The barrier -/

/-- What the barrier takes besides the buffers. -/
def barIn : sProp 𝕄 :=
  iprop(atPos ER (barCell c) 0 ∅ 0 ∗ cred (tallyAt (barCell c) 0 2) ∗ dutyTok ER (barCell (tgt 1 c)) 0 0 ∗ dutyTok ER (barCell (tgt 0 c)) 0 1
    ∗ reached ER (barCell (tgt 1 c)) 0 ∗ reached ER (barCell (tgt 0 c)) 0)
/-- A direction's own landing buffers, offered at the barrier. -/
def offer (i : Fin 2) : sProp 𝕄 := iprop(anyB c (quarter rB i 0) ∗ anyB c (quarter rB i 1) ∗ re3 i 0 c)

theorem offer_pay0 : offer (F := F) c 0 ⊢ (Rd I).payload (barCell (tgt 1 c)) 0 0 := by
  have e : tgt 0 (tgt 1 c) = c := tgt_src 0 c
  rw [payload_bar]; unfold barPay offer re3; rw [e]
theorem offer_pay1 : offer (F := F) c 1 ⊢ (Rd I).payload (barCell (tgt 0 c)) 0 1 := by
  have e : tgt 1 (tgt 0 c) = c := tgt_src 1 c
  rw [payload_bar]; unfold barPay offer re3; rw [e]

theorem barPay_land (i : Fin 2) : (barPay c i : sProp 𝕄) = land 0 i c := by unfold barPay land re3; rfl

variable {I κ c}

local notation "WP" => fun p Q => wp frame (wpE (defs₀ (F := F)) 𝒱₀ (c : Thread nD τ) none) Set.univ p Q

theorem wp_barrier {k : PG F} {Q : PUnit → sProp 𝕄} {d1 d2 : Dev nD} (h1 : d1 = tgt 1 c) (h2 : d2 = tgt 0 c) :
    iprop(know I κ ∗ barIn c ∗ offer c 0 ∗ offer c 1 ∗ ow c 0)
      ⊢ iprop(((atPos ER (barCell c) 1 ∅ 0 ∗ land 0 0 c ∗ land 0 1 c ∗ ow c 2) -∗ WP k Q)
        -∗ WP (signal d1 barSem <| signal d2 barSem <| .op (.semWait barSem (2#32).toInt) fun _ => k) Q) := by
  subst h1 h2
  unfold barIn ow
  iintro ⟨#HK, ⟨HP, HC, T0, T1, R0, R1⟩, P0, P1, ⟨%W, HO⟩⟩ Hk
  ihave P0 := (offer_pay0 I c) $$ P0
  ihave P1 := (offer_pay1 I c) $$ P1
  ihave Hi0 := (know_inv I κ (bar_mem (tgt 1 c))) $$ HK
  ihave Hi1 := (know_inv I κ (bar_mem (tgt 0 c))) $$ HK
  ihave Hi := (know_inv I κ (bar_mem c)) $$ HK
  ihave Hl := (know_lev I κ) $$ HK
  unfold signal
  iapply (Rounds.wp_signal 𝒱₀ ER (Rd I) (c : Thread nD τ) none (dst := ((tgt 1 c) : Thread nD τ)) (sem := barSem) (r := 0) (d := (0 : Fin 2)) (κ := κ (barCell (tgt 1 c)))
    (by rw [duties_bar]; decide) (amount_bar I _ 0 0) 0 (O c 1) ((O_succ c (by decide)).trans rfl)) $$ [T0 R0 P0 HO Hi0]
  · isplitl [Hi0]; · iexact Hi0
    isplitl [HO]; · iexact HO
    isplitl [T0]; · iexact T0
    isplitl [P0]; · iexact P0
    iexact R0
  iintro HO
  iapply (Rounds.wp_signal 𝒱₀ ER (Rd I) (c : Thread nD τ) none (dst := ((tgt 0 c) : Thread nD τ)) (sem := barSem) (r := 0) (d := (1 : Fin 2)) (κ := κ (barCell (tgt 0 c)))
    (by rw [duties_bar]; decide) (amount_bar I _ 0 1) 0 (O c 2) ((O_succ c (by decide)).trans rfl)) $$ [T1 R1 P1 HO Hi1]
  · isplitl [Hi1]; · iexact Hi1
    isplitl [HO]; · iexact HO
    isplitl [T1]; · iexact T1
    isplitl [P1]; · iexact P1
    iexact R1
  iintro HO
  iapply (Rounds.wp_wait_rest_token 𝒱₀ ER (Rd I) (c : Thread nD τ) none (κ := κ (barCell c)) (wpE_semWait_eq 𝒱₀ (c : Thread nD τ) none Set.univ) (Set.mem_univ _) 0
    (O := O c 2) (W := W) (R := 0) (m := 0) (T := ∅) ((Nat.zero_add _).trans (expect_bar I c).symm)) $$ [HC HO HP Hi Hl]
  · isplitl [Hi]; · iexact Hi
    isplitl [HC]; · iexact HC
    isplitl [HO]; · iexact HO
    isplitl [Hl]; · iapply (mayWait c (.reg barSem) 0 2 (by decide) (by rw [kind_bar]; exact le_refl 1)) $$ Hl
    iexact HP
  rw [rest_bar, barPay_land, barPay_land]
  iintro ⟨HO, HP, -, ⟨L0, L1⟩⟩
  iapply Hk
  isplitl [HP]; · iexact HP
  isplitl [L0]; · iexact L0
  isplitl [L1]; · iexact L1
  iexists _; iexact HO

/-! ## The body -/

/-- What a direction takes in, and what it brings out. -/
def dirIn (I : Inp F) (i : Fin 2) (c : Dev nD) : sProp 𝕄 :=
  iprop(fresh I 0 i c ∗ fresh I 1 i c ∗ loc4 i c ∗ bufd i c ∗ xes i c 0 ∗ crAt i c 0)
def dirOut (I : Inp F) (i : Fin 2) (c : Dev nD) : sProp 𝕄 :=
  iprop((rows5 I 0 i c ∗ rows5 I 1 i c) ∗ (outs4 I 0 i c ∗ outs4 I 1 i c) ∗ sems i c ∗ bufd i c)

theorem dirIn_split (i : Fin 2) : dirIn I i c ⊢ iprop(offer c i ∗ (fresh I 0 i c ∗ loc4 i c ∗ buf4 i c ∗ xes i c 0 ∗ crAt i c 0 ∗ re6 i 0 c) ∗ fresh I 1 i c) := by
  unfold dirIn bufd xes xe offer re3 re6
  iintro ⟨F0, F1, HL, ⟨HB, B0, B1⟩, ⟨⟨S0, P0, #R0⟩, ⟨S1, P1, #R1⟩, ⟨S2, P2, #R2⟩, ⟨S3, P3, #R3⟩, ⟨S4, P4, #R4⟩, ⟨S5, P5, #R5⟩⟩, HC⟩
  isplitl [B0 B1]
  · iframe B0 B1 R0 R1 R2
  isplitr [F1]
  · iframe F0 HL HB S0 P0 R0 S1 P1 R1 S2 P2 R2 S3 P3 R3 S4 P4 R4 S5 P5 R5 HC
  iexact F1

theorem wp_body {g : Memref sig .tc .vmem S1x4096 .f32} {Q : PUnit → sProp 𝕄} :
    iprop(know I κ ∗ barIn c ∗ dirIn I 0 c ∗ dirIn I 1 c ∗ holdG c g (I.g c) ∗ ow c 0)
      ⊢ iprop(((semVal (barCell c) 0 ∗ dirOut I 0 c ∗ dirOut I 1 c ∗ holdG c g (I.g c) ∗ ow c 34) -∗ Q ⟨⟩) -∗ WP (bodyP g c) Q) := by
  iintro ⟨#HK, HB, H0, H1, HG, HO⟩ HQ
  ihave H0 := (dirIn_split 0) $$ H0
  icases H0 with ⟨F0, H0, N0⟩
  ihave H1 := (dirIn_split 1) $$ H1
  icases H1 with ⟨F1, H1, N1⟩
  unfold bodyP
  iapply (wp_barrier (I := I) (κ := κ) (c := c) (bar_left c) (bar_right c)) $$ [HB F0 F1 HO]
  · iframe HK HB F0 F1 HO
  iintro ⟨HP, L0, L1, HO⟩
  ihave H0 := (pre_of I 0 0 c) $$ [H0 L0]
  · icases H0 with ⟨A1, A2, A3, A4, A5, A6⟩
    isplitl [A1]; · iexact A1
    isplitl [A2]; · iexact A2
    isplitl [A3]; · iexact A3
    isplitl [A4]; · iexact A4
    isplitl [A5]; · iexact A5
    isplitl [A6]; · iexact A6
    iexact L0
  ihave H1 := (pre_of I 0 1 c) $$ [H1 L1]
  · icases H1 with ⟨A1, A2, A3, A4, A5, A6⟩
    isplitl [A1]; · iexact A1
    isplitl [A2]; · iexact A2
    isplitl [A3]; · iexact A3
    isplitl [A4]; · iexact A4
    isplitl [A5]; · iexact A5
    isplitl [A6]; · iexact A6
    iexact L1
  iapply (wp_round (I := I) (κ := κ) (c := c) (r := 0) (pars0_eq c)) $$ [H0 H1 HG HO]
  · iframe HK H0 H1 HG
    iexact HO
  iintro ⟨H0, H1, HG, HO⟩
  ihave H0 := (post_0 I 0 c) $$ H0
  icases H0 with ⟨X0, Y0, A1, A2, A3, A4, A5, A6⟩
  ihave H1 := (post_0 I 1 c) $$ H1
  icases H1 with ⟨X1, Y1, B1, B2, B3, B4, B5, B6⟩
  ihave H0 := (pre_of I 1 0 c) $$ [N0 A1 A2 A3 A4 A5 A6]
  · isplitl [N0]; · iexact N0
    isplitl [A1]; · iexact A1
    isplitl [A2]; · iexact A2
    isplitl [A3]; · iexact A3
    isplitl [A4]; · iexact A4
    isplitl [A5]; · iexact A5
    iexact A6
  ihave H1 := (pre_of I 1 1 c) $$ [N1 B1 B2 B3 B4 B5 B6]
  · isplitl [N1]; · iexact N1
    isplitl [B1]; · iexact B1
    isplitl [B2]; · iexact B2
    isplitl [B3]; · iexact B3
    isplitl [B4]; · iexact B4
    isplitl [B5]; · iexact B5
    iexact B6
  iapply (wp_round (I := I) (κ := κ) (c := c) (r := 1) (pars1_eq c)) $$ [H0 H1 HG HO]
  · iframe HK H0 H1 HG
    iexact HO
  iintro ⟨H0, H1, HG, HO⟩
  ihave H0 := (post_1 I 0 c) $$ H0
  icases H0 with ⟨X0', Y0', H0⟩
  ihave H1 := (post_1 I 1 c) $$ H1
  icases H1 with ⟨X1', Y1', H1⟩
  beta_reduce
  rw [wp_ret]
  ihave Hi := (know_inv I κ (bar_mem c)) $$ HK
  imod (Rounds.cell_close ER (Rd I) (Set.mem_univ (κ (barCell c))) id (fun r h => later_bar I c r h)) $$ [Hi HP] with HV
  · isplitl [Hi]; · iexact Hi
    iexact HP
  imod (close_dir I 0 c κ) $$ [H0] with ⟨S0, B0⟩; · iframe HK H0
  imod (close_dir I 1 c κ) $$ [H1] with ⟨S1, B1⟩; · iframe HK H1
  imodintro
  iapply HQ
  unfold dirOut
  iframe HV X0 X0' Y0 Y0' S0 B0 X1 X1' Y1 Y1' S1 B1 HG
  iexact HO

end Cert.KernelIdeal.Ring
end
-- ==== Proof.WholeIdeal.lean ====
module

public import proofs.«01_k».proof.Proof.BodyIdeal

@[expose] public section

set_option maxRecDepth 16384

/-!
# Arrays and buffers cut into blocks

A device's partial, its residual and its result are each sixteen 256-row blocks: by round, direction and
step. A two-slot buffer is two blocks, a four-slot one four.
-/

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx
open Cert.KernelIdeal Cert.KernelIdeal.Gen

variable {F : FTy → Type} [FloatOps F]

local notation "𝕄" => MT nD τ sig ℕ (Elt F) ℕ UU ℕ

/-! ## Sets that part an array -/

/-- An array held whole is held in parts. -/
theorem parts_eq {T : Type} [Fintype T] {ℓ : Loc nD τ sig} {q : PosShare TreeShare} {f : Buf (Elt F) ℓ} (K : T → Finset (Idx ℓ))
    (h1 : ∀ t t' j, j ∈ K t → j ∈ K t' → t = t') (h2 : ∀ j, ∃ t, j ∈ K t) :
    (ℓ ↦[Finset.univ]{q} f : sProp 𝕄) = bigSep Finset.univ fun t => ℓ ↦[K t]{q} f := by
  rw [← pointsTo_biUnion Finset.univ K fun t _ t' _ hne => Finset.disjoint_left.mpr fun j hj hj' => hne (h1 t t' j hj hj')]
  congr 1
  ext j
  obtain ⟨t, ht⟩ := h2 j
  simp only [Finset.mem_univ, Finset.mem_biUnion, true_and, true_iff]
  exact ⟨t, ht⟩

/-- Parts held at anything are the array held at something. -/
theorem parts_join {T : Type} [Fintype T] {ℓ : Loc nD τ sig} {q : PosShare TreeShare} (fs : T → Buf (Elt F) ℓ) (f₀ : Buf (Elt F) ℓ) (K : T → Finset (Idx ℓ))
    (h1 : ∀ t t' j, j ∈ K t → j ∈ K t' → t = t') (h2 : ∀ j, ∃ t, j ∈ K t) :
    (bigSep Finset.univ fun t => (ℓ ↦[K t]{q} fs t : sProp 𝕄)) ⊢ iprop(∃ f, ℓ ↦[Finset.univ]{q} f) := by
  have e : Finset.univ.biUnion K = Finset.univ := by
    ext j
    obtain ⟨t, ht⟩ := h2 j
    simp only [Finset.mem_univ, Finset.mem_biUnion, true_and, iff_true]
    exact ⟨t, ht⟩
  have h := pointsTo_biUnion_join (Ix := ℕ) (Name := ℕ) (U := UU) (Lvl := ℕ) (q := q) Finset.univ K fs f₀ fun t _ t' _ hne => Finset.disjoint_left.mpr fun j hj hj' => hne (h1 t t' j hj hj')
  rw [e] at h
  iintro H
  ihave H' := h $$ H
  icases H' with ⟨%g, -, H⟩
  iexists g; iexact H

/-! ## Which rows a block has -/

/-- A block of a round, by direction and step. -/
abbrev Bl : Type := Fin 2 × Fin 2 × Fin 4

/-- The device whose chunk step `s` reads, or the one whose chunk step `s` of the second phase writes. -/
def xd16 (c : Dev nD) (t : Bl) : Dev nD := srcN t.2.1 t.2.2.val c
def od16 (c : Dev nD) (t : Bl) : Dev nD := tgt t.2.1 (srcN t.2.1 t.2.2.val c)

theorem xd_inj : ∀ (c : Dev nD) (i : Fin 2) (s s' : Fin 4), (srcN i s.val c).val % 4 = (srcN i s'.val c).val % 4 → s = s' := by decide +kernel
theorem xd_sur : ∀ (c : Dev nD) (i : Fin 2) (z : Fin 4), ∃ s : Fin 4, (srcN i s.val c).val % 4 = z.val := by decide +kernel
theorem od_inj : ∀ (c : Dev nD) (i : Fin 2) (s s' : Fin 4), (tgt i (srcN i s.val c)).val % 4 = (tgt i (srcN i s'.val c)).val % 4 → s = s' := by decide +kernel
theorem od_sur : ∀ (c : Dev nD) (i : Fin 2) (z : Fin 4), ∃ s : Fin 4, (tgt i (srcN i s.val c)).val % 4 = z.val := by decide +kernel
theorem od_ring : ∀ (c : Dev nD) (i : Fin 2) (s : Fin 4), (tgt i (srcN i s.val c)).val / 4 = c.val / 4 := by decide +kernel

/-- Rows in two blocks say that the blocks are one. -/
theorem row_inj {r r' i i' : Fin 2} {d d' : Dev nD} {n : ℕ} (h1 : row r i d ≤ n) (h2 : n < row r i d + 256) (h1' : row r' i' d' ≤ n) (h2' : n < row r' i' d' + 256) :
    r = r' ∧ i = i' ∧ d.val % 4 = d'.val % 4 := by
  unfold row at *
  refine ⟨Fin.ext ?_, Fin.ext ?_, ?_⟩ <;> omega
/-- Every row is in one. -/
theorem row_sur {n : ℕ} (h : n < 4096) (d : Dev nD) (hd : d.val % 4 = n % 2048 / 512) :
    row ⟨n / 2048, by omega⟩ ⟨n % 512 / 256, by omega⟩ d ≤ n ∧ n < row ⟨n / 2048, by omega⟩ ⟨n % 512 / 256, by omega⟩ d + 256 := by
  unfold row
  rw [hd]
  show 2048 * (n / 2048) + 512 * (n % 2048 / 512) + 256 * (n % 512 / 256) ≤ n ∧ n < 2048 * (n / 2048) + 512 * (n % 2048 / 512) + 256 * (n % 512 / 256) + 256
  omega

theorem xBlk_emb (r i : Fin 2) (d : Dev nD) (a : Fin 256) (e : Fin 4096) :
    (xBlk (xo r i d)).view.emb (ix2 a e) = ix3 (0 : Fin 1) (⟨row r i d + a.val, by have := row_le r i d; omega⟩ : Fin 4096) e := by
  refine (congrArg (Rect.emb _) (resh3 _ a e)).trans ?_
  funext x
  apply Fin.ext
  rw [Rect.emb_apply]
  fin_cases x
  · rfl
  · show row r i d + 1 * a.val = row r i d + a.val; omega
  · show 0 + 1 * e.val = e.val; omega
theorem rBlk_emb (r i : Fin 2) (d : Dev nD) (a : Fin 256) (e : Fin 4096) :
    (rBlk (ro r i d)).view.emb (ix2 a e) = ix2 (⟨row r i d + a.val, by have := row_le r i d; omega⟩ : Fin 4096) e := by
  funext x
  apply Fin.ext
  refine (Rect.emb_apply _ _ _).trans ?_
  fin_cases x
  · show row r i d + 1 * a.val = row r i d + a.val; omega
  · show 0 + 1 * e.val = e.val; omega
theorem oBlk_emb (r i : Fin 2) (d : Dev nD) (a : Fin 256) (e : Fin 4096) :
    (oBlk (ro r i d)).view.emb (ix2 a e) = ix2 (⟨row r i d + a.val, by have := row_le r i d; omega⟩ : Fin 4096) e := by
  funext x
  apply Fin.ext
  refine (Rect.emb_apply _ _ _).trans ?_
  fin_cases x
  · show row r i d + 1 * a.val = row r i d + a.val; omega
  · show 0 + 1 * e.val = e.val; omega

theorem ix2_eta (j : S256x4096.Idx) : ix2 (j 0) (j 1) = j := funext fun x => by match x with | ⟨0, _⟩ => rfl | ⟨1, _⟩ => rfl

theorem mem_xBlk (r i : Fin 2) (d : Dev nD) (j : S1x4096x4096.Idx) :
    j ∈ (xBlk (xo r i d)).view.set ↔ row r i d ≤ (j 1).val ∧ (j 1).val < row r i d + 256 := by
  constructor
  · intro hj
    obtain ⟨y, -, e⟩ := Finset.mem_map.mp hj
    have hy : (y 0).val < 256 := (y 0).isLt
    have e' := ((congrArg (xBlk (xo r i d)).view.emb (ix2_eta y)).trans e).symm.trans (xBlk_emb r i d (y 0) (y 1))
    have e2 : (j 1).val = row r i d + (y 0).val := congrArg (fun z : S1x4096x4096.Idx => (z 1).val) e'
    omega
  · rintro ⟨h1, h2⟩
    have e : j = (xBlk (xo r i d)).view.emb (ix2 (⟨(j 1).val - row r i d, by omega⟩ : Fin 256) (j 2)) := by
      refine Eq.trans ?_ (xBlk_emb r i d _ _).symm
      funext x
      apply Fin.ext
      match x with
      | ⟨0, _⟩ => have : (j 0).val < 1 := (j 0).isLt; show (j 0).val = 0; omega
      | ⟨1, _⟩ => show (j 1).val = row r i d + ((j 1).val - row r i d); omega
      | ⟨2, _⟩ => rfl
    rw [e]; exact View.emb_mem_set _ _
theorem mem_rBlk (r i : Fin 2) (d : Dev nD) (j : S4096x4096.Idx) :
    j ∈ (rBlk (ro r i d)).view.set ↔ row r i d ≤ (j 0).val ∧ (j 0).val < row r i d + 256 := by
  constructor
  · intro hj
    obtain ⟨y, -, e⟩ := Finset.mem_map.mp hj
    have hy : (y 0).val < 256 := (y 0).isLt
    have e' := ((congrArg (rBlk (ro r i d)).view.emb (ix2_eta y)).trans e).symm.trans (rBlk_emb r i d (y 0) (y 1))
    have e2 : (j 0).val = row r i d + (y 0).val := congrArg (fun z : S4096x4096.Idx => (z 0).val) e'
    omega
  · rintro ⟨h1, h2⟩
    have e : j = (rBlk (ro r i d)).view.emb (ix2 (⟨(j 0).val - row r i d, by omega⟩ : Fin 256) (j 1)) := by
      refine Eq.trans ?_ (rBlk_emb r i d _ _).symm
      funext x
      apply Fin.ext
      match x with
      | ⟨0, _⟩ => show (j 0).val = row r i d + ((j 0).val - row r i d); omega
      | ⟨1, _⟩ => rfl
    rw [e]; exact View.emb_mem_set _ _
theorem mem_oBlk (r i : Fin 2) (d : Dev nD) (j : S4096x4096.Idx) :
    j ∈ (oBlk (ro r i d)).view.set ↔ row r i d ≤ (j 0).val ∧ (j 0).val < row r i d + 256 := mem_rBlk r i d j

/-! ## The arrays cut -/

/-- The locations of the three arrays on device `c`. -/
abbrev xL (c : Dev nD) : Loc nD τ sig := (c : Thread nD τ).loc main_arg0
abbrev rL (c : Dev nD) : Loc nD τ sig := (c : Thread nD τ).loc main_arg1
abbrev oL (c : Dev nD) : Loc nD τ sig := (c : Thread nD τ).loc main_v2

theorem x_dis (c : Dev nD) : ∀ (t t' : Bl) (j : S1x4096x4096.Idx), j ∈ (xBlk (xo t.1 t.2.1 (xd16 c t))).view.set → j ∈ (xBlk (xo t'.1 t'.2.1 (xd16 c t'))).view.set → t = t' := by
  intro t t' j h h'
  obtain ⟨h1, h2⟩ := (mem_xBlk t.1 t.2.1 (xd16 c t) j).mp h
  obtain ⟨h1', h2'⟩ := (mem_xBlk t'.1 t'.2.1 (xd16 c t') j).mp h'
  obtain ⟨e1, e2, e3⟩ := row_inj h1 h2 h1' h2'
  obtain ⟨r, i, s⟩ := t
  obtain ⟨r', i', s'⟩ := t'
  dsimp only at e1 e2
  subst e1 e2
  rw [xd_inj c i s s' e3]
theorem x_cov (c : Dev nD) : ∀ j : S1x4096x4096.Idx, ∃ t : Bl, j ∈ (xBlk (xo t.1 t.2.1 (xd16 c t))).view.set := by
  intro j
  have hj : (j 1).val < 4096 := (j 1).isLt
  obtain ⟨s, hs⟩ := xd_sur c ⟨(j 1).val % 512 / 256, by omega⟩ ⟨(j 1).val % 2048 / 512, by omega⟩
  exact ⟨(⟨(j 1).val / 2048, by omega⟩, ⟨(j 1).val % 512 / 256, by omega⟩, s), (mem_xBlk _ _ _ j).mpr (row_sur hj _ hs)⟩
theorem x_parts (c : Dev nD) (f : Buf (Elt F) (xL c)) :
    (xL c ↦[Finset.univ]{fullShare} f : sProp 𝕄) = bigSep Finset.univ fun t : Bl => xL c ↦[(xBlk (xo t.1 t.2.1 (xd16 c t))).view.set]{fullShare} f :=
  parts_eq (T := Bl) (ℓ := xL c) (fun t => (xBlk (xo t.1 t.2.1 (xd16 c t))).view.set) (x_dis c) (x_cov c)
theorem r_dis (c : Dev nD) : ∀ (t t' : Bl) (j : S4096x4096.Idx), j ∈ (rBlk (ro t.1 t.2.1 (od16 c t))).view.set → j ∈ (rBlk (ro t'.1 t'.2.1 (od16 c t'))).view.set → t = t' := by
  intro t t' j h h'
  obtain ⟨h1, h2⟩ := (mem_rBlk t.1 t.2.1 (od16 c t) j).mp h
  obtain ⟨h1', h2'⟩ := (mem_rBlk t'.1 t'.2.1 (od16 c t') j).mp h'
  obtain ⟨e1, e2, e3⟩ := row_inj h1 h2 h1' h2'
  obtain ⟨r, i, s⟩ := t
  obtain ⟨r', i', s'⟩ := t'
  dsimp only at e1 e2
  subst e1 e2
  rw [od_inj c i s s' e3]
theorem r_cov (c : Dev nD) : ∀ j : S4096x4096.Idx, ∃ t : Bl, j ∈ (rBlk (ro t.1 t.2.1 (od16 c t))).view.set := by
  intro j
  have hj : (j 0).val < 4096 := (j 0).isLt
  obtain ⟨s, hs⟩ := od_sur c ⟨(j 0).val % 512 / 256, by omega⟩ ⟨(j 0).val % 2048 / 512, by omega⟩
  exact ⟨(⟨(j 0).val / 2048, by omega⟩, ⟨(j 0).val % 512 / 256, by omega⟩, s), (mem_rBlk _ _ _ j).mpr (row_sur hj _ hs)⟩
theorem r_parts (c : Dev nD) (f : Buf (Elt F) (rL c)) :
    (rL c ↦[Finset.univ]{fullShare} f : sProp 𝕄) = bigSep Finset.univ fun t : Bl => rL c ↦[(rBlk (ro t.1 t.2.1 (od16 c t))).view.set]{fullShare} f :=
  parts_eq (T := Bl) (ℓ := rL c) (fun t => (rBlk (ro t.1 t.2.1 (od16 c t))).view.set) (r_dis c) (r_cov c)
theorem o_dis (c : Dev nD) : ∀ (t t' : Bl) (j : S4096x4096.Idx), j ∈ (oBlk (ro t.1 t.2.1 (od16 c t))).view.set → j ∈ (oBlk (ro t'.1 t'.2.1 (od16 c t'))).view.set → t = t' := by
  intro t t' j h h'
  obtain ⟨h1, h2⟩ := (mem_oBlk t.1 t.2.1 (od16 c t) j).mp h
  obtain ⟨h1', h2'⟩ := (mem_oBlk t'.1 t'.2.1 (od16 c t') j).mp h'
  obtain ⟨e1, e2, e3⟩ := row_inj h1 h2 h1' h2'
  obtain ⟨r, i, s⟩ := t
  obtain ⟨r', i', s'⟩ := t'
  dsimp only at e1 e2
  subst e1 e2
  rw [od_inj c i s s' e3]
theorem o_cov (c : Dev nD) : ∀ j : S4096x4096.Idx, ∃ t : Bl, j ∈ (oBlk (ro t.1 t.2.1 (od16 c t))).view.set := by
  intro j
  have hj : (j 0).val < 4096 := (j 0).isLt
  obtain ⟨s, hs⟩ := od_sur c ⟨(j 0).val % 512 / 256, by omega⟩ ⟨(j 0).val % 2048 / 512, by omega⟩
  exact ⟨(⟨(j 0).val / 2048, by omega⟩, ⟨(j 0).val % 512 / 256, by omega⟩, s), (mem_oBlk _ _ _ j).mpr (row_sur hj _ hs)⟩
theorem o_parts (c : Dev nD) (f : Buf (Elt F) (oL c)) :
    (oL c ↦[Finset.univ]{fullShare} f : sProp 𝕄) = bigSep Finset.univ fun t : Bl => oL c ↦[(oBlk (ro t.1 t.2.1 (od16 c t))).view.set]{fullShare} f :=
  parts_eq (T := Bl) (ℓ := oL c) (fun t => (oBlk (ro t.1 t.2.1 (od16 c t))).view.set) (o_dis c) (o_cov c)

/-! ## The result's contents -/

/-- The device at position `z` of `c`'s ring. -/
def gz (c : Dev nD) (z : ℕ) : Dev nD := ⟨4 * (c.val / 4) + z % 4, by have h : c.val < 32 := c.isLt; show _ < 32; omega⟩

/-- What device `c` has in the result at the end. -/
def outV (I : Inp F) (c : Dev nD) : Vec F S4096x4096 .f32 := fun j =>
  blk I ⟨(j 0).val / 2048, by have : (j 0).val < 4096 := (j 0).isLt; omega⟩ ⟨(j 0).val % 512 / 256, by omega⟩
    (src ⟨(j 0).val % 512 / 256, by omega⟩ (gz c ((j 0).val % 2048 / 512))) (ix2 (⟨(j 0).val % 256, by omega⟩ : Fin 256) (j 1))

theorem outV_at (I : Inp F) {c d : Dev nD} (hd : d.val / 4 = c.val / 4) (r i : Fin 2) (a : Fin 256) (e : Fin 4096) (n : Fin 4096) (hn : n.val = row r i d + a.val) :
    outV I c (ix2 n e) = blk I r i (src i d) (ix2 a e) := by
  unfold row at hn
  have key : ∀ (r' i' : Fin 2) (d' : Dev nD) (a' : Fin 256), r' = r → i' = i → d' = d → a' = a → blk I r' i' (src i' d') (ix2 a' e) = blk I r i (src i d) (ix2 a e) := by
    intro r' i' d' a' e1 e2 e3 e4; subst e1 e2 e3 e4; rfl
  refine key _ _ _ _ (Fin.ext ?_) (Fin.ext ?_) (Fin.ext ?_) (Fin.ext ?_)
  · show n.val / 2048 = r.val; omega
  · show n.val % 512 / 256 = i.val; omega
  · show 4 * (c.val / 4) + n.val % 2048 / 512 % 4 = d.val; omega
  · show n.val % 256 = a.val; omega

theorem read_outV (I : Inp F) {c d : Dev nD} (hd : d.val / 4 = c.val / 4) (r i : Fin 2) :
    (oBlk (ro r i d)).view.read (Elt F) (outV I c) = blk I r i (src i d) := by
  funext j
  have e : outV I c ((oBlk (ro r i d)).view.emb (ix2 (j 0) (j 1))) = blk I r i (src i d) (ix2 (j 0) (j 1)) :=
    (congrArg (outV I c) (oBlk_emb r i d (j 0) (j 1))).trans (outV_at I hd r i _ _ _ rfl)
  have e' : ∀ j', j' = j → outV I c ((oBlk (ro r i d)).view.emb j') = blk I r i (src i d) j' → outV I c ((oBlk (ro r i d)).view.emb j) = blk I r i (src i d) j := by
    intro j' h h'; subst h; exact h'
  exact e' _ (ix2_eta j) e

/-! ## Held blocks and held arrays -/

variable (I : Inp F) (c : Dev nD)

theorem x_cut (t : Bl) : (xL c ↦[(xBlk (xo t.1 t.2.1 (xd16 c t))).view.set]{fullShare} (I.x c) : sProp 𝕄) ⊢ hx I t.1 t.2.1 t.2.2.val c := by
  unfold hx hold
  iintro H; iexists (I.x c); isplitr; · ipureintro; rfl
  iexact H
theorem x_uncut (t : Bl) : hx I t.1 t.2.1 t.2.2.val c ⊢ (xL c ↦[(xBlk (xo t.1 t.2.1 (xd16 c t))).view.set]{fullShare} (I.x c) : sProp 𝕄) := by
  unfold hx hold
  iintro ⟨%f, %h, H⟩
  iapply (Entails.of_eq (pointsTo_congr (read_eq (xBlk (xo t.1 t.2.1 (xd16 c t))) h))) $$ H
theorem o_cut (f : Buf (Elt F) (oL c)) (t : Bl) : (oL c ↦[(oBlk (ro t.1 t.2.1 (od16 c t))).view.set]{fullShare} f : sProp 𝕄) ⊢ ha t.1 t.2.1 t.2.2.val c := by
  unfold ha anyB
  iintro H; iexists f; iexact H
theorem o_uncut (t : Bl) : ho I t.1 t.2.1 t.2.2.val c ⊢ (oL c ↦[(oBlk (ro t.1 t.2.1 (od16 c t))).view.set]{fullShare} (outV I c) : sProp 𝕄) := by
  have hr : (oBlk (ro t.1 t.2.1 (od16 c t))).view.read (Elt F) (outV I c) = blk I t.1 t.2.1 (srcN t.2.1 t.2.2.val c) :=
    (read_outV I (od_ring c t.2.1 t.2.2) t.1 t.2.1).trans (congrArg (blk I t.1 t.2.1) (src_tgt _ _))
  unfold ho hold
  iintro ⟨%f, %h, H⟩
  iapply (Entails.of_eq (pointsTo_congr (read_eq (oBlk (ro t.1 t.2.1 (od16 c t))) (h.trans hr.symm)))) $$ H

/-- All of a device's partial, as blocks, and back; likewise the result. -/
theorem x_blocks : (xL c ↦[Finset.univ]{fullShare} (I.x c) : sProp 𝕄) ⊢ bigSep Finset.univ fun t : Bl => hx I t.1 t.2.1 t.2.2.val c := by
  rw [x_parts]; exact bigSep_mono fun t _ => x_cut I c t
theorem x_unblocks : (bigSep Finset.univ fun t : Bl => hx I t.1 t.2.1 t.2.2.val c) ⊢ (xL c ↦[Finset.univ]{fullShare} (I.x c) : sProp 𝕄) := by
  rw [x_parts]; exact bigSep_mono fun t _ => x_uncut I c t
theorem o_blocks (f : Buf (Elt F) (oL c)) : (oL c ↦[Finset.univ]{fullShare} f : sProp 𝕄) ⊢ bigSep Finset.univ fun t : Bl => ha t.1 t.2.1 t.2.2.val c := by
  rw [o_parts]; exact bigSep_mono fun t _ => o_cut c f t
theorem o_unblocks : (bigSep Finset.univ fun t : Bl => ho I t.1 t.2.1 t.2.2.val c) ⊢ (oL c ↦[Finset.univ]{fullShare} (outV I c) : sProp 𝕄) := by
  rw [o_parts]; exact bigSep_mono fun t _ => o_uncut I c t

/-- The residual's blocks that the device does not read, and the four it reads. -/
def rPt (t : Bl) : sProp 𝕄 := rL c ↦[(rBlk (ro t.1 t.2.1 (od16 c t))).view.set]{fullShare} (I.r c)
theorem r_cut (r i : Fin 2) : rPt I c (r, i, 0) ⊢ hr I r i c := by
  unfold rPt hr hold
  iintro H; iexists (I.r c); isplitr; · ipureintro; rfl
  iexact H
theorem r_uncut (r i : Fin 2) : hr I r i c ⊢ rPt I c (r, i, 0) := by
  unfold rPt hr hold
  iintro ⟨%f, %h, H⟩
  iapply (Entails.of_eq (pointsTo_congr (read_eq (rBlk (ro r i (tgt i c))) h))) $$ H
theorem r_pts : (rL c ↦[Finset.univ]{fullShare} (I.r c) : sProp 𝕄) = bigSep Finset.univ fun t : Bl => rPt I c t := r_parts c (I.r c)

/-! ## The arrays, by round and direction -/

theorem sep2 (Φ : Fin 2 → sProp 𝕄) : bigSep Finset.univ Φ = iprop(Φ 0 ∗ Φ 1) := BI.bigSep_fin_two Φ
theorem sep4 (Φ : Fin 4 → sProp 𝕄) : bigSep Finset.univ Φ = iprop(Φ 0 ∗ Φ 1 ∗ Φ 2 ∗ Φ 3) := by
  rw [bigSep_univ_eq_bigSepL [0, 1, 2, 3] (by decide) (by decide)]; rfl
theorem sep6 (Φ : Fin 6 → sProp 𝕄) : bigSep Finset.univ Φ = iprop(Φ 0 ∗ Φ 1 ∗ Φ 2 ∗ Φ 3 ∗ Φ 4 ∗ Φ 5) := by
  rw [bigSep_univ_eq_bigSepL [0, 1, 2, 3, 4, 5] (by decide) (by decide)]; rfl
theorem sepRI (Φ : Fin 2 × Fin 2 → sProp 𝕄) : bigSep Finset.univ Φ = iprop((Φ (0, 0) ∗ Φ (0, 1)) ∗ (Φ (1, 0) ∗ Φ (1, 1))) := by
  rw [bigSep_univ_prod, sep2, sep2, sep2]

theorem pairUp {T : Type} [Fintype T] (Φ Ψ : T → sProp 𝕄) : iprop(bigSep Finset.univ Φ ∗ bigSep Finset.univ Ψ) = bigSep Finset.univ fun t => iprop(Φ t ∗ Ψ t) :=
  (bigSep_sep' _ _ _).symm

/-- Blocks by round and direction, then by step. -/
theorem sepBl (Φ : Bl → sProp 𝕄) :
    bigSep Finset.univ Φ = bigSep Finset.univ fun p : Fin 2 × Fin 2 => iprop(Φ (p.1, p.2, 0) ∗ Φ (p.1, p.2, 1) ∗ Φ (p.1, p.2, 2) ∗ Φ (p.1, p.2, 3)) := by
  rw [bigSep_univ_prod, bigSep_univ_prod]
  refine bigSep_congr fun r _ => ?_
  rw [bigSep_univ_prod]
  exact bigSep_congr fun i _ => sep4 _

/-- The residual's blocks of a round and direction that the device does not read. -/
def rOth (r i : Fin 2) : sProp 𝕄 := iprop(rPt I c (r, i, 1) ∗ rPt I c (r, i, 2) ∗ rPt I c (r, i, 3))

theorem rows_in (r i : Fin 2) :
    iprop((hx I r i 0 c ∗ hx I r i 1 c ∗ hx I r i 2 c ∗ hx I r i 3 c) ∗ (rPt I c (r, i, 0) ∗ rPt I c (r, i, 1) ∗ rPt I c (r, i, 2) ∗ rPt I c (r, i, 3))
      ∗ (ha r i 0 c ∗ ha r i 1 c ∗ ha r i 2 c ∗ ha r i 3 c)) ⊢ (iprop(rows5 I r i c ∗ any4 r i c ∗ rOth I c r i) : sProp 𝕄) := by
  unfold rows5 any4 rOth
  iintro ⟨⟨X0, X1, X2, X3⟩, ⟨R0, R⟩, A⟩
  ihave R0 := (r_cut I c r i) $$ R0
  isplitl [X0 X1 X2 X3 R0]
  · isplitl [X0]; · iexact X0
    isplitl [X1]; · iexact X1
    isplitl [X2]; · iexact X2
    isplitl [X3]; · iexact X3
    iexact R0
  isplitl [A]; · iexact A
  iexact R
theorem rows_out (r i : Fin 2) :
    iprop(rows5 I r i c ∗ outs4 I r i c ∗ rOth I c r i)
      ⊢ (iprop((hx I r i 0 c ∗ hx I r i 1 c ∗ hx I r i 2 c ∗ hx I r i 3 c) ∗ (rPt I c (r, i, 0) ∗ rPt I c (r, i, 1) ∗ rPt I c (r, i, 2) ∗ rPt I c (r, i, 3))
      ∗ (ho I r i 0 c ∗ ho I r i 1 c ∗ ho I r i 2 c ∗ ho I r i 3 c)) : sProp 𝕄) := by
  unfold rows5 outs4 rOth
  iintro ⟨⟨X0, X1, X2, X3, R0⟩, A, R⟩
  ihave R0 := (r_uncut I c r i) $$ R0
  isplitl [X0 X1 X2 X3]
  · isplitl [X0]; · iexact X0
    isplitl [X1]; · iexact X1
    isplitl [X2]; · iexact X2
    iexact X3
  isplitl [R0 R]
  · isplitl [R0]; · iexact R0
    iexact R
  iexact A

/-- The three arrays, as what the rounds take; and back, the result written. -/
theorem arrays_in (f : Buf (Elt F) (oL c)) :
    iprop((xL c ↦[Finset.univ]{fullShare} (I.x c)) ∗ (rL c ↦[Finset.univ]{fullShare} (I.r c)) ∗ oL c ↦[Finset.univ]{fullShare} f)
      ⊢ (bigSep Finset.univ fun p : Fin 2 × Fin 2 => iprop(rows5 I p.1 p.2 c ∗ any4 p.1 p.2 c ∗ rOth I c p.1 p.2) : sProp 𝕄) := by
  have e1 := x_blocks I c
  have e2 := Entails.of_eq (r_pts I c)
  have e3 := o_blocks c f
  rw [sepBl] at e1 e2 e3
  refine (BIClass.sep_mono e1 (BIClass.sep_mono e2 e3)).trans ?_
  rw [pairUp, pairUp]
  exact bigSep_mono fun p _ => rows_in I c p.1 p.2
theorem arrays_out :
    (bigSep Finset.univ fun p : Fin 2 × Fin 2 => iprop(rows5 I p.1 p.2 c ∗ outs4 I p.1 p.2 c ∗ rOth I c p.1 p.2) : sProp 𝕄)
      ⊢ iprop((xL c ↦[Finset.univ]{fullShare} (I.x c)) ∗ (rL c ↦[Finset.univ]{fullShare} (I.r c)) ∗ oL c ↦[Finset.univ]{fullShare} (outV I c)) := by
  have e1 := x_unblocks I c
  have e2 := Entails.of_eq (r_pts I c).symm
  have e3 := o_unblocks I c
  rw [sepBl] at e1 e2 e3
  refine BIBase.Entails.trans ?_ (BIClass.sep_mono e1 (BIClass.sep_mono e2 e3))
  rw [pairUp, pairUp]
  exact bigSep_mono fun p _ => rows_out I c p.1 p.2

/-! ## The buffers cut -/

section Buffers
variable (b : Memref sig .tc .vmem S2x256x4096 .f32) (b4 : Memref sig .tc .vmem S2x2x256x4096 .f32)

theorem half_dis : ∀ (i i' : Fin 2) (j : b.view.ty.Idx), j ∈ (half b i).view.set → j ∈ (half b i').view.set → i = i' := by
  intro i i' j h h'
  obtain ⟨y, -, e⟩ := Finset.mem_map.mp h
  obtain ⟨y', -, e'⟩ := Finset.mem_map.mp h'
  have k := ((congrArg (half b i).view.emb (ix2_eta y)).trans e).symm.trans (half_emb b i (y 0) (y 1))
  have k' := ((congrArg (half b i').view.emb (ix2_eta y')).trans e').symm.trans (half_emb b i' (y' 0) (y' 1))
  exact congrArg (fun z : S2x256x4096.Idx => z 0) (b.view.emb.injective (k.symm.trans k'))
theorem half_cov (hb : b.view.set = Finset.univ) : ∀ j : b.view.ty.Idx, ∃ i : Fin 2, j ∈ (half b i).view.set := by
  intro j
  obtain ⟨y, -, e⟩ := Finset.mem_map.mp (show j ∈ b.view.set by rw [hb]; exact Finset.mem_univ j)
  have ey : (ix3 (y 0) (y 1) (y 2) : S2x256x4096.Idx) = y := funext fun x => by match x with | ⟨0, _⟩ => rfl | ⟨1, _⟩ => rfl | ⟨2, _⟩ => rfl
  refine ⟨y 0, ?_⟩
  rw [← e, ← ey]
  exact (half_emb b (y 0) (y 1) (y 2)) ▸ View.emb_mem_set _ _
theorem quarter_dis : ∀ (t t' : Fin 2 × Fin 2) (j : b4.view.ty.Idx), j ∈ (quarter b4 t.1 t.2).view.set → j ∈ (quarter b4 t'.1 t'.2).view.set → t = t' := by
  intro t t' j h h'
  obtain ⟨y, -, e⟩ := Finset.mem_map.mp h
  obtain ⟨y', -, e'⟩ := Finset.mem_map.mp h'
  have k := ((congrArg (quarter b4 t.1 t.2).view.emb (ix2_eta y)).trans e).symm.trans (quarter_emb b4 t.1 t.2 (y 0) (y 1))
  have k' := ((congrArg (quarter b4 t'.1 t'.2).view.emb (ix2_eta y')).trans e').symm.trans (quarter_emb b4 t'.1 t'.2 (y' 0) (y' 1))
  have kk := b4.view.emb.injective (k.symm.trans k')
  exact Prod.ext (congrArg (fun z : S2x2x256x4096.Idx => z 0) kk) (congrArg (fun z : S2x2x256x4096.Idx => z 1) kk)
theorem quarter_cov (hb : b4.view.set = Finset.univ) : ∀ j : b4.view.ty.Idx, ∃ t : Fin 2 × Fin 2, j ∈ (quarter b4 t.1 t.2).view.set := by
  intro j
  obtain ⟨y, -, e⟩ := Finset.mem_map.mp (show j ∈ b4.view.set by rw [hb]; exact Finset.mem_univ j)
  have ey : (ix4 (y 0) (y 1) (y 2) (y 3) : S2x2x256x4096.Idx) = y := funext fun x => by match x with | ⟨0, _⟩ => rfl | ⟨1, _⟩ => rfl | ⟨2, _⟩ => rfl | ⟨3, _⟩ => rfl
  refine ⟨(y 0, y 1), ?_⟩
  rw [← e, ← ey]
  exact (quarter_emb b4 (y 0) (y 1) (y 2) (y 3)) ▸ View.emb_mem_set _ _

theorem any_of (ℓ : Loc nD τ sig) (K : Finset (Idx ℓ)) (f : Buf (Elt F) ℓ) : (ℓ ↦[K]{fullShare} f : sProp 𝕄) ⊢ iprop(∃ f, ℓ ↦[K]{fullShare} f) := by
  iintro H; iexists f; iexact H

/-- A buffer at something. -/
def whole {s : Shape} (m : Memref sig .tc .vmem s .f32) : sProp 𝕄 :=
  iprop(∃ f : Buf (Elt F) (m.view.loc (c : Thread nD τ)), m.view.loc (c : Thread nD τ) ↦[Finset.univ]{fullShare} f)

theorem halves (hb : b.view.set = Finset.univ) : whole c b ⊢ (iprop(anyB c (half b 0) ∗ anyB c (half b 1)) : sProp 𝕄) := by
  rw [← sep2 (fun i => anyB (F := F) c (half b i))]
  unfold whole anyB
  iintro ⟨%f, H⟩
  ihave H' := (Entails.of_eq (parts_eq (ℓ := b.view.loc (c : Thread nD τ)) (f := f) (q := fullShare) (fun i : Fin 2 => (half b i).view.set) (half_dis b) (half_cov b hb))) $$ H
  have hm : (bigSep Finset.univ fun i : Fin 2 => (b.view.loc (c : Thread nD τ) ↦[(half b i).view.set]{fullShare} f : sProp 𝕄))
      ⊢ bigSep Finset.univ fun i : Fin 2 => iprop(∃ f : Buf (Elt F) (b.view.loc (c : Thread nD τ)), b.view.loc (c : Thread nD τ) ↦[(half b i).view.set]{fullShare} f) :=
    bigSep_mono fun i _ => any_of _ _ f
  iapply hm $$ H'
theorem unhalves (hb : b.view.set = Finset.univ) (f₀ : Buf (Elt F) (b.view.loc (c : Thread nD τ))) :
    (iprop(anyB c (half b 0) ∗ anyB c (half b 1)) : sProp 𝕄) ⊢ whole c b := by
  rw [← sep2 (fun i => anyB (F := F) c (half b i))]
  unfold whole anyB
  have : ∀ _ : Fin 2, Nonempty (Buf (Elt F) (b.view.loc (c : Thread nD τ))) := fun _ => ⟨f₀⟩
  have hc := bigSep_exists_pi (M := 𝕄) (Finset.univ : Finset (Fin 2)) (fun i (f : Buf (Elt F) (b.view.loc (c : Thread nD τ))) => (b.view.loc (c : Thread nD τ) ↦[(half b i).view.set]{fullShare} f : sProp 𝕄))
  refine hc.trans ?_
  iintro ⟨%fs, H⟩
  iapply (parts_join fs f₀ (fun i : Fin 2 => (half b i).view.set) (half_dis b) (half_cov b hb)) $$ H
theorem quarters (hb : b4.view.set = Finset.univ) :
    whole c b4 ⊢ (bigSep Finset.univ fun t : Fin 2 × Fin 2 => anyB c (quarter b4 t.1 t.2) : sProp 𝕄) := by
  unfold whole anyB
  iintro ⟨%f, H⟩
  ihave H' := (Entails.of_eq (parts_eq (ℓ := b4.view.loc (c : Thread nD τ)) (f := f) (q := fullShare) (fun t : Fin 2 × Fin 2 => (quarter b4 t.1 t.2).view.set) (quarter_dis b4) (quarter_cov b4 hb))) $$ H
  have hm : (bigSep Finset.univ fun t : Fin 2 × Fin 2 => (b4.view.loc (c : Thread nD τ) ↦[(quarter b4 t.1 t.2).view.set]{fullShare} f : sProp 𝕄))
      ⊢ bigSep Finset.univ fun t : Fin 2 × Fin 2 => iprop(∃ f : Buf (Elt F) (b4.view.loc (c : Thread nD τ)), b4.view.loc (c : Thread nD τ) ↦[(quarter b4 t.1 t.2).view.set]{fullShare} f) :=
    bigSep_mono fun i _ => any_of _ _ f
  iapply hm $$ H'
theorem unquarters (hb : b4.view.set = Finset.univ) (f₀ : Buf (Elt F) (b4.view.loc (c : Thread nD τ))) :
    (bigSep Finset.univ fun t : Fin 2 × Fin 2 => anyB c (quarter b4 t.1 t.2) : sProp 𝕄) ⊢ whole c b4 := by
  unfold whole anyB
  have : ∀ _ : Fin 2 × Fin 2, Nonempty (Buf (Elt F) (b4.view.loc (c : Thread nD τ))) := fun _ => ⟨f₀⟩
  have hc := bigSep_exists_pi (M := 𝕄) (Finset.univ : Finset (Fin 2 × Fin 2)) (fun t (f : Buf (Elt F) (b4.view.loc (c : Thread nD τ))) => (b4.view.loc (c : Thread nD τ) ↦[(quarter b4 t.1 t.2).view.set]{fullShare} f : sProp 𝕄))
  refine hc.trans ?_
  iintro ⟨%fs, H⟩
  iapply (parts_join fs f₀ (fun t : Fin 2 × Fin 2 => (quarter b4 t.1 t.2).view.set) (quarter_dis b4) (quarter_cov b4 hb)) $$ H
end Buffers

end Cert.KernelIdeal.Ring
end
-- ==== Proof.OpenIdeal.lean ====
module

public import proofs.«01_k».proof.Proof.WholeIdeal
public import proofs.«01_k».proof.Proof.Gen.KernelIdeal.Launch

@[expose] public section

set_option maxRecDepth 16384

/-!
# What a device starts with

The counters of the region open into the exchange's cells; the tokens are dealt to the devices that pay with
them, the credits to the devices that are paid.
-/

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig ℕ (Elt F) ℕ UU ℕ

/-! ## The region's own counters -/

abbrev KK : Type := Fin 2 × (Fin 4 ⊕ (Fin 6 ⊕ (Fin 6 ⊕ Fin 1)))
def osem : KK → SemLoc sig
  | (i, .inl j) => (![.dma (cpSem (cA i)), .dma (cpSem (cB i)), .dma (outSem i 0), .dma (outSem i 1)] : Fin 4 → SemLoc sig) j
  | (i, .inr (.inl k)) => .dma (sendSem i k)
  | (i, .inr (.inr (.inl k))) => .dma (recvSem i k)
  | (i, .inr (.inr (.inr _))) => .reg (crSem i)
theorem osemFacts : Pipeline.OwnSemFacts spec0 osem := by decide +kernel

theorem semsDir (i : Fin 2) (c : Dev nD) :
    (bigSep Finset.univ fun k : Fin 4 ⊕ (Fin 6 ⊕ (Fin 6 ⊕ Fin 1)) => (semVal ((c : Thread nD τ), osem (i, k)) 0 : sProp 𝕄)) = sems i c := by
  rw [bigSep_univ_sum, bigSep_univ_sum, bigSep_univ_sum, sep4, sep6, sep6, bigSep_W0]
  rfl
theorem ownSems_eq (c : Dev nD) : (Pipeline.ownSems0 osem c : sProp 𝕄) = iprop(sems 0 c ∗ sems 1 c) := by
  unfold Pipeline.ownSems0
  rw [bigSep_univ_prod, sep2, semsDir, semsDir]

/-! ## Cells opened -/

section Opening
variable (I : Inp F) (κ : GSem nD τ sig → ℕ) (c : Dev nD) (i : Fin 2)

theorem open_one {g : GSem nD τ sig} (hg : g ∈ barCells ∪ scCells) :
    iprop(know I κ ∗ openTok ER g ∗ semVal g 0) ⊢ (|={Set.univ}=> iprop(atPos ER g 0 ∅ 0 ∗ reached ER g 0) : sProp 𝕄) := by
  iintro ⟨#HK, Ho, Hs⟩
  ihave Hi := (know_inv I κ hg) $$ HK
  iapply (Rounds.cell_open ER (Rd I) (g := g) (Set.mem_univ (κ g))) $$ [Hi Ho Hs]
  isplitl [Hi]; · iexact Hi
  isplitl [Ho]; · iexact Ho
  iexact Hs

theorem open_x (n : Fin 6) :
    iprop(know I κ ∗ openTok ER (rvCell i n c) ∗ sv0 c (sendSem i n) ∗ sv0 c (recvSem i n)) ⊢ (|={Set.univ}=> xe i c n 0 : sProp 𝕄) := by
  unfold xe
  iintro ⟨#HK, Ho, HS, HV⟩
  imod (open_one I κ (rv_mem i n c)) $$ [Ho HV] with ⟨HP, HR⟩
  · isplitr; · iexact HK
    isplitl [Ho]; · iexact Ho
    iexact HV
  imodintro
  isplitl [HS]; · iexact HS
  isplitl [HP]; · iexact HP
  iexact HR

/-- The rights to open a direction's cells. -/
def ops : sProp 𝕄 := iprop(openTok ER (crCell i c) ∗ openTok ER (rvCell i 0 c) ∗ openTok ER (rvCell i 1 c) ∗ openTok ER (rvCell i 2 c)
  ∗ openTok ER (rvCell i 3 c) ∗ openTok ER (rvCell i 4 c) ∗ openTok ER (rvCell i 5 c))
/-- A direction's counters and cells at the start. -/
def dirs : sProp 𝕄 := iprop(loc4 i c ∗ xes i c 0 ∗ crAt i c 0)

theorem open_dir : iprop(know I κ ∗ ops c i ∗ sems i c) ⊢ (|={Set.univ}=> dirs c i : sProp 𝕄) := by
  unfold ops sems dirs xes crAt
  iintro ⟨#HK, ⟨OC, O0, O1, O2, O3, O4, O5⟩, HL, ⟨S0, S1, S2, S3, S4, S5⟩, ⟨V0, V1, V2, V3, V4, V5⟩, VC⟩
  imod (open_one I κ (cr_mem i c)) $$ [OC VC] with HC
  · isplitr; · iexact HK
    isplitl [OC]; · iexact OC
    iexact VC
  imod (open_x I κ c i 0) $$ [O0 S0 V0] with H0
  · isplitr; · iexact HK
    iframe O0 S0 V0
  imod (open_x I κ c i 1) $$ [O1 S1 V1] with H1
  · isplitr; · iexact HK
    iframe O1 S1 V1
  imod (open_x I κ c i 2) $$ [O2 S2 V2] with H2
  · isplitr; · iexact HK
    iframe O2 S2 V2
  imod (open_x I κ c i 3) $$ [O3 S3 V3] with H3
  · isplitr; · iexact HK
    iframe O3 S3 V3
  imod (open_x I κ c i 4) $$ [O4 S4 V4] with H4
  · isplitr; · iexact HK
    iframe O4 S4 V4
  imod (open_x I κ c i 5) $$ [O5 S5 V5] with H5
  · isplitr; · iexact HK
    iframe O5 S5 V5
  imodintro
  isplitl [HL]; · iexact HL
  isplitl [H0 H1 H2 H3 H4 H5]
  · iframe H0 H1 H2 H3 H4 H5
  iexact HC
end Opening

/-! ## The launch's tokens -/

theorem barCell_inj : Function.Injective (barCell : Dev nD → GSem nD τ sig) := fun _ _ h => congrArg (fun g : GSem nD τ sig => g.1.1) h
theorem scKd_inj : ∀ j j' : Fin 14, (scKd j).sem = (scKd j').sem → j = j' := by decide +kernel
theorem scCell_inj : Function.Injective scCell := fun x y h =>
  Prod.ext (congrArg (fun g : GSem nD τ sig => g.1.1) h) (scKd_inj _ _ (congrArg (fun g : GSem nD τ sig => g.2) h))
theorem scKd_ne : ∀ j : Fin 14, (scKd j).sem ≠ .reg barSem := by decide +kernel
theorem cells_disjoint : Disjoint barCells scCells := by
  rw [Finset.disjoint_left]
  intro g h1 h2
  obtain ⟨c, -, rfl⟩ := Finset.mem_image.mp h1
  obtain ⟨x, -, h⟩ := Finset.mem_image.mp h2
  exact scKd_ne x.2 (congrArg (fun g : GSem nD τ sig => g.2) h)

theorem opens_flat (c : Dev nD) :
    (bigSep Finset.univ fun j : Fin 14 => (openTok ER (scCell (c, j)) : sProp 𝕄)) ⊢ iprop(ops c 0 ∗ ops c 1) := by
  rw [bigSep_univ_eq_bigSepL [0, 2, 3, 4, 5, 6, 7, 1, 8, 9, 10, 11, 12, 13] (by decide) (by decide)]
  have ec (i : Fin 2) : (openTok ER (scCell (c, ⟨i.val, by omega⟩)) : sProp 𝕄) = openTok ER (crCell i c) :=
    congrArg (openTok ER) (congrArg (Prod.mk (c : Thread nD τ)) (scKd_cr i))
  have er (i : Fin 2) (k : Fin 6) : (openTok ER (scCell (c, ⟨2 + 6 * i.val + k.val, by omega⟩)) : sProp 𝕄) = openTok ER (rvCell i k c) :=
    congrArg (openTok ER) (congrArg (Prod.mk (c : Thread nD τ)) (scKd_rv i k))
  unfold ops
  rw [← ec 0, ← ec 1, ← er 0 0, ← er 0 1, ← er 0 2, ← er 0 3, ← er 0 4, ← er 0 5, ← er 1 0, ← er 1 1, ← er 1 2, ← er 1 3, ← er 1 4, ← er 1 5]
  show iprop(openTok ER (scCell (c, 0)) ∗ openTok ER (scCell (c, 2)) ∗ openTok ER (scCell (c, 3)) ∗ openTok ER (scCell (c, 4)) ∗ openTok ER (scCell (c, 5))
    ∗ openTok ER (scCell (c, 6)) ∗ openTok ER (scCell (c, 7)) ∗ openTok ER (scCell (c, 1)) ∗ openTok ER (scCell (c, 8)) ∗ openTok ER (scCell (c, 9))
    ∗ openTok ER (scCell (c, 10)) ∗ openTok ER (scCell (c, 11)) ∗ openTok ER (scCell (c, 12)) ∗ openTok ER (scCell (c, 13))) ⊢ _
  iintro ⟨A, B, C, D, E, G, H, K, L, M, N, P, Q, R⟩
  isplitl [A B C D E G H]
  · isplitl [A]; · iexact A
    isplitl [B]; · iexact B
    isplitl [C]; · iexact C
    isplitl [D]; · iexact D
    isplitl [E]; · iexact E
    isplitl [G]; · iexact G
    iexact H
  isplitl [K]; · iexact K
  isplitl [L]; · iexact L
  isplitl [M]; · iexact M
  isplitl [N]; · iexact N
  isplitl [P]; · iexact P
  isplitl [Q]; · iexact Q
  iexact R

theorem opens_deal : (bigSep scCells fun g => (openTok ER g : sProp 𝕄)) ⊢ bigSep Finset.univ fun c : Dev nD => iprop(ops c 0 ∗ ops c 1) := by
  unfold scCells
  rw [bigSep_image_of_injOn (scCell_inj.injOn), bigSep_univ_prod]
  exact bigSep_mono fun c _ => opens_flat c

/-- A payment of the rounds. -/
abbrev PT : Type := (Fin 2 × Fin 2) × Fin 8

theorem pdv_inj (p : Fin 8) (i : Fin 2) : Function.Injective (pdv p i) := by
  intro c c' h
  unfold pdv at h
  split at h
  · have := congrArg (tgt i) h; rwa [tgt_src, tgt_src] at this
  · have := congrArg (src i) h; rwa [src_tgt, src_tgt] at this

def tk1 (x : Dev nD × Fin 2) : GSem nD τ sig × ℕ × Fin 2 := (barCell (tgt (1 - x.2) x.1), 0, x.2)
def tk2 (x : Dev nD × PT) : GSem nD τ sig × ℕ × Fin 2 := (pcell x.2.2 x.2.1.2 (pdv x.2.2 x.2.1.2 x.1), pix x.2.2 x.2.1.1.val, 0)

theorem tgt_inj (i : Fin 2) : Function.Injective (tgt i) := fun c c' h => by
  have := congrArg (src i) h; rwa [src_tgt, src_tgt] at this
theorem tk1_inj : Function.Injective tk1 := by
  rintro ⟨c, d⟩ ⟨c', d'⟩ h
  obtain rfl : d = d' := congrArg (fun t : GSem nD τ sig × ℕ × Fin 2 => t.2.2) h
  exact Prod.ext (tgt_inj _ (congrArg (fun t : GSem nD τ sig × ℕ × Fin 2 => t.1.1.1) h)) rfl
theorem pk_inj : ∀ t t' : PT, (pkd t.2 t.1.2).sem = (pkd t'.2 t'.1.2).sem → pix t.2 t.1.1.val = pix t'.2 t'.1.1.val → t = t' := by decide +kernel
theorem tk2_inj : Function.Injective tk2 := by
  rintro ⟨c, t⟩ ⟨c', t'⟩ h
  obtain rfl : t = t' := pk_inj t t' (congrArg (fun t : GSem nD τ sig × ℕ × Fin 2 => t.1.2) h) (congrArg (fun t : GSem nD τ sig × ℕ × Fin 2 => t.2.1) h)
  exact Prod.ext (pdv_inj _ _ (congrArg (fun t : GSem nD τ sig × ℕ × Fin 2 => t.1.1.1) h)) rfl

/-- Every duty's token. -/
def allToks : Finset (GSem nD τ sig × ℕ × Fin 2) := Finset.univ.image tk1 ∪ Finset.univ.image tk2
theorem pk_ne : ∀ (p : Fin 8) (i : Fin 2), (pkd p i).sem ≠ .reg barSem := by decide +kernel
theorem toks_disjoint : Disjoint (Finset.univ.image tk1) (Finset.univ.image tk2) := by
  rw [Finset.disjoint_left]
  intro x h1 h2
  obtain ⟨y, -, rfl⟩ := Finset.mem_image.mp h1
  obtain ⟨z, -, h⟩ := Finset.mem_image.mp h2
  exact pk_ne z.2.2 z.2.1.2 (congrArg (fun t : GSem nD τ sig × ℕ × Fin 2 => t.1.2) h)

/-- The barrier's tokens of a device, and the rounds'. -/
def barTok (c : Dev nD) : sProp 𝕄 := iprop(dutyTok ER (barCell (tgt 1 c)) 0 0 ∗ dutyTok ER (barCell (tgt 0 c)) 0 1)
def rndTok (c : Dev nD) : sProp 𝕄 := bigSep Finset.univ fun q : Fin 2 × Fin 2 => toks q.1 q.2 c
def rndCrd (c : Dev nD) : sProp 𝕄 := bigSep Finset.univ fun q : Fin 2 × Fin 2 => crds q.1 q.2 c

theorem toks_deal : (bigSep allToks fun x => (dutyTok ER x.1 x.2.1 x.2.2 : sProp 𝕄)) = bigSep Finset.univ fun c : Dev nD => iprop(barTok c ∗ rndTok c) := by
  unfold allToks
  rw [bigSep_union toks_disjoint, bigSep_image_of_injOn tk1_inj.injOn, bigSep_image_of_injOn tk2_inj.injOn, bigSep_univ_prod, bigSep_univ_prod]
  refine (pairUp _ _).trans (bigSep_congr fun c _ => ?_)
  rw [sep2, bigSep_univ_prod]
  rfl

/-! ## The launch's credits -/

def pnum (t : PT) : ℕ := 2 + 16 * t.1.1.val + (2 * t.2.val + t.1.2.val)
theorem pnum_inj : ∀ t t' : PT, pnum t = pnum t' → t = t' := by
  rintro ⟨⟨r, i⟩, p⟩ ⟨⟨r', i'⟩, p'⟩ h
  unfold pnum at h
  dsimp only at h
  have := r.isLt; have := r'.isLt; have := i.isLt; have := i'.isLt; have := p.isLt; have := p'.isLt
  obtain rfl : r = r' := Fin.ext (by omega)
  obtain rfl : i = i' := Fin.ext (by omega)
  obtain rfl : p = p' := Fin.ext (by omega)
  rfl
theorem ico_eq : Finset.Ico 0 34 = insert 0 (insert 1 ((Finset.univ : Finset PT).image pnum)) := by decide +kernel

def payT (t : PT) (c : Dev nD) : CellTallies nD τ sig ℕ := tallyAt (pcell t.2 t.1.2 (pdv t.2 t.1.2 c)) (pix t.2 t.1.1.val) (pam t.2)

theorem O_all (c : Dev nD) : O c 0 = tallyAt (barCell (tgt 1 c)) 0 1 + (tallyAt (barCell (tgt 0 c)) 0 1 + ∑ t : PT, payT t c) := by
  unfold O
  rw [ico_eq, Finset.sum_insert (by decide +kernel), Finset.sum_insert (by decide +kernel), Finset.sum_image fun t _ t' _ h => pnum_inj t t' h]
  refine congrArg₂ (· + ·) rfl (congrArg₂ (· + ·) rfl (Finset.sum_congr rfl fun t _ => ?_))
  exact payAt_round c t.1.1 t.1.2 t.2

theorem crd_pay (t : PT) (c : Dev nD) :
    (Pipeline.launchCred (payT t) c : sProp 𝕄) ⊢ cred (tallyAt (pcell t.2 t.1.2 c) (pix t.2 t.1.1.val) (pam t.2)) := by
  obtain ⟨⟨r, i⟩, p⟩ := t
  by_cases h : p = 1 ∨ p = 6
  · have e : payT ((r, i), p) = fun d => tallyAt (((src i d).tc : Thread nD τ), (pkd p i).sem) (pix p r.val) (pam p) := by
      funext d; unfold payT pdv; dsimp only; rw [if_pos h]
    rw [e]
    exact Pipeline.launchCred_tallyAt (pkd p i).sem (src i) (tgt i) (src_tgt i) (tgt_src i) (pix p r.val) (pam p) c
  · have e : payT ((r, i), p) = fun d => tallyAt (((tgt i d).tc : Thread nD τ), (pkd p i).sem) (pix p r.val) (pam p) := by
      funext d; unfold payT pdv; dsimp only; rw [if_neg h]
    rw [e]
    exact Pipeline.launchCred_tallyAt (pkd p i).sem (tgt i) (src i) (tgt_src i) (src_tgt i) (pix p r.val) (pam p) c

theorem crd_bar (i : Fin 2) (c : Dev nD) :
    (Pipeline.launchCred (fun d => tallyAt (barCell (tgt i d)) 0 1) c : sProp 𝕄) ⊢ cred (tallyAt (barCell c) 0 1) :=
  Pipeline.launchCred_tallyAt (.reg barSem) (tgt i) (src i) (tgt_src i) (src_tgt i) 0 1 c

theorem crds_deal (c : Dev nD) :
    (Pipeline.launchCred (fun d => O d 0) c : sProp 𝕄) ⊢ iprop(cred (tallyAt (barCell c) 0 2) ∗ rndCrd c) := by
  have e : (fun d : Dev nD => O d 0) = fun d => tallyAt (barCell (tgt 1 d)) 0 1 + (tallyAt (barCell (tgt 0 d)) 0 1 + ∑ t : PT, payT t d) := funext O_all
  have h2 : (tallyAt (barCell c) 0 2 : CellTallies nD τ sig ℕ) = tallyAt (barCell c) 0 1 + tallyAt (barCell c) 0 1 := by
    exact (tallyAt_add (barCell c) 0 1 1).symm
  rw [e, Pipeline.launchCred_add, Pipeline.launchCred_add, Pipeline.launchCred_sum]
  have h3 : (bigSep Finset.univ fun t : PT => (Pipeline.launchCred (payT t) c : sProp 𝕄)) ⊢ rndCrd c := by
    unfold rndCrd crds
    rw [← bigSep_univ_prod (fun t : PT => (cred (tallyAt (pcell t.2 t.1.2 c) (pix t.2 t.1.1.val) (pam t.2)) : sProp 𝕄))]
    exact bigSep_mono fun t _ => crd_pay t c
  iintro ⟨H0, H1, H⟩
  ihave H0 := (crd_bar 1 c) $$ H0
  ihave H1 := (crd_bar 0 c) $$ H1
  ihave H := h3 $$ H
  isplitr [H]
  · rw [h2]
    iapply (cred_add _ _).2
    isplitl [H0]; · iexact H0
    iexact H1
  iexact H

end Cert.KernelIdeal.Ring
end
-- ==== Proof.EnterIdeal.lean ====
module

public import proofs.«01_k».proof.Proof.OpenIdeal
public import proofs.«01_k».proof.Proof.Gen.KernelIdeal.Points
public import proofs.«01_k».proof.Proof.Gen.KernelIdeal.Frame

@[expose] public section

set_option maxRecDepth 16384

/-!
# Into the kernel's body and out of it

The arrays and buffers that the region holds, regrouped as the rounds take them; and back.
-/

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg BodyObligation cellOf)
open Cert.KernelIdeal Cert.KernelIdeal.Gen

variable {F : FTy → Type} [FloatOps F]

local notation "𝕄" => MT nD τ sig ℕ (Elt F) ℕ UU ℕ

/-! ## The scratch buffers -/

theorem any_some (c : Dev nD) {sp : Space} (V : Memref sig .tc sp S256x4096 .f32) :
    (anyB c V : sProp 𝕄) ⊢ iprop(∃ _ : Buf (Elt F) (V.view.loc (c : Thread nD τ)), anyB c V) := by
  unfold anyB
  iintro ⟨%f, H⟩
  iexists f; iexists f; iexact H

abbrev scr (c : Dev nD) : sProp 𝕄 := Pipeline.scopedRest (Ix := ℕ) (Name := ℕ) (U := UU) (Lvl := ℕ) (Val := Elt F) spec0 c

theorem scr_eq (c : Dev nD) : (scr c : sProp 𝕄) = iprop(whole c pB ∗ whole c sB ∗ whole c rB ∗ whole c gB) := scopedRest0_eq c

theorem pB_univ : pB.view.set = Finset.univ := View.set_whole _
theorem sB_univ : sB.view.set = Finset.univ := View.set_whole _
theorem rB_univ : rB.view.set = Finset.univ := View.set_whole _
theorem gB_univ : gB.view.set = Finset.univ := View.set_whole _

theorem scr_in (c : Dev nD) : (scr c : sProp 𝕄) ⊢ iprop(bufd 0 c ∗ bufd 1 c) := by
  have h4 (b : Memref sig .tc .vmem S2x2x256x4096 .f32) (hb : b.view.set = Finset.univ) := quarters (F := F) c b hb
  rw [scr_eq]
  unfold bufd buf4
  iintro ⟨HP, HS, HR, HG⟩
  ihave HP := (halves c pB pB_univ) $$ HP
  ihave HS := (halves c sB sB_univ) $$ HS
  ihave HR := (h4 rB rB_univ) $$ HR
  ihave HG := (h4 gB gB_univ) $$ HG
  ihave HR := (Entails.of_eq (sepRI (fun t : Fin 2 × Fin 2 => anyB c (quarter rB t.1 t.2)))) $$ HR
  ihave HG := (Entails.of_eq (sepRI (fun t : Fin 2 × Fin 2 => anyB c (quarter gB t.1 t.2)))) $$ HG
  icases HP with ⟨P0, P1⟩
  icases HS with ⟨S0, S1⟩
  icases HR with ⟨⟨R00, R01⟩, R10, R11⟩
  icases HG with ⟨⟨G00, G01⟩, G10, G11⟩
  isplitl [P0 S0 R00 R01 G00 G01]
  · isplitl [P0 S0 G00 G01]
    · isplitl [S0]; · iexact S0
      isplitl [P0]; · iexact P0
      isplitl [G00]; · iexact G00
      iexact G01
    isplitl [R00]; · iexact R00
    iexact R01
  isplitl [P1 S1 G10 G11]
  · isplitl [S1]; · iexact S1
    isplitl [P1]; · iexact P1
    isplitl [G10]; · iexact G10
    iexact G11
  isplitl [R10]; · iexact R10
  iexact R11

theorem half_out (c : Dev nD) (b : Memref sig .tc .vmem S2x256x4096 .f32) (hb : b.view.set = Finset.univ) :
    (iprop(anyB c (half b 0) ∗ anyB c (half b 1)) : sProp 𝕄) ⊢ whole c b := by
  iintro ⟨H0, H1⟩
  ihave H0 := (any_some c (half b 0)) $$ H0
  icases H0 with ⟨%f, H0⟩
  iapply (unhalves c b hb f)
  isplitl [H0]; · iexact H0
  iexact H1
theorem quarter_out (c : Dev nD) (b : Memref sig .tc .vmem S2x2x256x4096 .f32) (hb : b.view.set = Finset.univ) :
    (iprop((anyB c (quarter b 0 0) ∗ anyB c (quarter b 0 1)) ∗ (anyB c (quarter b 1 0) ∗ anyB c (quarter b 1 1))) : sProp 𝕄) ⊢ whole c b := by
  iintro ⟨⟨H0, H1⟩, H2⟩
  ihave H0 := (any_some c (quarter b 0 0)) $$ H0
  icases H0 with ⟨%f, H0⟩
  iapply (unquarters c b hb f)
  iapply (Entails.of_eq (sepRI (fun t : Fin 2 × Fin 2 => anyB c (quarter b t.1 t.2))).symm)
  isplitl [H0 H1]
  · isplitl [H0]; · iexact H0
    iexact H1
  iexact H2

theorem scr_out (c : Dev nD) : (iprop(bufd 0 c ∗ bufd 1 c) : sProp 𝕄) ⊢ scr c := by
  rw [scr_eq]
  unfold bufd buf4
  iintro ⟨⟨⟨S0, P0, G00, G01⟩, R00, R01⟩, ⟨⟨S1, P1, G10, G11⟩, R10, R11⟩⟩
  isplitl [P0 P1]
  · iapply (half_out c pB pB_univ)
    isplitl [P0]; · iexact P0
    iexact P1
  isplitl [S0 S1]
  · iapply (half_out c sB sB_univ)
    isplitl [S0]; · iexact S0
    iexact S1
  isplitl [R00 R01 R10 R11]
  · iapply (quarter_out c rB rB_univ)
    isplitl [R00 R01]
    · isplitl [R00]; · iexact R00
      iexact R01
    isplitl [R10]; · iexact R10
    iexact R11
  iapply (quarter_out c gB gB_univ)
  isplitl [G00 G01]
  · isplitl [G00]; · iexact G00
    iexact G01
  isplitl [G10]; · iexact G10
  iexact G11

/-! ## The rounds' operands -/

section Rounds
variable (I : Inp F) (c : Dev nD)

/-- The residual's blocks that are not read. -/
def others : sProp 𝕄 := bigSep Finset.univ fun q : Fin 2 × Fin 2 => rOth I c q.1 q.2

theorem fresh_in (r i : Fin 2) :
    iprop(toks r i c ∗ crds r i c ∗ rows5 I r i c ∗ any4 r i c ∗ rOth I c r i) ⊢ (iprop(fresh I r i c ∗ rOth I c r i) : sProp 𝕄) := by
  unfold fresh
  iintro ⟨HT, HC, HX, HA, HO⟩
  isplitr [HO]
  · isplitl [HX]; · iexact HX
    isplitl [HA]; · iexact HA
    isplitl [HT]; · iexact HT
    iexact HC
  iexact HO

theorem rounds_in (f : Buf (Elt F) (oL c)) :
    iprop(rndTok c ∗ rndCrd c ∗ (xL c ↦[Finset.univ]{fullShare} (I.x c)) ∗ (rL c ↦[Finset.univ]{fullShare} (I.r c)) ∗ oL c ↦[Finset.univ]{fullShare} f)
      ⊢ (iprop((fresh I 0 0 c ∗ fresh I 1 0 c) ∗ (fresh I 0 1 c ∗ fresh I 1 1 c) ∗ others I c) : sProp 𝕄) := by
  have h : (bigSep Finset.univ fun q : Fin 2 × Fin 2 => iprop(toks q.1 q.2 c ∗ crds q.1 q.2 c ∗ rows5 I q.1 q.2 c ∗ any4 q.1 q.2 c ∗ rOth I c q.1 q.2))
      ⊢ (bigSep Finset.univ fun q : Fin 2 × Fin 2 => iprop(fresh I q.1 q.2 c ∗ rOth I c q.1 q.2) : sProp 𝕄) := bigSep_mono fun q _ => fresh_in I c q.1 q.2
  rw [← pairUp (fun q : Fin 2 × Fin 2 => toks q.1 q.2 c), ← pairUp (fun q : Fin 2 × Fin 2 => crds q.1 q.2 c), ← pairUp (fun q : Fin 2 × Fin 2 => fresh I q.1 q.2 c), sepRI (fun q => fresh I q.1 q.2 c)] at h
  unfold rndTok rndCrd others
  iintro ⟨HT, HC, HA⟩
  ihave HA := (arrays_in I c f) $$ HA
  ihave H := h $$ [HT HC HA]
  · isplitl [HT]; · iexact HT
    isplitl [HC]; · iexact HC
    iexact HA
  icases H with ⟨⟨⟨A, B⟩, C, D⟩, HO⟩
  isplitl [A C]
  · isplitl [A]; · iexact A
    iexact C
  isplitl [B D]
  · isplitl [B]; · iexact B
    iexact D
  iexact HO

theorem rounds_out :
    iprop(((rows5 I 0 0 c ∗ rows5 I 1 0 c) ∗ (outs4 I 0 0 c ∗ outs4 I 1 0 c)) ∗ ((rows5 I 0 1 c ∗ rows5 I 1 1 c) ∗ (outs4 I 0 1 c ∗ outs4 I 1 1 c)) ∗ others I c)
      ⊢ (iprop((xL c ↦[Finset.univ]{fullShare} (I.x c)) ∗ (rL c ↦[Finset.univ]{fullShare} (I.r c)) ∗ oL c ↦[Finset.univ]{fullShare} (outV I c)) : sProp 𝕄) := by
  have h := arrays_out I c
  rw [← pairUp, ← pairUp, sepRI (fun q => rows5 I q.1 q.2 c), sepRI (fun q => outs4 I q.1 q.2 c)] at h
  unfold others
  iintro ⟨⟨⟨A, B⟩, C, D⟩, ⟨⟨A', B'⟩, C', D'⟩, HO⟩
  iapply h
  isplitl [A B A' B']
  · isplitl [A A']
    · isplitl [A]; · iexact A
      iexact A'
    isplitl [B]; · iexact B
    iexact B'
  isplitl [C D C' D']
  · isplitl [C C']
    · isplitl [C]; · iexact C
      iexact C'
    isplitl [D]; · iexact D
    iexact D'
  iexact HO

/-! ## The body, from what the region holds to what it gets back -/

/-- What the launch keeps for the exchange, and what opening its cells makes of it. -/
def tk : sProp 𝕄 := iprop(∃ κ : GSem nD τ sig → ℕ, (bigSep (barCells ∪ scCells) fun g => cellInv ER (Rd I) (κ g) g) ∗ barIn c ∗ (ops c 0 ∗ ops c 1) ∗ rndTok c ∗ rndCrd c)
def xk : sProp 𝕄 := iprop(∃ κ : GSem nD τ sig → ℕ, know I κ ∗ barIn c ∗ (dirs c 0 ∗ dirs c 1) ∗ rndTok c ∗ rndCrd c)

theorem tk_open : iprop(tk I c ∗ Pipeline.ownSems0 osem c ∗ levAts L lv) ⊢ (|={Set.univ}=> xk I c : sProp 𝕄) := by
  rw [ownSems_eq]
  unfold tk xk
  iintro ⟨⟨%κ, #HI, HB, ⟨O0, O1⟩, HT, HC⟩, ⟨S0, S1⟩, #HL⟩
  ihave #HK := (show iprop((bigSep (barCells ∪ scCells) fun g => cellInv ER (Rd I) (κ g) g) ∗ levAts L lv) ⊢ (know I κ : sProp 𝕄) from by unfold know; exact Entails.rfl) $$ [HI HL]
  · isplitr; · iexact HI
    iexact HL
  imod (open_dir I κ c 0) $$ [O0 S0] with D0
  · isplitr; · iexact HK
    isplitl [O0]; · iexact O0
    iexact S0
  imod (open_dir I κ c 1) $$ [O1 S1] with D1
  · isplitr; · iexact HK
    isplitl [O1]; · iexact O1
    iexact S1
  imodintro
  iexists κ
  isplitr; · iexact HK
  isplitl [HB]; · iexact HB
  isplitl [D0 D1]
  · isplitl [D0]; · iexact D0
    iexact D1
  isplitl [HT]; · iexact HT
  iexact HC

/-- The three arrays the body addresses itself. -/
def arrs (f : Buf (Elt F) (oL c)) : sProp 𝕄 :=
  iprop((xL c ↦[Finset.univ]{fullShare} (I.x c)) ∗ (rL c ↦[Finset.univ]{fullShare} (I.r c)) ∗ oL c ↦[Finset.univ]{fullShare} f)

local notation "WP" => fun p Q => wp frame (wpE (defs₀ (F := F)) 𝒱₀ (c : Thread nD τ) none) Set.univ p Q

theorem run_body (f : Buf (Elt F) (oL c)) (g : Memref sig .tc .vmem S1x4096 .f32) (Q : PUnit → sProp 𝕄) :
    iprop(xk I c ∗ arrs I c f ∗ scr c ∗ holdG c g (I.g c) ∗ ow c 0)
      ⊢ iprop(((semVal (barCell c) 0 ∗ Pipeline.ownSems0 osem c ∗ arrs I c (outV I c) ∗ scr c ∗ holdG c g (I.g c) ∗ ow c 34) -∗ Q ⟨⟩) -∗ WP (bodyP g c) Q) := by
  have hi := rounds_in I c f
  unfold xk arrs
  iintro ⟨⟨%κ, #HK, HB, ⟨D0, D1⟩, HT, HC⟩, HA, HS, HG, HO⟩ HQ
  ihave HS := (scr_in c) $$ HS
  icases HS with ⟨B0, B1⟩
  ihave H := hi $$ [HT HC HA]
  · isplitl [HT]; · iexact HT
    isplitl [HC]; · iexact HC
    iexact HA
  icases H with ⟨⟨F00, F10⟩, ⟨F01, F11⟩, HOth⟩
  iapply (wp_body (I := I) (κ := κ) (c := c) (g := g) (Q := Q)) $$ [HB D0 D1 B0 B1 F00 F10 F01 F11 HG HO]
  · isplitr; · iexact HK
    isplitl [HB]; · iexact HB
    isplitl [D0 B0 F00 F10]
    · unfold dirIn dirs
      icases D0 with ⟨L0, X0, C0⟩
      isplitl [F00]; · iexact F00
      isplitl [F10]; · iexact F10
      isplitl [L0]; · iexact L0
      isplitl [B0]; · iexact B0
      isplitl [X0]; · iexact X0
      iexact C0
    isplitl [D1 B1 F01 F11]
    · unfold dirIn dirs
      icases D1 with ⟨L0, X0, C0⟩
      isplitl [F01]; · iexact F01
      isplitl [F11]; · iexact F11
      isplitl [L0]; · iexact L0
      isplitl [B1]; · iexact B1
      isplitl [X0]; · iexact X0
      iexact C0
    isplitl [HG]; · iexact HG
    iexact HO
  iintro ⟨Hb, D0, D1, HG, HO⟩
  ihave D0 := (Entails.of_eq (by unfold dirOut; rfl)) $$ D0
  ihave D1 := (Entails.of_eq (by unfold dirOut; rfl)) $$ D1
  icases D0 with ⟨X0, Y0, S0, B0⟩
  icases D1 with ⟨X1, Y1, S1, B1⟩
  iapply HQ
  isplitl [Hb]; · iexact Hb
  isplitl [S0 S1]
  · rw [ownSems_eq]
    isplitl [S0]; · iexact S0
    iexact S1
  isplitl [X0 Y0 X1 Y1 HOth]
  · iapply (rounds_out I c)
    isplitl [X0 Y0]
    · isplitl [X0]; · iexact X0
      iexact Y0
    isplitl [X1 Y1]
    · isplitl [X1]; · iexact X1
      iexact Y1
    iexact HOth
  isplitl [B0 B1]
  · iapply (scr_out c)
    isplitl [B0]; · iexact B0
    iexact B1
  isplitl [HG]; · iexact HG
  iexact HO
end Rounds

end Cert.KernelIdeal.Ring
end
-- ==== Proof.LaunchIdeal.lean ====
module

public import proofs.«01_k».proof.Proof.EnterIdeal
public import Idealize.ShloMosaic.Lib.Pipeline.RegionTalk

@[expose] public section

set_option maxRecDepth 16384

/-!
# The run

Every device reshapes its scale on the host, then enters the one region. From the launch the exchange's cells
get their invariants, and every device the tokens, credits and debts that are its own.
-/

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Cfg cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ## What the arrays hold -/

abbrev V₀ (c : Dev nD) : Valuation τ sig (Elt F) := fun b => m ((c : Dev nD), b)
abbrev W₀ (c : Dev nD) : Valuation τ sig (Elt F) := StableHlo.after hostOps0 (V₀ m c)

/-- What the devices are given. -/
def inp : Inp F where
  x c := m ((c : Thread nD τ).loc main_arg0)
  r c := m ((c : Thread nD τ).loc main_arg1)
  g c := iblk m c 0 t0_0

def W₁ (c : Dev nD) : Valuation τ sig (Elt F) := Function.update (W₀ m c) (Proc.devRef .tc main_v2) (outV (inp m) c)

theorem W₀_arg0 (c : Dev nD) : W₀ m c (Proc.devRef .tc main_arg0) = m ((c : Thread nD τ).loc main_arg0) := V_main_arg0 m c
theorem W₀_arg1 (c : Dev nD) : W₀ m c (Proc.devRef .tc main_arg1) = m ((c : Thread nD τ).loc main_arg1) := V_main_arg1 m c
theorem W₀_arg2 (c : Dev nD) : W₀ m c (Proc.devRef .tc main_arg2) = m ((c : Thread nD τ).loc main_arg2) := V_main_arg2 m c
theorem W₁_v2 (c : Dev nD) : W₁ m c (Proc.devRef .tc main_v2) = outV (inp m) c := Function.update_self ..
theorem W₁_of_ne (c : Dev nD) {b : DevRef τ sig} (h : b ≠ Proc.devRef .tc main_v2) : W₁ m c b = W₀ m c b := Function.update_of_ne h ..

def bufs : Finset (DevRef τ sig) := (StableHlo.tcRefs τ sig).filter fun b => ¬ b.isScoped
/-- All but the window's array. -/
def hbs : Finset (DevRef τ sig) := {Proc.devRef .tc main_arg0, Proc.devRef .tc main_arg1, Proc.devRef .tc main_arg2, Proc.devRef .tc main_v2}
def wbs : Finset (DevRef τ sig) := {Proc.devRef .tc main_v1}

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barSem} from by decide +kernel, BI.bigSep_singleton]
theorem bufs_split : bufs = wbs ∪ hbs := by decide +kernel
theorem bufs_disj : Disjoint wbs hbs := by decide +kernel
theorem arrRefs_eq : Pipeline.arrRefs (τ := τ) spec0 = wbs := by decide +kernel

theorem held_split (c : Dev nD) (W : Valuation τ sig (Elt F)) :
    (StableHlo.held (c : Thread nD τ) bufs W : sProp 𝕄) = iprop(StableHlo.held (c : Thread nD τ) wbs W ∗ StableHlo.held (c : Thread nD τ) hbs W) := by
  unfold StableHlo.held
  rw [bufs_split, bigSep_union bufs_disj]; rfl
theorem hbs_eq (c : Dev nD) (W : Valuation τ sig (Elt F)) :
    (StableHlo.held (c : Thread nD τ) hbs W : sProp 𝕄) = iprop((xL c ↦[Finset.univ]{fullShare} W (Proc.devRef .tc main_arg0)) ∗ (rL c ↦[Finset.univ]{fullShare} W (Proc.devRef .tc main_arg1))
      ∗ ((c : Thread nD τ).loc main_arg2 ↦[Finset.univ]{fullShare} W (Proc.devRef .tc main_arg2)) ∗ (oL c ↦[Finset.univ]{fullShare} W (Proc.devRef .tc main_v2))) := by
  unfold StableHlo.held
  rw [bigSep_eq_bigSepL_of_eq [Proc.devRef .tc main_arg0, Proc.devRef .tc main_arg1, Proc.devRef .tc main_arg2, Proc.devRef .tc main_v2] (by decide +kernel) (by decide +kernel)]
  rfl

theorem arrs_eq (c : Dev nD) (f : Buf (Elt F) (oL c)) : (arrs (inp m) c f : sProp 𝕄)
    = iprop((xL c ↦[Finset.univ]{fullShare} m ((c : Thread nD τ).loc main_arg0)) ∗ (rL c ↦[Finset.univ]{fullShare} m ((c : Thread nD τ).loc main_arg1)) ∗ (oL c ↦[Finset.univ]{fullShare} f)) := rfl
/-- The other arrays as the body takes them, the scale as given beside; and as it leaves them. -/
theorem arrs_in (c : Dev nD) : (StableHlo.held (c : Thread nD τ) hbs (W₀ m c) : sProp 𝕄)
    ⊢ iprop(arrs (inp m) c (W₀ m c (Proc.devRef .tc main_v2)) ∗ ((c : Thread nD τ).loc main_arg2 ↦[Finset.univ]{fullShare} W₀ m c (Proc.devRef .tc main_arg2))) := by
  rw [hbs_eq, arrs_eq]
  iintro ⟨HX, HR, HG, HO⟩
  isplitl [HX HR HO]
  · isplitl [HX]; · iapply (Entails.of_eq (congrArg (fun f : Buf (Elt F) (xL c) => (xL c ↦[Finset.univ]{fullShare} f : sProp 𝕄)) (W₀_arg0 m c))) $$ HX
    isplitl [HR]; · iapply (Entails.of_eq (congrArg (fun f : Buf (Elt F) (rL c) => (rL c ↦[Finset.univ]{fullShare} f : sProp 𝕄)) (W₀_arg1 m c))) $$ HR
    iexact HO
  iexact HG
theorem ne_v2 : (Proc.devRef .tc main_arg0 : DevRef τ sig) ≠ Proc.devRef .tc main_v2 ∧ (Proc.devRef .tc main_arg1 : DevRef τ sig) ≠ Proc.devRef .tc main_v2
    ∧ (Proc.devRef .tc main_arg2 : DevRef τ sig) ≠ Proc.devRef .tc main_v2 ∧ (Proc.devRef .tc main_v1 : DevRef τ sig) ≠ Proc.devRef .tc main_v2 := by decide +kernel
theorem W₁_arg0 (c : Dev nD) : W₁ m c (Proc.devRef .tc main_arg0) = m ((c : Thread nD τ).loc main_arg0) := (W₁_of_ne m c ne_v2.1).trans (W₀_arg0 m c)
theorem W₁_arg1 (c : Dev nD) : W₁ m c (Proc.devRef .tc main_arg1) = m ((c : Thread nD τ).loc main_arg1) := (W₁_of_ne m c ne_v2.2.1).trans (W₀_arg1 m c)
theorem W₁_arg2 (c : Dev nD) : W₁ m c (Proc.devRef .tc main_arg2) = m ((c : Thread nD τ).loc main_arg2) := (W₁_of_ne m c ne_v2.2.2.1).trans (W₀_arg2 m c)
theorem arrs_out (c : Dev nD) :
    iprop(arrs (inp m) c (outV (inp m) c) ∗ ((c : Thread nD τ).loc main_arg2 ↦[Finset.univ]{fullShare} W₀ m c (Proc.devRef .tc main_arg2)))
      ⊢ (StableHlo.held (c : Thread nD τ) hbs (W₁ m c) : sProp 𝕄) := by
  rw [hbs_eq, arrs_eq]
  iintro ⟨⟨HX, HR, HO⟩, HG⟩
  isplitl [HX]; · iapply (Entails.of_eq (congrArg (fun f : Buf (Elt F) (xL c) => (xL c ↦[Finset.univ]{fullShare} f : sProp 𝕄)) (W₁_arg0 m c).symm)) $$ HX
  isplitl [HR]; · iapply (Entails.of_eq (congrArg (fun f : Buf (Elt F) (rL c) => (rL c ↦[Finset.univ]{fullShare} f : sProp 𝕄)) (W₁_arg1 m c).symm)) $$ HR
  isplitl [HG]; · iapply (Entails.of_eq (congrArg (fun f : Buf (Elt F) ((c : Thread nD τ).loc main_arg2) => ((c : Thread nD τ).loc main_arg2 ↦[Finset.univ]{fullShare} f : sProp 𝕄)) (W₁_of_ne m c ne_v2.2.2.1).symm)) $$ HG
  iapply (Entails.of_eq (congrArg (fun f : Buf (Elt F) (oL c) => (oL c ↦[Finset.univ]{fullShare} f : sProp 𝕄)) (W₁_v2 m c).symm)) $$ HO

/-! ## The region's proof data -/

/-- What the body is given beside its window, and what it leaves. -/
def ΦIn (c : Dev nD) : sProp 𝕄 := iprop(scr c ∗ (∃ r, prngReg c r) ∗ StableHlo.held (c : Thread nD τ) hbs (W₀ m c) ∗ xk (inp m) c)
def ΦOut (c : Dev nD) : sProp 𝕄 :=
  iprop(scr c ∗ (∃ r, prngReg c r) ∗ StableHlo.held (c : Thread nD τ) hbs (W₁ m c) ∗ Pipeline.ownSems0 osem c ∗ semVal (barCell c) 0)

def dat (c : Dev nD) : Pipeline.Dat τ (Elt F) ℕ ℕ UU ℕ cfg0 c where
  A w := W₀ m c (Proc.devRef .tc (Pipeline.arrRef spec0 w))
  after
    | ⟨0, _⟩, t => iblk m c 0 t
  Φ t := if t.val = 0 then ΦIn m c else ΦOut m c
  q _ := fullShare
  owed t := if t.val = 0 then O c 0 else 0

abbrev adm : (p : Fin 1) → (pcfgs (F := F) p).Adm := fun p => (cfgs p).toPCfg_adm
def pdats : (p : Fin 1) → (c : Dev nD) → Pipeline.Dat τ (Elt F) ℕ ℕ UU ℕ (Pipeline.pin (pcfgs (F := F)) adm p) c
  | 0 => dat m

theorem owed_zero (c : Dev nD) : (dat m c).owed 0 = O c 0 := by
  show (if ((0 : Fin (cfg0.N + 1)).val = 0) then O c 0 else 0) = O c 0; exact if_pos rfl
theorem owed_first (c : Dev nD) : (dat m c).owed t0_0.castSucc = O c 0 := by
  show (if (t0_0.castSucc : Fin (cfg0.N + 1)).val = 0 then O c 0 else 0) = O c 0; exact if_pos rfl
theorem owed_next (c : Dev nD) : (dat m c).owed t0_0.succ = 0 := by
  show (if (t0_0.succ : Fin (cfg0.N + 1)).val = 0 then O c 0 else 0) = 0; exact if_neg (Nat.succ_ne_zero _)
theorem owed_last (c : Dev nD) : (dat m c).owed (Fin.last _) = 0 := by
  show (if (Fin.last cfg0.N).val = 0 then O c 0 else 0) = 0
  rw [Fin.val_last, if_neg (by rw [show cfg0.N = 1 from N_0]; decide)]
theorem Φ_zero (c : Dev nD) : (dat m c).Φ 0 = ΦIn m c := by
  show (if (0 : Fin (cfg0.N + 1)).val = 0 then ΦIn m c else ΦOut m c) = _; exact if_pos rfl
theorem Φ_first (c : Dev nD) : (dat m c).Φ t0_0.castSucc = ΦIn m c := by
  show (if (t0_0.castSucc : Fin (cfg0.N + 1)).val = 0 then ΦIn m c else ΦOut m c) = _; exact if_pos rfl
theorem Φ_next (c : Dev nD) : (dat m c).Φ t0_0.succ = ΦOut m c := by
  show (if (t0_0.succ : Fin (cfg0.N + 1)).val = 0 then ΦIn m c else ΦOut m c) = _; exact if_neg (Nat.succ_ne_zero _)
theorem Φ_last (c : Dev nD) : (dat m c).Φ (Fin.last _) = ΦOut m c := by
  show (if (Fin.last cfg0.N).val = 0 then ΦIn m c else ΦOut m c) = _
  rw [Fin.val_last, if_neg (by rw [show cfg0.N = 1 from N_0]; decide)]

theorem owesAt_intro {cfg : Pipeline.Cfg sig Λ₀} {c : Dev nD} (dt : Pipeline.Dat τ (Elt F) ℕ ℕ UU ℕ cfg c) (t : Fin (cfg.N + 1))
    (T : CellTallies nD τ sig ℕ) (h0 : dt.owed t = T) (W : Waits sig ℕ) (hr : dt.recorded t = Set.univ) :
    (owes (c : Thread nD τ) T W : sProp 𝕄) ⊢ (Pipeline.Dat.owesAt dt 0 t : sProp 𝕄) := by
  unfold Pipeline.Dat.owesAt Pipeline.owesWithin Pipeline.Dat.bound; rw [h0, hr]
  iintro HO; iexists W; isplitr; · ipureintro; exact fun _ _ => Or.inl trivial
  iexact HO
theorem owesAt_elim {cfg : Pipeline.Cfg sig Λ₀} {c : Dev nD} (dt : Pipeline.Dat τ (Elt F) ℕ ℕ UU ℕ cfg c) (t : Fin (cfg.N + 1))
    (T : CellTallies nD τ sig ℕ) (h0 : dt.owed t = T) :
    (Pipeline.Dat.owesAt dt 0 t : sProp 𝕄) ⊢ iprop(∃ W, owes (c : Thread nD τ) T W) := by
  unfold Pipeline.Dat.owesAt Pipeline.owesWithin; rw [h0]
  iintro ⟨%W, -, HO⟩; iexists W; iexact HO

theorem before_eq (c : Dev nD) (d) : (dat m c).before 0 t0_0 d = iblk m c 0 t0_0 :=
  ((dat m c).before_in_eq_fetched 0 rfl (fun _ => rfl) (fun _ _ _ => rfl) (fun t => by obtain rfl := fin_N0 t; rfl) t0_0 d).trans rfl

/-- The staged scale, as the rule for the body has it. -/
abbrev gS : Memref sig .tc .vmem S1x4096 .f32 := win0_0.stage (cfg0.slots t0_0 0)

theorem run_dev (c : Dev nD) (f : Buf (Elt F) (oL c)) (Q : Unit → sProp 𝕄) :
    iprop(xk (inp m) c ∗ arrs (inp m) c f ∗ scr c ∗ holdG c gS ((inp m).g c) ∗ ow c 0)
      ⊢ iprop(((semVal (barCell c) 0 ∗ Pipeline.ownSems0 osem c ∗ arrs (inp m) c (outV (inp m) c) ∗ scr c ∗ holdG c gS ((inp m).g c) ∗ ow c 34) -∗ Q ⟨⟩)
        -∗ wp frame (wpE (defs₀ (F := F)) 𝒱₀ (c : Thread nD τ) none) Set.univ (.op .deviceId fun c => bodyP gS c) Q) := by
  rw [wp_deviceId]
  exact run_body (inp m) c f gS Q

theorem body (c : Dev nD) : Pipeline.BodyObligation (dat m c) defs₀ 𝒱₀ 0 Set.univ := fun t => by
  obtain rfl := fin_N0 t
  rw [bigSep_W0, bigSep_W0, Φ_first, Φ_next]
  have hb : iprop(∃ d, owns (Ix := ℕ) (Name := ℕ) (U := UU) (Lvl := ℕ) c (win0_0.stage (cfg0.slots t0_0 0)) fullShare ((dat m c).before 0 t0_0 d))
      ⊢ (holdG c gS ((inp m).g c) : sProp 𝕄) := by
    unfold owns holdG
    iintro ⟨%d, %f, %h, H⟩
    iexists f
    isplitr; · ipureintro; exact h.trans (before_eq m c d)
    iexact H
  have ha : (holdG c gS ((inp m).g c) : sProp 𝕄)
      ⊢ owns (Ix := ℕ) (Name := ℕ) (U := UU) (Lvl := ℕ) c (win0_0.stage (cfg0.slots t0_0 0)) fullShare ((dat m c).after 0 t0_0) := by
    unfold owns holdG; exact Entails.rfl
  unfold ΦIn ΦOut
  show _ ⊢ wp frame (wpE (defs₀ (F := F)) 𝒱₀ (c : Thread nD τ) none) Set.univ (bodyAt0 (F := F) t0_0) _
  have he := body_eq (F := F) (g := gS) (Memref.isWhole_whole _) (Memref.isWhole_whole _) (Memref.isWhole_whole _) (Memref.isWhole_whole _) (Memref.isWhole_whole _) (Memref.isWhole_whole _) (Memref.isWhole_whole _) (hstage0_0 0)
  rw [show bodyAt0 (F := F) t0_0 = _ from he]
  iintro ⟨⟨HS, HP, HH, HX⟩, HO, HW⟩
  ihave HW := hb $$ HW
  ihave HA := (arrs_in m c) $$ HH
  icases HA with ⟨HA, H2⟩
  ihave HO := (owesAt_elim (dat m c) _ (O c 0) (owed_first m c)) $$ HO
  iapply (run_dev m c (W₀ m c (Proc.devRef .tc main_v2)) _) $$ [HX HA HS HW HO]
  · isplitl [HX]; · iexact HX
    isplitl [HA]; · iexact HA
    isplitl [HS]; · iexact HS
    isplitl [HW]; · iexact HW
    unfold ow; iexact HO
  iintro ⟨Hb, Hs, HA, HS, HW, HO⟩
  isplitl [HS HP HA H2 Hs Hb]
  · isplitl [HS]; · iexact HS
    isplitl [HP]; · iexact HP
    isplitl [HA H2]
    · iapply (arrs_out m c)
      isplitl [HA]; · iexact HA
      iexact H2
    isplitl [Hs]; · iexact Hs
    iexact Hb
  isplitl [HO]
  · unfold ow
    icases HO with ⟨%W, HO⟩
    iapply (owesAt_intro (dat m c) t0_0.succ (O c 34) ((owed_next m c).trans (O_last c).symm) W rfl)
    iexact HO
  iapply ha $$ HW

end Cert.KernelIdeal.Ring
end
-- ==== Proof.RunIdeal.lean ====
module

public import proofs.«01_k».proof.Proof.LaunchIdeal
public import Idealize.ShloMosaic.Lib.Pipeline.Kit

@[expose] public section

set_option maxRecDepth 16384

/-!
# The program's run

The region from its parts, the launch's deal, and what every run ends in.
-/

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Cfg cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ## The segments -/

/-- What rides along the host's reshape. -/
def ride (c : Dev nD) : sProp 𝕄 := iprop(tk (inp m) c ∗ (∃ r, prngReg c r) ∗ ow c 0)
/-- What a device keeps of the exchange at the end. -/
def kept (c : Dev nD) : sProp 𝕄 := semVal (barCell c) 0

theorem ops_sub : ∀ op ∈ (hostOps0 : List (HloOp τ sig (Elt F))), op.bufs ⊆ bufs := fun op h => by
  simp only [hostOps0, List.mem_singleton] at h; subst h
  show ({Proc.devRef .tc main_arg2, Proc.devRef .tc main_v1} : Finset (DevRef τ sig)) ⊆ bufs
  decide +kernel
theorem ops_fresh : ∀ op ∈ (hostOps0 : List (HloOp τ sig (Elt F))), op.fresh = ∅ := List.forall_iff_forall_mem.mp hostOps0_fresh

def host : Pipeline.HostSeg (Name := ℕ) (U := UU) (pcfgs (F := F)) defs₀ 𝒱₀ L lv :=
  Pipeline.HostSeg.ofOps _ _ _ _ _ bufs hostOps0 ops_sub ops_fresh (V₀ m) (ride m)

theorem region_in (c : Dev nD) :
    iprop(Pipeline.scopedRest (Pipeline.pin (pcfgs (F := F)) adm 0).spec c ∗ (∃ r, prngReg c r) ∗ StableHlo.held (c.tc : Thread nD τ) hbs (W₀ m c) ∗ xk (inp m) c)
      ⊢ (pdats m 0 c).Φ 0 :=
  Entails.of_eq (Φ_zero m c).symm
theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) hbs (W₁ m c) ∗ Pipeline.ownSems0 osem c ∗ kept c) :=
  Entails.of_eq (Φ_last m c)

theorem cut_owed (c : Dev nD) (t : Fin (cfg0.N + 1)) (g : GSem nD τ sig) (i : ℕ) (h : 0 < (dat m c).owed t g i) : i ∈ L g ∧ (0 : ℕ) < lv g i := by
  have e : (dat m c).owed t = if t.val = 0 then O c 0 else 0 := rfl
  rw [e] at h
  split at h
  · exact O_pos h
  · exact absurd h (Nat.lt_irrefl 0)
theorem stage_level : ∀ (w : Fin 1) (s : Fin (spec0 w).nbuf), lvK (kind (.dma ((spec0 w).sem s))) 0 ≤ 0 := by decide +kernel

theorem arrays_end (c : Dev nD) (w : Fin 1) : (dat m c).arrAt w cfg0.N = W₁ m c (Proc.devRef .tc (Pipeline.arrRef spec0 w)) := by
  obtain rfl : w = 0 := Subsingleton.elim _ _
  exact ((dat m c).arrAt_in 0 rfl _).trans (W₁_of_ne m c ne_v2.2.2.2).symm

set_option backward.isDefEq.respectTransparency.types false in
def reg : Pipeline.RegionSeg (pcfgs (F := F)) adm (pdats m) 0 defs₀ 𝒱₀ L lv 0 :=
  Pipeline.RegionSeg.ofTalk (pcfgs (F := F)) adm (pdats m) 0 defs₀ 𝒱₀ L lv 0 osem osemFacts
    hbs hbs (Finset.Subset.refl _) launch0.toP rfl (fun c => (body m c).loose)
    (fun _ => 0) (fun c => O c 0) (fun c => (owed_zero m c).trans (zero_add _).symm) (owed_last m) (fun _ => rfl) (fun _ w => ite_self _)
    (W₀ m) (W₁ m) (fun _ b hb => absurd hb (by rw [Finset.sdiff_self]; exact Finset.notMem_empty b))
    (tk (inp m)) kept (xk (inp m)) kept (tk_open (inp m)) (region_in m) (region_out m)
    (fun c => by iintro H; imodintro; iexact H)
    (fun _ => 0)
    ⟨fun c w s => by rw [L_tc]; decide, fun _ w s => stage_level w s, fun c t g i h => cut_owed m c t g i h⟩
    (fun _ => iprop(emp))
    (fun _ _ => rfl) (fun c w => arrays_end m c w)

theorem reg_pre (c : Dev nD) : iprop(StableHlo.held (c : Thread nD τ) bufs (W₀ m c) ∗ ride m c) ⊢ (reg m).pre c := by
  show _ ⊢ iprop(StableHlo.held (c.tc : Thread nD τ) (Pipeline.arrRefs (τ := τ) spec0) (W₀ m c) ∗ (∃ r, prngReg c r)
    ∗ (StableHlo.held (c.tc : Thread nD τ) hbs (W₀ m c) ∗ emp) ∗ tk (inp m) c ∗ ∃ Wd, owes (c : Thread nD τ) (0 + O c 0) Wd)
  rw [arrRefs_eq, zero_add, held_split]
  unfold ride ow
  iintro ⟨⟨Hw, Hh⟩, HK, Hp, HO⟩
  isplitl [Hw]; · iexact Hw
  isplitl [Hp]; · iexact Hp
  isplitl [Hh]
  · isplitl [Hh]; · iexact Hh
    iempintro
  isplitl [HK]; · iexact HK
  iexact HO

theorem reg_post (c : Dev nD) : (reg m).post c
    ⊢ iprop((StableHlo.held (c : Thread nD τ) bufs (W₁ m c) ∗ semVal (barCell c) 0) ∗ ∃ W, owes (c : Thread nD τ) (0 : CellTallies nD τ sig ℕ) W) := by
  show iprop(StableHlo.held (c.tc : Thread nD τ) (Pipeline.arrRefs (τ := τ) spec0) (W₁ m c) ∗ (∃ r, prngReg c r)
    ∗ (StableHlo.held (c.tc : Thread nD τ) hbs (W₁ m c) ∗ emp) ∗ kept c ∗ ∃ Wd, owes (c : Thread nD τ) (0 : CellTallies nD τ sig ℕ) Wd) ⊢ _
  rw [arrRefs_eq, held_split]
  unfold kept
  iintro ⟨Hw, -, ⟨Hh, -⟩, Hb, HO⟩
  isplitr [HO]
  · isplitl [Hw Hh]
    · isplitl [Hw]; · iexact Hw
      iexact Hh
    iexact Hb
  iexact HO

def segs : List (Pipeline.Seg (pcfgs (F := F)) adm (pdats m) 0 defs₀ 𝒱₀ L lv) := [.host (host m), .region (reg m)]

theorem main_eq (c : Dev nD) : main (F := F) c = Pipeline.Seg.run (segs m) :=
  main_segs adm (pdats m) 0 𝒱₀ L lv (host m) (reg m) rfl c

/-! ## The launch -/

/-- The staging cells' part of the ghost state. -/
abbrev EP : Emb (UR sig nD τ) (MT nD τ sig ℕ (Elt F) ℕ UU ℕ) := embL

def u₀ : UU :=
  (initOf (Pipeline.cells (Pipeline.pin (pcfgs (F := F)) adm) cellOf_inj) (Pipeline.launchToks (Pipeline.pin (pcfgs (F := F)) adm) cellOf_inj),
    (launchOf barCells scCells allToks, 1))

/-- The launch's ghost state, all on one device until it is dealt. -/
def seed (c : Dev nD) : sProp 𝕄 := if c = 0 then BI.own (ER (launchOf barCells scCells allToks)) else iprop(emp)
theorem seed_all : bigSep Finset.univ (seed (F := F)) = BI.own (ER (launchOf barCells scCells allToks)) := by
  rw [bigSep_univ_at _ (0 : Dev nD), bigSep_congr (s := Finset.univ.erase (0 : Dev nD)) (Ψ := fun _ => (BI.emp : sProp 𝕄))
      fun c hc => by unfold seed; rw [if_neg (Finset.ne_of_mem_erase hc)]; rfl, BI.bigSep_emp_const]
  unfold seed; rw [if_pos rfl]
  exact BI.equiv_iff.mp sep_emp

theorem seed_of : (BI.own ((embR : Emb (Rounds.URounds (GSem nD τ sig) (Fin 2) × Counters) 𝕄) (launchOf barCells scCells allToks, 1)) : sProp 𝕄)
    ⊢ bigSep Finset.univ (seed (F := F)) := by
  rw [seed_all]; exact Entails.rfl
/-- What every device may read. -/
def records (κ : GSem nD τ sig → ℕ) : sProp 𝕄 :=
  iprop((bigSep (barCells ∪ scCells) fun g => cellInv ER (Rd (inp m)) (κ g) g) ∗ bigSep barCells fun g => reached ER g 0)
instance records_persistent (κ : GSem nD τ sig → ℕ) : BI.Persistent (records m κ) := by unfold records; infer_instance
theorem reached_at (c : Dev nD) : (bigSep barCells fun g => (reached ER g 0 : sProp 𝕄)) ⊢ reached ER (barCell c) 0 :=
  bigSep_elim (Finset.mem_image_of_mem _ (Finset.mem_univ c))

/-- What the launch makes for one device alone, and what the device held before. -/
def made (c : Dev nD) : sProp 𝕄 := iprop(atPos ER (barCell c) 0 ∅ 0 ∗ (ops c 0 ∗ ops c 1) ∗ (barTok c ∗ rndTok c))
def brought (c : Dev nD) : sProp 𝕄 :=
  iprop(StableHlo.held (c : Thread nD τ) bufs (V₀ m c) ∗ (cred (tallyAt (barCell c) 0 2) ∗ rndCrd c) ∗ owes (c : Thread nD τ) (O c 0) ∅ ∗ ∃ r, prngReg c r)
def start (c : Dev nD) : sProp 𝕄 := iprop(StableHlo.held (c : Thread nD τ) bufs (V₀ m c) ∗ ride m c)

theorem start_intro (κ : GSem nD τ sig → ℕ) (c : Dev nD) : iprop(records m κ ∗ (made c ∗ brought m c)) ⊢ start m c := by
  unfold records made brought start ride tk barIn barTok ow
  iintro ⟨⟨#HI, #HR⟩, ⟨Ha, Ho, ⟨Tb1, Tb0⟩, Tr⟩, Hh, ⟨Cb, Cr⟩, HO, Hp⟩
  isplitl [Hh]; · iexact Hh
  isplitl [Ha Ho Tb1 Tb0 Tr Cb Cr]
  · iexists κ
    isplitr; · iexact HI
    isplitl [Ha Tb1 Tb0 Cb]
    · isplitl [Ha]; · iexact Ha
      isplitl [Cb]; · iexact Cb
      isplitl [Tb1]; · iexact Tb1
      isplitl [Tb0]; · iexact Tb0
      isplitr; · iapply (reached_at (F := F) (tgt 1 c)); iexact HR
      iapply (reached_at (F := F) (tgt 0 c)); iexact HR
    isplitl [Ho]; · iexact Ho
    isplitl [Tr]; · iexact Tr
    iexact Cr
  isplitl [Hp]; · iexact Hp
  iexists ∅; iexact HO

theorem core_deal (c : Dev nD) :
    iprop(unscopedBufs c (fun b => m ((c : Thread nD τ).loc b)) ∗ unscopedSems0 c
        ∗ owes (c : Thread nD τ) (O c 0) ∅ ∗ Pipeline.launchCred (fun d => O d 0) c ∗ prngReg c (ρ c) ∗ seed c)
      ⊢ (iprop(brought m c ∗ (semVal (barCell c) 0 ∗ seed c)) : sProp 𝕄) := by
  rw [show unscopedBufs c (fun b => m ((c : Thread nD τ).loc b)) = StableHlo.held (c : Thread nD τ) bufs (V₀ m c) from unscopedBufs_held c (V₀ m c),
    unscopedSems0_eq]
  unfold brought
  iintro ⟨Hh, Hus, HO, Hcr, Hp, HG⟩
  ihave Hc := (crds_deal (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem bars_at (Φ : GSem nD τ sig → sProp 𝕄) : bigSep barCells Φ = bigSep Finset.univ fun c : Dev nD => Φ (barCell c) := by
  unfold barCells
  rw [bigSep_image_of_injOn barCell_inj.injOn]

theorem init :
    iprop((bigSep Finset.univ fun c : Dev nD => iprop(unscopedBufs c (fun b => m ((c : Thread nD τ).loc b)) ∗ unscopedSems0 c
          ∗ owes (c : Thread nD τ) (O c 0) ∅ ∗ Pipeline.launchCred (fun d => O d 0) c ∗ prngReg c (ρ c) ∗ seed c)) ∗ levAts L lv)
      ⊢ (|={Set.univ}=> bigSep Finset.univ (start m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (O c 0) ∅ ∗ Pipeline.launchCred (fun d => O d 0) c ∗ prngReg c (ρ c) ∗ seed c))
      ⊢ (iprop(bigSep Finset.univ (brought m) ∗ (bigSep Finset.univ (fun c : Dev nD => semVal (barCell c) 0) ∗ bigSep Finset.univ seed)) : sProp 𝕄) from
    (bigSep_mono fun c _ => core_deal m ρ c).trans (Entails.of_eq (show (bigSep Finset.univ fun c : Dev nD => (iprop(brought m c ∗ (semVal (barCell c) 0 ∗ seed c)) : sProp 𝕄)) = _ from by
      rw [pairUp, pairUp]))) $$ H
  icases H' with ⟨HB, Hv, HG⟩
  ihave Hu := (Entails.of_eq (seed_all (F := F))) $$ HG
  ihave Hv := (Entails.of_eq (bars_at (F := F) fun g => semVal g 0).symm) $$ Hv
  imod (Rounds.fund_launch ER (Rd (inp m)) cells_disjoint (fun g _ h => h) allToks) $$ [Hv Hu] with ⟨%κ, -, #Hinv, #Hr, Hat, Hopen, Htok⟩
  · isplitl [Hv]; · iexact Hv
    iexact Hu
  imodintro
  iapply (bigSep_with_persistent (R := records m κ) (Φ := fun c => iprop(made c ∗ brought m c)) fun c _ => start_intro m κ c)
  isplitr
  · unfold records
    isplitr; · iexact Hinv
    iexact Hr
  iapply (Entails.of_eq (pairUp (made (F := F)) (brought m)))
  isplitr [HB]
  · iapply (Entails.of_eq (show iprop(bigSep Finset.univ (fun c : Dev nD => atPos ER (barCell c) 0 ∅ 0) ∗ bigSep Finset.univ (fun c : Dev nD => iprop(ops c 0 ∗ ops c 1))
        ∗ bigSep Finset.univ (fun c : Dev nD => iprop(barTok c ∗ rndTok c))) = (bigSep Finset.univ (made (F := F)) : sProp 𝕄) from by rw [pairUp, pairUp]; rfl))
    isplitl [Hat]; · iapply (Entails.of_eq (bars_at (F := F) fun g => atPos ER g 0 ∅ 0)) $$ Hat
    isplitl [Hopen]; · iapply (opens_deal (F := F)) $$ Hopen
    iapply (Entails.of_eq (toks_deal (F := F))) $$ Htok
  iexact HB

theorem unscoped_eq : ∀ sm : SemLoc sig, sm.isScoped .tc = false → sm = .reg barSem := by decide +kernel

set_option backward.isDefEq.respectTransparency.types false in
/-- Every run ends with the arguments unchanged, the result as the exchange leaves it, and every semaphore at zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1) ∧ r.2.mem ((c : Thread nD τ).loc main_arg2) = m ((c : Thread nD τ).loc main_arg2))
        ∧ r.2.mem ((c : Thread nD τ).loc main_v2) = outV (inp m) c) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := fun c => O c 0) (hL := L_of_ne) (G := seed) (u₀ := u₀ (F := F))
    (hu₀ := by
      unfold u₀
      iintro Hu
      ihave H := (ownU_pair _ _) $$ Hu
      icases H with ⟨HP, HX⟩
      imodintro
      isplitl [HP]; · iexact HP
      iapply (seed_of (F := F)) $$ HX)
    (T₀ := start m) (Tₙ := fun c => iprop(StableHlo.held (c : Thread nD τ) bufs (W₁ m c) ∗ semVal (barCell c) 0))
    (hch := ⟨fun c => .rfl, fun c => reg_pre m c, fun c => reg_post m c⟩)
    (hinit := init m ρ)
    (QY := fun c s => ((s.mem ((Memref.whole main_arg0).view.loc (c : Thread nD τ)) = W₁ m c (Proc.devRef .tc main_arg0)
        ∧ s.mem ((Memref.whole main_arg1).view.loc (c : Thread nD τ)) = W₁ m c (Proc.devRef .tc main_arg1)
        ∧ s.mem ((Memref.whole main_arg2).view.loc (c : Thread nD τ)) = W₁ m c (Proc.devRef .tc main_arg2))
        ∧ s.mem ((Memref.whole main_v2).view.loc (c : Thread nD τ)) = W₁ m c (Proc.devRef .tc main_v2))
      ∧ s.sem (barCell c) = 0)
    (hfin := fun c s' => by
      dsimp only; rw [held_split, hbs_eq]
      iintro ⟨⟨⟨-, H0, H1, H2, Hv⟩, Hb⟩, HSI⟩
      icombine HSI H0 gives %h0
      icombine HSI H1 gives %h1
      icombine HSI H2 gives %h2
      icombine HSI Hv gives %hv
      icombine HSI Hb gives %hb
      imodintro
      isplitr
      · ipureintro
        exact ⟨⟨⟨Buf.eq_of_forall_mem_univ h0, Buf.eq_of_forall_mem_univ h1, Buf.eq_of_forall_mem_univ h2⟩, Buf.eq_of_forall_mem_univ hv⟩, by simpa using hb⟩
      iexact HSI)
    (hQ := fun s h hs => ⟨fun c => by
        obtain ⟨⟨⟨h0, h1, h2⟩, hv⟩, -⟩ := h c
        exact ⟨⟨h0.trans (W₁_arg0 m c), h1.trans (W₁_arg1 m c), h2.trans (W₁_arg2 m c)⟩, hv.trans (W₁_v2 m c)⟩,
      sem_eq_zero hs fun c sm hsm => by
        obtain rfl := unscoped_eq sm hsm
        exact (h c).2⟩)

end Cert.KernelIdeal.Ring
end
-- ==== Proof.ValueIdeal.lean ====
module

public import proofs.«01_k».proof.Proof.RunIdeal
public import proofs.«01_k».proof.Proof.Gen.ReferenceIdeal.Run
public import Idealize.ShloMosaic.Lib.Pointwise
public import Idealize.ShloMosaic.Lib.Layout

@[expose] public section

set_option maxRecDepth 16384

/-!
# The value over the extended reals

Every element of the exchange's result is the reference's: the four partial sums in whatever order, then one row's scale
as a product with a reciprocal root on one side and a quotient by a root on the other.
-/

noncomputable section

namespace Cert.KernelIdeal.Ring

open Idealize.ShloMosaic Idealize.ShloMosaic.TcCoe
open Cert.KernelIdeal Cert.KernelIdeal.Gen

/-! ## Scalars -/

/-- The row's length, as the programs have it. -/
abbrev len : EReal := Ideal.ofBits .f32 0x45800000#32
/-- The small constant under the root. -/
abbrev eps : EReal := Ideal.ofBits .f32 0x358637BD#32

theorem square_nonneg (y : EReal) : 0 ≤ y * y := by
  induction y with
  | bot => simp
  | top => simp
  | coe r => rw [← EReal.coe_mul]; exact_mod_cast mul_self_nonneg r

theorem len_eq : len = ((4096 : ℝ) : EReal) := by
  unfold len Ideal.ofBits Ideal.ieee
  simp
  rw [← EReal.coe_mul]
  norm_num

theorem eps_pos : ∃ r : ℝ, 0 < r ∧ eps = (r : EReal) := by
  refine ⟨_, ?_, by unfold eps Ideal.ofBits Ideal.ieee; simp; rfl⟩
  norm_num

/-- A product with the reciprocal root of a positive number is the quotient by its root. -/
theorem mul_rsqrt {t : EReal} (ht : 0 < t) (y : EReal) : y * Ideal.rsqrt t = Ideal.div y (Ideal.sqrt t) := by
  induction t with
  | bot => exact absurd ht (by simp)
  | top =>
    show y * 0 = Ideal.div y ⊤
    unfold Ideal.div
    rw [if_neg (by simp), EReal.inv_top]
  | coe r =>
    have hr : 0 < r := by exact_mod_cast ht
    rw [Ideal.rsqrt_coe, Ideal.sqrt_coe, if_neg (not_lt.mpr hr.le), if_neg hr.ne', if_neg (not_lt.mpr hr.le)]
    unfold Ideal.div
    rw [if_neg (by exact_mod_cast (Real.sqrt_pos.mpr hr).ne'), EReal.coe_inv]

theorem mean_pos (f : Fin 4096 → EReal) : 0 < Ideal.div (∑ k, f k * f k) len + eps := by
  obtain ⟨r, hr, he⟩ := eps_pos
  have h0 : 0 ≤ Ideal.div (∑ k, f k * f k) len := by
    rw [len_eq]
    unfold Ideal.div
    rw [if_neg (by norm_num)]
    refine mul_nonneg (Finset.sum_nonneg fun k _ => square_nonneg (f k)) ?_
    rw [← EReal.coe_inv]
    exact_mod_cast (by norm_num : (0 : ℝ) ≤ 4096⁻¹)
  rw [he]
  exact lt_of_lt_of_le (by exact_mod_cast hr : (0 : EReal) < (r : EReal)) (le_add_of_nonneg_left h0)

/-- One element of the result, from its row and its scale. -/
def scaled (f : Fin 4096 → EReal) (g : EReal) (e : Fin 4096) : EReal := f e * Ideal.rsqrt (Ideal.div (∑ k, f k * f k) len + eps) * g

/-! ## Blocks -/

theorem rows_ind {P : Fin 256 → Prop} (h : ∀ (t : ℕ) (ht : t < 2) (a : Fin 128), P (trow t ht a)) (a : Fin 256) : P a := by
  have e : trow (a.val / 128) (half_lt a) ⟨a.val % 128, Nat.mod_lt _ (by decide)⟩ = a := Fin.ext (by show 128 * (a.val / 128) + a.val % 128 = a.val; omega)
  rw [← e]; exact h _ _ _

theorem untile_at {F : FTy → Type} [FloatOps F] (w : (t : ℕ) → t < 2 → Tile F) (t : ℕ) (ht : t < 2) (a : Fin 128) (e : Fin 4096) :
    untile w (ix2 (trow t ht a) e) = w t ht (ix3 (0 : Fin 1) a e) := congrFun (tile_untile w t ht) (ix3 (0 : Fin 1) a e)

theorem pay1_at (A : Vec Ideal S1x1x128x4096 .f32) (B : Vec Ideal S1x128x4096 .f32) (a : Fin 128) (e : Fin 4096) :
    k0_pay1 A B (ix3 (0 : Fin 1) a e) = A (ix4 (0 : Fin 1) (0 : Fin 1) a e) + B (ix3 (0 : Fin 1) a e) := by
  unfold k0_pay1
  pointwise

theorem pay7_at (A B : Vec Ideal S1x128x4096 .f32) (γ : Vec Ideal S1x4096 .f32) (a : Fin 128) (e : Fin 4096) :
    k0_pay7 A B γ (ix3 (0 : Fin 1) a e) = scaled (fun k => A (ix3 (0 : Fin 1) a k) + B (ix3 (0 : Fin 1) a k)) (γ (ix2 (0 : Fin 1) e)) e := by
  unfold k0_pay7 scaled
  pointwise

theorem addB_at (A B : Blk Ideal) (a : Fin 256) (e : Fin 4096) : addB A B (ix2 a e) = A (ix2 a e) + B (ix2 a e) := by
  refine rows_ind (P := fun a => addB A B (ix2 a e) = A (ix2 a e) + B (ix2 a e)) (fun t ht a => ?_) a
  exact (untile_at _ t ht a e).trans (pay1_at _ _ a e)

theorem normB_at (A B : Blk Ideal) (γ : Vec Ideal S1x4096 .f32) (a : Fin 256) (e : Fin 4096) :
    normB A B γ (ix2 a e) = scaled (fun k => A (ix2 a k) + B (ix2 a k)) (γ (ix2 (0 : Fin 1) e)) e := by
  refine rows_ind (P := fun a => normB A B γ (ix2 a e) = scaled (fun k => A (ix2 a k) + B (ix2 a k)) (γ (ix2 (0 : Fin 1) e)) e) (fun t ht a => ?_) a
  exact (untile_at _ t ht a e).trans (pay7_at _ _ γ a e)

/-! ## What a device holds of its arguments -/

section
variable (I : Inp Ideal)

theorem xv_at (r i : Fin 2) (d c : Dev nD) (a : Fin 256) (e : Fin 4096) :
    xv I r i d c (ix2 a e) = I.x c (ix3 (0 : Fin 1) ⟨row r i d + a.val, by have := row_le r i d; omega⟩ e) := by
  have h := congrArg (I.x c) (xBlk_emb r i d a e)
  exact h

theorem rv_at (r i : Fin 2) (d c : Dev nD) (a : Fin 256) (e : Fin 4096) :
    rv I r i d c (ix2 a e) = I.r c (ix2 ⟨row r i d + a.val, by have := row_le r i d; omega⟩ e) := by
  have h := congrArg (I.r c) (rBlk_emb r i d a e)
  exact h

/-- The devices a partial sum passes on its way to the last: its place on the ring and the three before it, once each. -/
theorem ring_sum (X : Fin 4 → EReal) : ∀ (i : Fin 2) (c : Dev nD),
    X ⟨(src i (src i (src i c))).val % 4, Nat.mod_lt _ (by decide)⟩ + X ⟨(src i (src i c)).val % 4, Nat.mod_lt _ (by decide)⟩
      + X ⟨(src i c).val % 4, Nat.mod_lt _ (by decide)⟩ + X ⟨c.val % 4, Nat.mod_lt _ (by decide)⟩ = ∑ k, X k := by
  intro i c
  let s (i : Fin 2) (c : Dev nD) : Fin 4 → Fin 4 := ![⟨(src i (src i (src i c))).val % 4, Nat.mod_lt _ (by decide)⟩, ⟨(src i (src i c)).val % 4, Nat.mod_lt _ (by decide)⟩,
    ⟨(src i c).val % 4, Nat.mod_lt _ (by decide)⟩, ⟨c.val % 4, Nat.mod_lt _ (by decide)⟩]
  have hs : ∀ (i : Fin 2) (c : Dev nD), Function.Injective (s i c) := by decide +kernel
  have h := (Finite.injective_iff_bijective.mp (hs i c)).sum_comp X
  rw [Fin.sum_univ_four] at h
  exact h

/-- The four partial sums that meet on a ring, whichever way they go round. -/
theorem acc_at (r i : Fin 2) (c : Dev nD) (a : Fin 256) (e n : Fin 4096) (hn : n.val = row r i (tgt i c) + a.val) (X : Fin 4 → EReal)
    (hX : ∀ d : Dev nD, d.val / 4 = c.val / 4 → I.x d (ix3 (0 : Fin 1) n e) = X ⟨d.val % 4, Nat.mod_lt _ (by decide)⟩) :
    acc I r i 3 c (ix2 a e) = ∑ k, X k := by
  have hq : ∀ (i : Fin 2) (c : Dev nD), (src i c).val / 4 = c.val / 4 := by decide +kernel
  have hx : ∀ d : Dev nD, d.val / 4 = c.val / 4 → xv I r i (src i (src i (src i c))) d (ix2 a e) = X ⟨d.val % 4, Nat.mod_lt _ (by decide)⟩ := by
    intro d hd
    rw [tgt_eq_src3, xv_at, ← hX d hd]
    exact congrArg (fun k => I.x d (ix3 (0 : Fin 1) k e)) (Fin.ext hn.symm)
  show addB (addB (addB (xv I r i (src i (src i (src i c))) (src i (src i (src i c)))) (xv I r i (src i (src i (src i c))) (src i (src i c))))
    (xv I r i (src i (src i (src i c))) (src i c))) (xv I r i (src i (src i (src i c))) c) (ix2 a e) = _
  rw [addB_at, addB_at, addB_at, hx _ ((hq i _).trans ((hq i _).trans (hq i c))), hx _ ((hq i _).trans (hq i c)), hx _ (hq i c), hx c rfl]
  exact ring_sum X i c

/-- One element of a device's result. -/
theorem outV_value (c : Dev nD) (n e : Fin 4096) (X : Fin 4096 → Fin 4 → EReal) (R : Fin 4096 → EReal) (γ : EReal)
    (hX : ∀ (d : Dev nD) (k : Fin 4096), d.val / 4 = c.val / 4 → I.x d (ix3 (0 : Fin 1) n k) = X k ⟨d.val % 4, Nat.mod_lt _ (by decide)⟩)
    (hR : ∀ (d : Dev nD) (k : Fin 4096), I.r d (ix2 n k) = R k)
    (hγ : ∀ d : Dev nD, I.g d (ix2 (0 : Fin 1) e) = γ) :
    outV I c (ix2 n e) = scaled (fun k => (∑ j, X k j) + R k) γ e := by
  have hn := n.isLt
  have hc : c.val < 32 := c.isLt
  let d : Dev nD := ⟨4 * (c.val / 4) + n.val % 2048 / 512, by show _ < 32; omega⟩
  have hd : d.val / 4 = c.val / 4 := by show (4 * (c.val / 4) + n.val % 2048 / 512) / 4 = _; omega
  have hm : d.val % 4 = n.val % 2048 / 512 := by show (4 * (c.val / 4) + n.val % 2048 / 512) % 4 = _; omega
  have hs := row_sur n.isLt d hm
  generalize (⟨n.val / 2048, _⟩ : Fin 2) = r at hs
  generalize (⟨n.val % 512 / 256, _⟩ : Fin 2) = i at hs
  let a : Fin 256 := ⟨n.val - row r i d, by omega⟩
  have ha : n.val = row r i d + a.val := by show n.val = row r i d + (n.val - row r i d); omega
  have hq : (src i d).val / 4 = c.val / 4 := by
    have h : ∀ (i : Fin 2) (d : Dev nD), (src i d).val / 4 = d.val / 4 := by decide +kernel
    exact (h i d).trans hd
  refine (outV_at I hd r i a e n ha).trans ?_
  show normB (acc I r i 3 (src i d)) (rv I r i (tgt i (src i d)) (src i d)) (I.g (src i d)) (ix2 a e) = _
  rw [normB_at, hγ]
  refine congrArg (fun f => scaled f γ e) (funext fun k => ?_)
  have h1 := acc_at I r i (src i d) a k n (by rw [tgt_src]; exact ha) (X k) (fun d' hd' => hX d' k (hd'.trans hq))
  have h2 : rv I r i (tgt i (src i d)) (src i d) (ix2 a k) = R k := by
    rw [rv_at, ← hR (src i d) k]
    exact congrArg (fun j => I.r (src i d) (ix2 j k)) (Fin.ext (by show row r i (tgt i (src i d)) + a.val = n.val; rw [tgt_src]; exact ha.symm))
  rw [h1, h2]

end

theorem scale_at (w : Vec Ideal S4096 .f32) (e : Fin 4096) :
    shapeCast S1x4096 w shapeCasts_S4096_S1x4096 (ix2 (0 : Fin 1) e) = w (ix1 e) := by
  pointwise

/-- The scale's row, as the launch finds it. -/
theorem g_at (m : (ℓ : Loc nD τ sig) → Buf (Elt Ideal) ℓ) (c : Dev nD) (e : Fin 4096) :
    (inp m).g c (ix2 (0 : Fin 1) e) = m ((c : Thread nD τ).loc main_arg2) (ix1 e) := by
  have hV : V m c main_v1 = shapeCast S1x4096 (m ((c : Thread nD τ).loc main_arg2)) shapeCasts_S4096_S1x4096 := by
    show StableHlo.after hostOps0 _ _ = _
    after_results
    rfl
  have hz : (fun a => (win0_0.index t0_0) a * main_v1.ty.shape.size a) = fun _ => 0 := funext fun a => by fin_cases a <;> decide
  have hr := Memref.read_access_unit_zero (Elt Ideal) main_v1 hz (fun a => by fin_cases a <;> decide) (V m c main_v1)
  have hg : (inp m).g c = V m c main_v1 := hr
  rw [hg, hV]
  exact scale_at _ e

end Cert.KernelIdeal.Ring

namespace Cert.ReferenceIdeal.Value

open Idealize.ShloMosaic Idealize.ShloMosaic.TcCoe
open Cert.ReferenceIdeal Cert.ReferenceIdeal.Gen

/-- The reference's rows before they are scaled. -/
abbrev sumOf (X : FVec Ideal S4x4096x4096 .f32) (R : FVec Ideal S4096x4096 .f32) : FVec Ideal S4096x4096 .f32 :=
  addf (Host.reduceAdd X (constant S_ .f32 0x00000000#32) reducesTo_S4x4096x4096_S4096x4096_d0 h_S_) R

/-- Its result, from those. -/
abbrev scaleOf (Y : FVec Ideal S4096x4096 .f32) (γ : FVec Ideal S4096 .f32) : FVec Ideal S4096x4096 .f32 :=
  mulf (Host.divf Y (broadcastInDim S4096x4096 ![0, 1] bcast_S4096x1_S4096x4096_0_1 (Host.sqrt (addf (Host.divf
    (broadcastInDim S4096x1 ![0] bcast_S4096_S4096x1_0 (Host.reduceAdd (mulf Y Y) (constant S_ .f32 0x00000000#32) reducesTo_S4096x4096_S4096_d1 h_S_))
    (broadcastInDim S4096x1 ![] bcast_S_S4096x1 (constant S_ .f32 0x45800000#32))) (broadcastInDim S4096x1 ![] bcast_S_S4096x1 (constant S_ .f32 0x358637BD#32))))))
    (broadcastInDim S4096x4096 ![0, 1] bcast_S1x4096_S4096x4096_0_1 (broadcastInDim S1x4096 ![1] bcast_S4096_S1x4096_1 γ))

theorem sumOf_at (X : FVec Ideal S4x4096x4096 .f32) (R : FVec Ideal S4096x4096 .f32) (n e : Fin 4096) :
    sumOf X R (ix2 n e) = (∑ k, X (ix3 k n e)) + R (ix2 n e) := by
  unfold sumOf
  pointwise

theorem scaleOf_at (Y : FVec Ideal S4096x4096 .f32) (γ : FVec Ideal S4096 .f32) (n e : Fin 4096) :
    scaleOf Y γ (ix2 n e) = Cert.KernelIdeal.Ring.scaled (fun k => Y (ix2 n k)) (γ (ix1 e)) e := by
  unfold Cert.KernelIdeal.Ring.scaled
  rw [Cert.KernelIdeal.Ring.mul_rsqrt (Cert.KernelIdeal.Ring.mean_pos _)]
  unfold scaleOf
  pointwise

end Cert.ReferenceIdeal.Value

namespace Cert.KernelIdeal.Ring

open Idealize.ShloMosaic Idealize.ShloMosaic.TcCoe
open Cert.KernelIdeal Cert.KernelIdeal.Gen

/-- A device's partial is its block of the whole, at the device's place on its ring. -/
theorem block_at (X : FVec Ideal ⟨3, ![4, 4096, 4096]⟩ .f32) (d : Dev nD) (n e : Fin 4096) :
    (Layout.blockN ⟨3, ![1, 4096, 4096]⟩ ⟨3, ![4, 4096, 4096]⟩ (Layout.meshBlock [2, 4, 4] ![[2], [], []] d) X) (ix3 (0 : Fin 1) n e)
      = X (ix3 (⟨d.val % 4, Nat.mod_lt _ (by decide)⟩ : Fin 4) n e) := by
  rw [Layout.blockN_apply]
  have hd : ∀ d : Dev nD, Layout.meshLin [2, 4, 4] d.val [2] = d.val % 4 := by decide +kernel
  refine congrArg X (funext fun b => Fin.ext ?_)
  fin_cases b
  · refine (Layout.TilesN.idx_val _ _ _ _).trans ?_
    show Layout.meshLin [2, 4, 4] d.val [2] * 1 + 0 = d.val % 4
    rw [hd]; omega
  · refine (Layout.TilesN.idx_val _ _ _ _).trans ?_
    show 0 * 4096 + n.val = n.val
    omega
  · refine (Layout.TilesN.idx_val _ _ _ _).trans ?_
    show 0 * 4096 + e.val = e.val
    omega

/-- A device's result is the reference's. -/
theorem outV_eq (m : (ℓ : Loc nD τ sig) → Buf (Elt Ideal) ℓ) (X : FVec Ideal ⟨3, ![4, 4096, 4096]⟩ .f32) (R : FVec Ideal S4096x4096 .f32) (γ : FVec Ideal S4096 .f32)
    (hX : ∀ d : Dev nD, m ((d : Thread nD τ).loc main_arg0) = Layout.blockN ⟨3, ![1, 4096, 4096]⟩ ⟨3, ![4, 4096, 4096]⟩ (Layout.meshBlock [2, 4, 4] ![[2], [], []] d) X)
    (hR : ∀ d : Dev nD, m ((d : Thread nD τ).loc main_arg1) = R) (hγ : ∀ d : Dev nD, m ((d : Thread nD τ).loc main_arg2) = γ) (c : Dev nD) :
    outV (inp m) c = Cert.ReferenceIdeal.Value.scaleOf (Cert.ReferenceIdeal.Value.sumOf X R) γ := by
  have key : ∀ n e : Fin 4096, outV (inp m) c (ix2 n e) = Cert.ReferenceIdeal.Value.scaleOf (Cert.ReferenceIdeal.Value.sumOf X R) γ (ix2 n e) := by
    intro n e
    rw [Cert.ReferenceIdeal.Value.scaleOf_at]
    simp only [Cert.ReferenceIdeal.Value.sumOf_at]
    refine outV_value (inp m) c n e (fun k j => X (ix3 j n k)) (fun k => R (ix2 n k)) _ (fun d k _ => ?_) (fun d k => congrFun (hR d) _) (fun d => (g_at m d e).trans (congrFun (hγ d) _))
    exact (congrFun (hX d) _).trans (block_at X d n k)
  funext j
  have hj : j = ix2 (j 0) (j 1) := funext fun b => by fin_cases b <;> rfl
  rw [hj]
  exact key (j 0) (j 1)

end Cert.KernelIdeal.Ring
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.RunIdeal
public import proofs.«01_k».proof.Proof.ValueIdeal
public import Idealize.ShloMosaic.Adequacy
public import Idealize.ShloMosaic.Init

@[expose] public section

noncomputable section

namespace Cert.Proof

open Idealize.ShloMosaic Idealize.SL.Sem Cert.Kernel

/-- The kernel's frame: what every run ends in, read at the arguments and the counters. -/
theorem frame_kernel : Cert.quiescent_Kernel := fun m ρ _ =>
  (θ_run _ _ _).mono (fun _ h => ⟨fun c => (h.1 c).1, h.2⟩) (Cert.Kernel.Ring.run_main (F := Bits) m ρ)

/-- The same of the kernel over the extended reals. -/
theorem frame_ideal : Cert.quiescent_KernelIdeal := fun m ρ _ =>
  (θ_run _ _ _).mono (fun _ h => ⟨fun c => (h.1 c).1, h.2⟩) (Cert.KernelIdeal.Ring.run_main (F := Ideal) m ρ)

/-- The reference's frame; it declares no semaphore. -/
theorem frame_reference : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

/-- Every device's result is the reference's. -/
theorem algebraic : Cert.algebraic_KernelIdeal_ReferenceIdeal := fun m ρ m' ρ' _ h =>
  ⟨_, (θ_run _ _ _).mono (fun _ H c => ⟨(H.1 c).2.trans (Cert.KernelIdeal.Ring.outV_eq m _ _ _ (fun d => (h d).1) (fun d => (h d).2.1) (fun d => (h d).2.2) c),
      (H.1 c).1.1, (H.1 c).1.2.1, (H.1 c).1.2.2⟩) (Cert.KernelIdeal.Ring.run_main (F := Ideal) m ρ),
    (θ_run _ _ _).mono (fun _ H => H 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
